-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048x14336 : Shape := ⟨3, ![8, 2048, 14336]⟩
abbrev S_ : Shape := ⟨0, ![]⟩
abbrev S8x2048x4096 : Shape := ⟨3, ![8, 2048, 4096]⟩
abbrev S14336x4096 : Shape := ⟨2, ![14336, 4096]⟩
abbrev S1 : Shape := ⟨1, ![1]⟩
abbrev S2 : Shape := ⟨1, ![2]⟩
abbrev S16384x14336 : Shape := ⟨2, ![16384, 14336]⟩
abbrev S16384x4096 : Shape := ⟨2, ![16384, 4096]⟩
abbrev S1x1 : Shape := ⟨2, ![1, 1]⟩
abbrev S128x14336 : Shape := ⟨2, ![128, 14336]⟩
abbrev S14336x512 : Shape := ⟨2, ![14336, 512]⟩
abbrev S1024x512 : Shape := ⟨2, ![1024, 512]⟩
abbrev S2x1024x14336 : Shape := ⟨3, ![2, 1024, 14336]⟩
abbrev S8x128 : Shape := ⟨2, ![8, 128]⟩
abbrev S32x512 : Shape := ⟨2, ![32, 512]⟩
abbrev S1x32x512 : Shape := ⟨3, ![1, 32, 512]⟩
abbrev S1x1024x14336 : Shape := ⟨3, ![1, 1024, 14336]⟩
abbrev S1024x14336 : Shape := ⟨2, ![1024, 14336]⟩
abbrev S1x8x128 : Shape := ⟨3, ![1, 8, 128]⟩
abbrev S1x1x1 : Shape := ⟨3, ![1, 1, 1]⟩
abbrev S2048x896 : Shape := ⟨2, ![2048, 896]⟩
abbrev S16384x512 : Shape := ⟨2, ![16384, 512]⟩
abbrev S896x512 : Shape := ⟨2, ![896, 512]⟩
abbrev S2x896x16384 : Shape := ⟨3, ![2, 896, 16384]⟩
abbrev S896x2048 : Shape := ⟨2, ![896, 2048]⟩
abbrev S1x896x2048 : Shape := ⟨3, ![1, 896, 2048]⟩
abbrev S1x896x16384 : Shape := ⟨3, ![1, 896, 16384]⟩
abbrev S896x16384 : Shape := ⟨2, ![896, 16384]⟩

abbrev nBuf : Space → Nat
  | .hbm => 21
  | .vmem => 20
  | .smem => 2
  | _ => 0

abbrev bufTy : (tb : Table) → Fin (tcTables nBuf tb) → BufTy
  | .hbm, ⟨0, _⟩ => ⟨S8x2048x14336, .bf16⟩
  | .hbm, ⟨1, _⟩ => ⟨S_, .f32⟩
  | .hbm, ⟨2, _⟩ => ⟨S8x2048x4096, .fp8e4m3⟩
  | .hbm, ⟨3, _⟩ => ⟨S_, .f32⟩
  | .hbm, ⟨4, _⟩ => ⟨S14336x4096, .fp8e4m3⟩
  | .hbm, ⟨5, _⟩ => ⟨S_, .f32⟩
  | .hbm, ⟨6, _⟩ => ⟨S14336x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1, .f32⟩
  | .hbm, ⟨11, _⟩ => ⟨S1, .f32⟩
  | .hbm, ⟨12, _⟩ => ⟨S2, .f32⟩
  | .hbm, ⟨13, _⟩ => ⟨S16384x14336, .bf16⟩
  | .hbm, ⟨14, _⟩ => ⟨S16384x4096, .bf16⟩
  | .hbm, ⟨15, _⟩ => ⟨S16384x14336, .fp8e5m2⟩
  | .hbm, ⟨16, _⟩ => ⟨S1x1, .f32⟩
  | .hbm, ⟨17, _⟩ => ⟨S_, .f32⟩
  | .hbm, ⟨18, _⟩ => ⟨S1, .f32⟩
  | .hbm, ⟨19, _⟩ => ⟨S16384x4096, .fp8e4m3⟩
  | .hbm, ⟨20, _⟩ => ⟨S14336x4096, .f32⟩
  | .local _ .vmem, ⟨0, _⟩ => ⟨S128x14336, .bf16⟩
  | .local _ .vmem, ⟨1, _⟩ => ⟨S128x14336, .bf16⟩
  | .local _ .vmem, ⟨2, _⟩ => ⟨S14336x512, .fp8e4m3⟩
  | .local _ .vmem, ⟨3, _⟩ => ⟨S14336x512, .fp8e4m3⟩
  | .local _ .vmem, ⟨4, _⟩ => ⟨S1024x512, .bf16⟩
  | .local _ .vmem, ⟨5, _⟩ => ⟨S1024x512, .bf16⟩
  | .local _ .vmem, ⟨6, _⟩ => ⟨S128x14336, .fp8e5m2⟩
  | .local _ .vmem, ⟨7, _⟩ => ⟨S128x14336, .fp8e5m2⟩
  | .local _ .vmem, ⟨8, _⟩ => ⟨S1x1, .f32⟩
  | .local _ .vmem, ⟨9, _⟩ => ⟨S2x1024x14336, .fp8e5m2⟩
  | .local _ .vmem, ⟨10, _⟩ => ⟨S8x128, .f32⟩
  | .local _ .vmem, ⟨11, _⟩ => ⟨S2048x896, .fp8e5m2⟩
  | .local _ .vmem, ⟨12, _⟩ => ⟨S2048x896, .fp8e5m2⟩
  | .local _ .vmem, ⟨13, _⟩ => ⟨S16384x512, .fp8e4m3⟩
  | .local _ .vmem, ⟨14, _⟩ => ⟨S16384x512, .fp8e4m3⟩
  | .local _ .vmem, ⟨15, _⟩ => ⟨S896x512, .f32⟩
  | .local _ .vmem, ⟨16, _⟩ => ⟨S896x512, .f32⟩
  | .local _ .vmem, ⟨17, _⟩ => ⟨S896x512, .f32⟩
  | .local _ .vmem, ⟨18, _⟩ => ⟨S896x512, .f32⟩
  | .local _ .vmem, ⟨19, _⟩ => ⟨S2x896x16384, .fp8e5m2⟩
  | .local _ .smem, ⟨0, _⟩ => ⟨S2, .f32⟩
  | .local _ .smem, ⟨1, _⟩ => ⟨S1, .f32⟩
  | _, _ => ⟨S8x2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_stg0_0 : Ref sig .tc := ⟨.smem, 0, rfl⟩
abbrev cc1_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![17, 8], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) (c0_i32_18 : BitVec 32) : Fin 3 → Nat :=
  let arg0 : BitVec 32 := BitVec.ofNat 32 (i 0).val
  let c2_i32 : BitVec 32 := 2#32
  let c0_i32_14 : BitVec 32 := 0#32
  let v30 : BitVec 1 := Scalar.cmpi .eq c2_i32 c0_i32_14
  let c1_i32 : BitVec 32 := 1#32
  let v31 : BitVec 32 := Scalar.select v30 c1_i32 c2_i32
  let v32 : BitVec 32 := Scalar.remsi arg0 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let v42 : Index := Scalar.indexCast v39
  let arg1 : BitVec 32 := BitVec.ofNat 32 (i 1).val
  let c128_i32 : BitVec 32 := 128#32
  let v40 : BitVec 32 := Scalar.muli arg1 c128_i32
  let v41 : BitVec 32 := Scalar.addi v40 c0_i32_18
  let v43 : Index := Scalar.indexCast v41
  let c0_19 : Index := 0#32
  ![v42.toNat, v43.toNat, 0]
def k0_off2 (i : grid0.Coords) (c0_i32_33 : BitVec 32) : Fin 3 → Nat :=
  let arg0 : BitVec 32 := BitVec.ofNat 32 (i 0).val
  let c2_i32_26 : BitVec 32 := 2#32
  let c0_i32_27 : BitVec 32 := 0#32
  let v92 : BitVec 1 := Scalar.cmpi .eq c2_i32_26 c0_i32_27
  let c1_i32_28 : BitVec 32 := 1#32
  let v93 : BitVec 32 := Scalar.select v92 c1_i32_28 c2_i32_26
  let v94 : BitVec 32 := Scalar.remsi arg0 v93
  let c0_i32_30 : BitVec 32 := 0#32
  let v96 : BitVec 1 := Scalar.cmpi .slt v94 c0_i32_30
  let c0_i32_31 : BitVec 32 := 0#32
  let v97 : BitVec 1 := Scalar.cmpi .slt v93 c0_i32_31
  let v98 : BitVec 1 := Scalar.xori v96 v97
  let c0_i32_29 : BitVec 32 := 0#32
  let v95 : BitVec 1 := Scalar.cmpi .ne v94 c0_i32_29
  let v99 : BitVec 1 := Scalar.andi v98 v95
  let v100 : BitVec 32 := Scalar.addi v94 v93
  let v101 : BitVec 32 := Scalar.select v99 v100 v94
  let v104 : Index := Scalar.indexCast v101
  let arg1 : BitVec 32 := BitVec.ofNat 32 (i 1).val
  let c128_i32_32 : BitVec 32 := 128#32
  let v102 : BitVec 32 := Scalar.muli arg1 c128_i32_32
  let v103 : BitVec 32 := Scalar.addi v102 c0_i32_33
  let v105 : Index := Scalar.indexCast v103
  let c512_34 : Index := 512#32
  ![v104.toNat, v105.toNat, 512]
def k0_off3 (i : grid0.Coords) (c0_i32_48 : BitVec 32) : Fin 3 → Nat :=
  let arg0 : BitVec 32 := BitVec.ofNat 32 (i 0).val
  let c2_i32_41 : BitVec 32 := 2#32
  let c0_i32_42 : BitVec 32 := 0#32
  let v154 : BitVec 1 := Scalar.cmpi .eq c2_i32_41 c0_i32_42
  let c1_i32_43 : BitVec 32 := 1#32
  let v155 : BitVec 32 := Scalar.select v154 c1_i32_43 c2_i32_41
  let v156 : BitVec 32 := Scalar.remsi arg0 v155
  let c0_i32_45 : BitVec 32 := 0#32
  let v158 : BitVec 1 := Scalar.cmpi .slt v156 c0_i32_45
  let c0_i32_46 : BitVec 32 := 0#32
  let v159 : BitVec 1 := Scalar.cmpi .slt v155 c0_i32_46
  let v160 : BitVec 1 := Scalar.xori v158 v159
  let c0_i32_44 : BitVec 32 := 0#32
  let v157 : BitVec 1 := Scalar.cmpi .ne v156 c0_i32_44
  let v161 : BitVec 1 := Scalar.andi v160 v157
  let v162 : BitVec 32 := Scalar.addi v156 v155
  let v163 : BitVec 32 := Scalar.select v161 v162 v156
  let v166 : Index := Scalar.indexCast v163
  let arg1 : BitVec 32 := BitVec.ofNat 32 (i 1).val
  let c128_i32_47 : BitVec 32 := 128#32
  let v164 : BitVec 32 := Scalar.muli arg1 c128_i32_47
  let v165 : BitVec 32 := Scalar.addi v164 c0_i32_48
  let v167 : Index := Scalar.indexCast v165
  let c1024_49 : Index := 1024#32
  ![v166.toNat, v167.toNat, 1024]
def k0_off4 (i : grid0.Coords) (c0_i32_63 : BitVec 32) : Fin 3 → Nat :=
  let arg0 : BitVec 32 := BitVec.ofNat 32 (i 0).val
  let c2_i32_56 : BitVec 32 := 2#32
  let c0_i32_57 : BitVec 32 := 0#32
  let v216 : BitVec 1 := Scalar.cmpi .eq c2_i32_56 c0_i32_57
  let c1_i32_58 : BitVec 32 := 1#32
  let v217 : BitVec 32 := Scalar.select v216 c1_i32_58 c2_i32_56
  let v218 : BitVec 32 := Scalar.remsi arg0 v217
  let c0_i32_60 : BitVec 32 := 0#32
  let v220 : BitVec 1 := Scalar.cmpi .slt v218 c0_i32_60
  let c0_i32_61 : BitVec 32 := 0#32
  let v221 : BitVec 1 := Scalar.cmpi .slt v217 c0_i32_61
  let v222 : BitVec 1 := Scalar.xori v220 v221
  let c0_i32_59 : BitVec 32 := 0#32
  let v219 : BitVec 1 := Scalar.cmpi .ne v218 c0_i32_59
  let v223 : BitVec 1 := Scalar.andi v222 v219
  let v224 : BitVec 32 := Scalar.addi v218 v217
  let v225 : BitVec 32 := Scalar.select v223 v224 v218
  let v228 : Index := Scalar.indexCast v225
  let arg1 : BitVec 32 := BitVec.ofNat 32 (i 1).val
  let c128_i32_62 : BitVec 32 := 128#32
  let v226 : BitVec 32 := Scalar.muli arg1 c128_i32_62
  let v227 : BitVec 32 := Scalar.addi v226 c0_i32_63
  let v229 : Index := Scalar.indexCast v227
  let c1536_64 : Index := 1536#32
  ![v228.toNat, v229.toNat, 1536]
def k0_off5 (i : grid0.Coords) (c0_i32_78 : BitVec 32) : Fin 3 → Nat :=
  let arg0 : BitVec 32 := BitVec.ofNat 32 (i 0).val
  let c2_i32_71 : BitVec 32 := 2#32
  let c0_i32_72 : BitVec 32 := 0#32
  let v278 : BitVec 1 := Scalar.cmpi .eq c2_i32_71 c0_i32_72
  let c1_i32_73 : BitVec 32 := 1#32
  let v279 : BitVec 32 := Scalar.select v278 c1_i32_73 c2_i32_71
  let v280 : BitVec 32 := Scalar.remsi arg0 v279
  let c0_i32_75 : BitVec 32 := 0#32
  let v282 : BitVec 1 := Scalar.cmpi .slt v280 c0_i32_75
  let c0_i32_76 : BitVec 32 := 0#32
  let v283 : BitVec 1 := Scalar.cmpi .slt v279 c0_i32_76
  let v284 : BitVec 1 := Scalar.xori v282 v283
  let c0_i32_74 : BitVec 32 := 0#32
  let v281 : BitVec 1 := Scalar.cmpi .ne v280 c0_i32_74
  let v285 : BitVec 1 := Scalar.andi v284 v281
  let v286 : BitVec 32 := Scalar.addi v280 v279
  let v287 : BitVec 32 := Scalar.select v285 v286 v280
  let v290 : Index := Scalar.indexCast v287
  let arg1 : BitVec 32 := BitVec.ofNat 32 (i 1).val
  let c128_i32_77 : BitVec 32 := 128#32
  let v288 : BitVec 32 := Scalar.muli arg1 c128_i32_77
  let v289 : BitVec 32 := Scalar.addi v288 c0_i32_78
  let v291 : Index := Scalar.indexCast v289
  let c2048_79 : Index := 2048#32
  ![v290.toNat, v291.toNat, 2048]
def k0_off6 (i : grid0.Coords) (c0_i32_93 : BitVec 32) : Fin 3 → Nat :=
  let arg0 : BitVec 32 := BitVec.ofNat 32 (i 0).val
  let c2_i32_86 : BitVec 32 := 2#32
  let c0_i32_87 : BitVec 32 := 0#32
  let v340 : BitVec 1 := Scalar.cmpi .eq c2_i32_86 c0_i32_87
  let c1_i32_88 : BitVec 32 := 1#32
  let v341 : BitVec 32 := Scalar.select v340 c1_i32_88 c2_i32_86
  let v342 : BitVec 32 := Scalar.remsi arg0 v341
  let c0_i32_90 : BitVec 32 := 0#32
  let v344 : BitVec 1 := Scalar.cmpi .slt v342 c0_i32_90
  let c0_i32_91 : BitVec 32 := 0#32
  let v345 : BitVec 1 := Scalar.cmpi .slt v341 c0_i32_91
  let v346 : BitVec 1 := Scalar.xori v344 v345
  let c0_i32_89 : BitVec 32 := 0#32
  let v343 : BitVec 1 := Scalar.cmpi .ne v342 c0_i32_89
  let v347 : BitVec 1 := Scalar.andi v346 v343
  let v348 : BitVec 32 := Scalar.addi v342 v341
  let v349 : BitVec 32 := Scalar.select v347 v348 v342
  let v352 : Index := Scalar.indexCast v349
  let arg1 : BitVec 32 := BitVec.ofNat 32 (i 1).val
  let c128_i32_92 : BitVec 32 := 128#32
  let v350 : BitVec 32 := Scalar.muli arg1 c128_i32_92
  let v351 : BitVec 32 := Scalar.addi v350 c0_i32_93
  let v353 : Index := Scalar.indexCast v351
  let c2560_94 : Index := 2560#32
  ![v352.toNat, v353.toNat, 2560]
def k0_off7 (i : grid0.Coords) (c0_i32_108 : BitVec 32) : Fin 3 → Nat :=
  let arg0 : BitVec 32 := BitVec.ofNat 32 (i 0).val
  let c2_i32_101 : BitVec 32 := 2#32
  let c0_i32_102 : BitVec 32 := 0#32
  let v402 : BitVec 1 := Scalar.cmpi .eq c2_i32_101 c0_i32_102
  let c1_i32_103 : BitVec 32 := 1#32
  let v403 : BitVec 32 := Scalar.select v402 c1_i32_103 c2_i32_101
  let v404 : BitVec 32 := Scalar.remsi arg0 v403
  let c0_i32_105 : BitVec 32 := 0#32
  let v406 : BitVec 1 := Scalar.cmpi .slt v404 c0_i32_105
  let c0_i32_106 : BitVec 32 := 0#32
  let v407 : BitVec 1 := Scalar.cmpi .slt v403 c0_i32_106
  let v408 : BitVec 1 := Scalar.xori v406 v407
  let c0_i32_104 : BitVec 32 := 0#32
  let v405 : BitVec 1 := Scalar.cmpi .ne v404 c0_i32_104
  let v409 : BitVec 1 := Scalar.andi v408 v405
  let v410 : BitVec 32 := Scalar.addi v404 v403
  let v411 : BitVec 32 := Scalar.select v409 v410 v404
  let v414 : Index := Scalar.indexCast v411
  let arg1 : BitVec 32 := BitVec.ofNat 32 (i 1).val
  let c128_i32_107 : BitVec 32 := 128#32
  let v412 : BitVec 32 := Scalar.muli arg1 c128_i32_107
  let v413 : BitVec 32 := Scalar.addi v412 c0_i32_108
  let v415 : Index := Scalar.indexCast v413
  let c3072_109 : Index := 3072#32
  ![v414.toNat, v415.toNat, 3072]
def k0_off8 (i : grid0.Coords) (c0_i32_123 : BitVec 32) : Fin 3 → Nat :=
  let arg0 : BitVec 32 := BitVec.ofNat 32 (i 0).val
  let c2_i32_116 : BitVec 32 := 2#32
  let c0_i32_117 : BitVec 32 := 0#32
  let v464 : BitVec 1 := Scalar.cmpi .eq c2_i32_116 c0_i32_117
  let c1_i32_118 : BitVec 32 := 1#32
  let v465 : BitVec 32 := Scalar.select v464 c1_i32_118 c2_i32_116
  let v466 : BitVec 32 := Scalar.remsi arg0 v465
  let c0_i32_120 : BitVec 32 := 0#32
  let v468 : BitVec 1 := Scalar.cmpi .slt v466 c0_i32_120
  let c0_i32_121 : BitVec 32 := 0#32
  let v469 : BitVec 1 := Scalar.cmpi .slt v465 c0_i32_121
  let v470 : BitVec 1 := Scalar.xori v468 v469
  let c0_i32_119 : BitVec 32 := 0#32
  let v467 : BitVec 1 := Scalar.cmpi .ne v466 c0_i32_119
  let v471 : BitVec 1 := Scalar.andi v470 v467
  let v472 : BitVec 32 := Scalar.addi v466 v465
  let v473 : BitVec 32 := Scalar.select v471 v472 v466
  let v476 : Index := Scalar.indexCast v473
  let arg1 : BitVec 32 := BitVec.ofNat 32 (i 1).val
  let c128_i32_122 : BitVec 32 := 128#32
  let v474 : BitVec 32 := Scalar.muli arg1 c128_i32_122
  let v475 : BitVec 32 := Scalar.addi v474 c0_i32_123
  let v477 : Index := Scalar.indexCast v475
  let c3584_124 : Index := 3584#32
  ![v476.toNat, v477.toNat, 3584]
def k0_off9 (i : grid0.Coords) (c0_i32_138 : BitVec 32) : Fin 3 → Nat :=
  let arg0 : BitVec 32 := BitVec.ofNat 32 (i 0).val
  let c2_i32_131 : BitVec 32 := 2#32
  let c0_i32_132 : BitVec 32 := 0#32
  let v526 : BitVec 1 := Scalar.cmpi .eq c2_i32_131 c0_i32_132
  let c1_i32_133 : BitVec 32 := 1#32
  let v527 : BitVec 32 := Scalar.select v526 c1_i32_133 c2_i32_131
  let v528 : BitVec 32 := Scalar.remsi arg0 v527
  let c0_i32_135 : BitVec 32 := 0#32
  let v530 : BitVec 1 := Scalar.cmpi .slt v528 c0_i32_135
  let c0_i32_136 : BitVec 32 := 0#32
  let v531 : BitVec 1 := Scalar.cmpi .slt v527 c0_i32_136
  let v532 : BitVec 1 := Scalar.xori v530 v531
  let c0_i32_134 : BitVec 32 := 0#32
  let v529 : BitVec 1 := Scalar.cmpi .ne v528 c0_i32_134
  let v533 : BitVec 1 := Scalar.andi v532 v529
  let v534 : BitVec 32 := Scalar.addi v528 v527
  let v535 : BitVec 32 := Scalar.select v533 v534 v528
  let v538 : Index := Scalar.indexCast v535
  let arg1 : BitVec 32 := BitVec.ofNat 32 (i 1).val
  let c128_i32_137 : BitVec 32 := 128#32
  let v536 : BitVec 32 := Scalar.muli arg1 c128_i32_137
  let v537 : BitVec 32 := Scalar.addi v536 c0_i32_138
  let v539 : Index := Scalar.indexCast v537
  let c4096_139 : Index := 4096#32
  ![v538.toNat, v539.toNat, 4096]
def k0_off10 (i : grid0.Coords) (c0_i32_153 : BitVec 32) : Fin 3 → Nat :=
  let arg0 : BitVec 32 := BitVec.ofNat 32 (i 0).val
  let c2_i32_146 : BitVec 32 := 2#32
  let c0_i32_147 : BitVec 32 := 0#32
  let v588 : BitVec 1 := Scalar.cmpi .eq c2_i32_146 c0_i32_147
  let c1_i32_148 : BitVec 32 := 1#32
  let v589 : BitVec 32 := Scalar.select v588 c1_i32_148 c2_i32_146
  let v590 : BitVec 32 := Scalar.remsi arg0 v589
  let c0_i32_150 : BitVec 32 := 0#32
  let v592 : BitVec 1 := Scalar.cmpi .slt v590 c0_i32_150
  let c0_i32_151 : BitVec 32 := 0#32
  let v593 : BitVec 1 := Scalar.cmpi .slt v589 c0_i32_151
  let v594 : BitVec 1 := Scalar.xori v592 v593
  let c0_i32_149 : BitVec 32 := 0#32
  let v591 : BitVec 1 := Scalar.cmpi .ne v590 c0_i32_149
  let v595 : BitVec 1 := Scalar.andi v594 v591
  let v596 : BitVec 32 := Scalar.addi v590 v589
  let v597 : BitVec 32 := Scalar.select v595 v596 v590
  let v600 : Index := Scalar.indexCast v597
  let arg1 : BitVec 32 := BitVec.ofNat 32 (i 1).val
  let c128_i32_152 : BitVec 32 := 128#32
  let v598 : BitVec 32 := Scalar.muli arg1 c128_i32_152
  let v599 : BitVec 32 := Scalar.addi v598 c0_i32_153
  let v601 : Index := Scalar.indexCast v599
  let c4608_154 : Index := 4608#32
  ![v600.toNat, v601.toNat, 4608]
def k0_off11 (i : grid0.Coords) (c0_i32_168 : BitVec 32) : Fin 3 → Nat :=
  let arg0 : BitVec 32 := BitVec.ofNat 32 (i 0).val
  let c2_i32_161 : BitVec 32 := 2#32
  let c0_i32_162 : BitVec 32 := 0#32
  let v650 : BitVec 1 := Scalar.cmpi .eq c2_i32_161 c0_i32_162
  let c1_i32_163 : BitVec 32 := 1#32
  let v651 : BitVec 32 := Scalar.select v650 c1_i32_163 c2_i32_161
  let v652 : BitVec 32 := Scalar.remsi arg0 v651
  let c0_i32_165 : BitVec 32 := 0#32
  let v654 : BitVec 1 := Scalar.cmpi .slt v652 c0_i32_165
  let c0_i32_166 : BitVec 32 := 0#32
  let v655 : BitVec 1 := Scalar.cmpi .slt v651 c0_i32_166
  let v656 : BitVec 1 := Scalar.xori v654 v655
  let c0_i32_164 : BitVec 32 := 0#32
  let v653 : BitVec 1 := Scalar.cmpi .ne v652 c0_i32_164
  let v657 : BitVec 1 := Scalar.andi v656 v653
  let v658 : BitVec 32 := Scalar.addi v652 v651
  let v659 : BitVec 32 := Scalar.select v657 v658 v652
  let v662 : Index := Scalar.indexCast v659
  let arg1 : BitVec 32 := BitVec.ofNat 32 (i 1).val
  let c128_i32_167 : BitVec 32 := 128#32
  let v660 : BitVec 32 := Scalar.muli arg1 c128_i32_167
  let v661 : BitVec 32 := Scalar.addi v660 c0_i32_168
  let v663 : Index := Scalar.indexCast v661
  let c5120_169 : Index := 5120#32
  ![v662.toNat, v663.toNat, 5120]
def k0_off12 (i : grid0.Coords) (c0_i32_183 : BitVec 32) : Fin 3 → Nat :=
  let arg0 : BitVec 32 := BitVec.ofNat 32 (i 0).val
  let c2_i32_176 : BitVec 32 := 2#32
  let c0_i32_177 : BitVec 32 := 0#32
  let v712 : BitVec 1 := Scalar.cmpi .eq c2_i32_176 c0_i32_177
  let c1_i32_178 : BitVec 32 := 1#32
  let v713 : BitVec 32 := Scalar.select v712 c1_i32_178 c2_i32_176
  let v714 : BitVec 32 := Scalar.remsi arg0 v713
  let c0_i32_180 : BitVec 32 := 0#32
  let v716 : BitVec 1 := Scalar.cmpi .slt v714 c0_i32_180
  let c0_i32_181 : BitVec 32 := 0#32
  let v717 : BitVec 1 := Scalar.cmpi .slt v713 c0_i32_181
  let v718 : BitVec 1 := Scalar.xori v716 v717
  let c0_i32_179 : BitVec 32 := 0#32
  let v715 : BitVec 1 := Scalar.cmpi .ne v714 c0_i32_179
  let v719 : BitVec 1 := Scalar.andi v718 v715
  let v720 : BitVec 32 := Scalar.addi v714 v713
  let v721 : BitVec 32 := Scalar.select v719 v720 v714
  let v724 : Index := Scalar.indexCast v721
  let arg1 : BitVec 32 := BitVec.ofNat 32 (i 1).val
  let c128_i32_182 : BitVec 32 := 128#32
  let v722 : BitVec 32 := Scalar.muli arg1 c128_i32_182
  let v723 : BitVec 32 := Scalar.addi v722 c0_i32_183
  let v725 : Index := Scalar.indexCast v723
  let c5632_184 : Index := 5632#32
  ![v724.toNat, v725.toNat, 5632]
def k0_off13 (i : grid0.Coords) (c0_i32_198 : BitVec 32) : Fin 3 → Nat :=
  let arg0 : BitVec 32 := BitVec.ofNat 32 (i 0).val
  let c2_i32_191 : BitVec 32 := 2#32
  let c0_i32_192 : BitVec 32 := 0#32
  let v774 : BitVec 1 := Scalar.cmpi .eq c2_i32_191 c0_i32_192
  let c1_i32_193 : BitVec 32 := 1#32
  let v775 : BitVec 32 := Scalar.select v774 c1_i32_193 c2_i32_191
  let v776 : BitVec 32 := Scalar.remsi arg0 v775
  let c0_i32_195 : BitVec 32 := 0#32
  let v778 : BitVec 1 := Scalar.cmpi .slt v776 c0_i32_195
  let c0_i32_196 : BitVec 32 := 0#32
  let v779 : BitVec 1 := Scalar.cmpi .slt v775 c0_i32_196
  let v780 : BitVec 1 := Scalar.xori v778 v779
  let c0_i32_194 : BitVec 32 := 0#32
  let v777 : BitVec 1 := Scalar.cmpi .ne v776 c0_i32_194
  let v781 : BitVec 1 := Scalar.andi v780 v777
  let v782 : BitVec 32 := Scalar.addi v776 v775
  let v783 : BitVec 32 := Scalar.select v781 v782 v776
  let v786 : Index := Scalar.indexCast v783
  let arg1 : BitVec 32 := BitVec.ofNat 32 (i 1).val
  let c128_i32_197 : BitVec 32 := 128#32
  let v784 : BitVec 32 := Scalar.muli arg1 c128_i32_197
  let v785 : BitVec 32 := Scalar.addi v784 c0_i32_198
  let v787 : Index := Scalar.indexCast v785
  let c6144_199 : Index := 6144#32
  ![v786.toNat, v787.toNat, 6144]
def k0_off14 (i : grid0.Coords) (c0_i32_213 : BitVec 32) : Fin 3 → Nat :=
  let arg0 : BitVec 32 := BitVec.ofNat 32 (i 0).val
  let c2_i32_206 : BitVec 32 := 2#32
  let c0_i32_207 : BitVec 32 := 0#32
  let v836 : BitVec 1 := Scalar.cmpi .eq c2_i32_206 c0_i32_207
  let c1_i32_208 : BitVec 32 := 1#32
  let v837 : BitVec 32 := Scalar.select v836 c1_i32_208 c2_i32_206
  let v838 : BitVec 32 := Scalar.remsi arg0 v837
  let c0_i32_210 : BitVec 32 := 0#32
  let v840 : BitVec 1 := Scalar.cmpi .slt v838 c0_i32_210
  let c0_i32_211 : BitVec 32 := 0#32
  let v841 : BitVec 1 := Scalar.cmpi .slt v837 c0_i32_211
  let v842 : BitVec 1 := Scalar.xori v840 v841
  let c0_i32_209 : BitVec 32 := 0#32
  let v839 : BitVec 1 := Scalar.cmpi .ne v838 c0_i32_209
  let v843 : BitVec 1 := Scalar.andi v842 v839
  let v844 : BitVec 32 := Scalar.addi v838 v837
  let v845 : BitVec 32 := Scalar.select v843 v844 v838
  let v848 : Index := Scalar.indexCast v845
  let arg1 : BitVec 32 := BitVec.ofNat 32 (i 1).val
  let c128_i32_212 : BitVec 32 := 128#32
  let v846 : BitVec 32 := Scalar.muli arg1 c128_i32_212
  let v847 : BitVec 32 := Scalar.addi v846 c0_i32_213
  let v849 : Index := Scalar.indexCast v847
  let c6656_214 : Index := 6656#32
  ![v848.toNat, v849.toNat, 6656]
def k0_off15 (i : grid0.Coords) (c0_i32_228 : BitVec 32) : Fin 3 → Nat :=
  let arg0 : BitVec 32 := BitVec.ofNat 32 (i 0).val
  let c2_i32_221 : BitVec 32 := 2#32
  let c0_i32_222 : BitVec 32 := 0#32
  let v898 : BitVec 1 := Scalar.cmpi .eq c2_i32_221 c0_i32_222
  let c1_i32_223 : BitVec 32 := 1#32
  let v899 : BitVec 32 := Scalar.select v898 c1_i32_223 c2_i32_221
  let v900 : BitVec 32 := Scalar.remsi arg0 v899
  let c0_i32_225 : BitVec 32 := 0#32
  let v902 : BitVec 1 := Scalar.cmpi .slt v900 c0_i32_225
  let c0_i32_226 : BitVec 32 := 0#32
  let v903 : BitVec 1 := Scalar.cmpi .slt v899 c0_i32_226
  let v904 : BitVec 1 := Scalar.xori v902 v903
  let c0_i32_224 : BitVec 32 := 0#32
  let v901 : BitVec 1 := Scalar.cmpi .ne v900 c0_i32_224
  let v905 : BitVec 1 := Scalar.andi v904 v901
  let v906 : BitVec 32 := Scalar.addi v900 v899
  let v907 : BitVec 32 := Scalar.select v905 v906 v900
  let v910 : Index := Scalar.indexCast v907
  let arg1 : BitVec 32 := BitVec.ofNat 32 (i 1).val
  let c128_i32_227 : BitVec 32 := 128#32
  let v908 : BitVec 32 := Scalar.muli arg1 c128_i32_227
  let v909 : BitVec 32 := Scalar.addi v908 c0_i32_228
  let v911 : Index := Scalar.indexCast v909
  let c7168_229 : Index := 7168#32
  ![v910.toNat, v911.toNat, 7168]
def k0_off16 (i : grid0.Coords) (c0_i32_243 : BitVec 32) : Fin 3 → Nat :=
  let arg0 : BitVec 32 := BitVec.ofNat 32 (i 0).val
  let c2_i32_236 : BitVec 32 := 2#32
  let c0_i32_237 : BitVec 32 := 0#32
  let v960 : BitVec 1 := Scalar.cmpi .eq c2_i32_236 c0_i32_237
  let c1_i32_238 : BitVec 32 := 1#32
  let v961 : BitVec 32 := Scalar.select v960 c1_i32_238 c2_i32_236
  let v962 : BitVec 32 := Scalar.remsi arg0 v961
  let c0_i32_240 : BitVec 32 := 0#32
  let v964 : BitVec 1 := Scalar.cmpi .slt v962 c0_i32_240
  let c0_i32_241 : BitVec 32 := 0#32
  let v965 : BitVec 1 := Scalar.cmpi .slt v961 c0_i32_241
  let v966 : BitVec 1 := Scalar.xori v964 v965
  let c0_i32_239 : BitVec 32 := 0#32
  let v963 : BitVec 1 := Scalar.cmpi .ne v962 c0_i32_239
  let v967 : BitVec 1 := Scalar.andi v966 v963
  let v968 : BitVec 32 := Scalar.addi v962 v961
  let v969 : BitVec 32 := Scalar.select v967 v968 v962
  let v972 : Index := Scalar.indexCast v969
  let arg1 : BitVec 32 := BitVec.ofNat 32 (i 1).val
  let c128_i32_242 : BitVec 32 := 128#32
  let v970 : BitVec 32 := Scalar.muli arg1 c128_i32_242
  let v971 : BitVec 32 := Scalar.addi v970 c0_i32_243
  let v973 : Index := Scalar.indexCast v971
  let c7680_244 : Index := 7680#32
  ![v972.toNat, v973.toNat, 7680]
def k0_off17 (i : grid0.Coords) (c0_i32_258 : BitVec 32) : Fin 3 → Nat :=
  let arg0 : BitVec 32 := BitVec.ofNat 32 (i 0).val
  let c2_i32_251 : BitVec 32 := 2#32
  let c0_i32_252 : BitVec 32 := 0#32
  let v1022 : BitVec 1 := Scalar.cmpi .eq c2_i32_251 c0_i32_252
  let c1_i32_253 : BitVec 32 := 1#32
  let v1023 : BitVec 32 := Scalar.select v1022 c1_i32_253 c2_i32_251
  let v1024 : BitVec 32 := Scalar.remsi arg0 v1023
  let c0_i32_255 : BitVec 32 := 0#32
  let v1026 : BitVec 1 := Scalar.cmpi .slt v1024 c0_i32_255
  let c0_i32_256 : BitVec 32 := 0#32
  let v1027 : BitVec 1 := Scalar.cmpi .slt v1023 c0_i32_256
  let v1028 : BitVec 1 := Scalar.xori v1026 v1027
  let c0_i32_254 : BitVec 32 := 0#32
  let v1025 : BitVec 1 := Scalar.cmpi .ne v1024 c0_i32_254
  let v1029 : BitVec 1 := Scalar.andi v1028 v1025
  let v1030 : BitVec 32 := Scalar.addi v1024 v1023
  let v1031 : BitVec 32 := Scalar.select v1029 v1030 v1024
  let v1034 : Index := Scalar.indexCast v1031
  let arg1 : BitVec 32 := BitVec.ofNat 32 (i 1).val
  let c128_i32_257 : BitVec 32 := 128#32
  let v1032 : BitVec 32 := Scalar.muli arg1 c128_i32_257
  let v1033 : BitVec 32 := Scalar.addi v1032 c0_i32_258
  let v1035 : Index := Scalar.indexCast v1033
  let c8192_259 : Index := 8192#32
  ![v1034.toNat, v1035.toNat, 8192]
def k0_off18 (i : grid0.Coords) (c0_i32_273 : BitVec 32) : Fin 3 → Nat :=
  let arg0 : BitVec 32 := BitVec.ofNat 32 (i 0).val
  let c2_i32_266 : BitVec 32 := 2#32
  let c0_i32_267 : BitVec 32 := 0#32
  let v1084 : BitVec 1 := Scalar.cmpi .eq c2_i32_266 c0_i32_267
  let c1_i32_268 : BitVec 32 := 1#32
  let v1085 : BitVec 32 := Scalar.select v1084 c1_i32_268 c2_i32_266
  let v1086 : BitVec 32 := Scalar.remsi arg0 v1085
  let c0_i32_270 : BitVec 32 := 0#32
  let v1088 : BitVec 1 := Scalar.cmpi .slt v1086 c0_i32_270
  let c0_i32_271 : BitVec 32 := 0#32
  let v1089 : BitVec 1 := Scalar.cmpi .slt v1085 c0_i32_271
  let v1090 : BitVec 1 := Scalar.xori v1088 v1089
  let c0_i32_269 : BitVec 32 := 0#32
  let v1087 : BitVec 1 := Scalar.cmpi .ne v1086 c0_i32_269
  let v1091 : BitVec 1 := Scalar.andi v1090 v1087
  let v1092 : BitVec 32 := Scalar.addi v1086 v1085
  let v1093 : BitVec 32 := Scalar.select v1091 v1092 v1086
  let v1096 : Index := Scalar.indexCast v1093
  let arg1 : BitVec 32 := BitVec.ofNat 32 (i 1).val
  let c128_i32_272 : BitVec 32 := 128#32
  let v1094 : BitVec 32 := Scalar.muli arg1 c128_i32_272
  let v1095 : BitVec 32 := Scalar.addi v1094 c0_i32_273
  let v1097 : Index := Scalar.indexCast v1095
  let c8704_274 : Index := 8704#32
  ![v1096.toNat, v1097.toNat, 8704]
def k0_off19 (i : grid0.Coords) (c0_i32_288 : BitVec 32) : Fin 3 → Nat :=
  let arg0 : BitVec 32 := BitVec.ofNat 32 (i 0).val
  let c2_i32_281 : BitVec 32 := 2#32
  let c0_i32_282 : BitVec 32 := 0#32
  let v1146 : BitVec 1 := Scalar.cmpi .eq c2_i32_281 c0_i32_282
  let c1_i32_283 : BitVec 32 := 1#32
  let v1147 : BitVec 32 := Scalar.select v1146 c1_i32_283 c2_i32_281
  let v1148 : BitVec 32 := Scalar.remsi arg0 v1147
  let c0_i32_285 : BitVec 32 := 0#32
  let v1150 : BitVec 1 := Scalar.cmpi .slt v1148 c0_i32_285
  let c0_i32_286 : BitVec 32 := 0#32
  let v1151 : BitVec 1 := Scalar.cmpi .slt v1147 c0_i32_286
  let v1152 : BitVec 1 := Scalar.xori v1150 v1151
  let c0_i32_284 : BitVec 32 := 0#32
  let v1149 : BitVec 1 := Scalar.cmpi .ne v1148 c0_i32_284
  let v1153 : BitVec 1 := Scalar.andi v1152 v1149
  let v1154 : BitVec 32 := Scalar.addi v1148 v1147
  let v1155 : BitVec 32 := Scalar.select v1153 v1154 v1148
  let v1158 : Index := Scalar.indexCast v1155
  let arg1 : BitVec 32 := BitVec.ofNat 32 (i 1).val
  let c128_i32_287 : BitVec 32 := 128#32
  let v1156 : BitVec 32 := Scalar.muli arg1 c128_i32_287
  let v1157 : BitVec 32 := Scalar.addi v1156 c0_i32_288
  let v1159 : Index := Scalar.indexCast v1157
  let c9216_289 : Index := 9216#32
  ![v1158.toNat, v1159.toNat, 9216]
def k0_off20 (i : grid0.Coords) (c0_i32_303 : BitVec 32) : Fin 3 → Nat :=
  let arg0 : BitVec 32 := BitVec.ofNat 32 (i 0).val
  let c2_i32_296 : BitVec 32 := 2#32
  let c0_i32_297 : BitVec 32 := 0#32
  let v1208 : BitVec 1 := Scalar.cmpi .eq c2_i32_296 c0_i32_297
  let c1_i32_298 : BitVec 32 := 1#32
  let v1209 : BitVec 32 := Scalar.select v1208 c1_i32_298 c2_i32_296
  let v1210 : BitVec 32 := Scalar.remsi arg0 v1209
  let c0_i32_300 : BitVec 32 := 0#32
  let v1212 : BitVec 1 := Scalar.cmpi .slt v1210 c0_i32_300
  let c0_i32_301 : BitVec 32 := 0#32
  let v1213 : BitVec 1 := Scalar.cmpi .slt v1209 c0_i32_301
  let v1214 : BitVec 1 := Scalar.xori v1212 v1213
  let c0_i32_299 : BitVec 32 := 0#32
  let v1211 : BitVec 1 := Scalar.cmpi .ne v1210 c0_i32_299
  let v1215 : BitVec 1 := Scalar.andi v1214 v1211
  let v1216 : BitVec 32 := Scalar.addi v1210 v1209
  let v1217 : BitVec 32 := Scalar.select v1215 v1216 v1210
  let v1220 : Index := Scalar.indexCast v1217
  let arg1 : BitVec 32 := BitVec.ofNat 32 (i 1).val
  let c128_i32_302 : BitVec 32 := 128#32
  let v1218 : BitVec 32 := Scalar.muli arg1 c128_i32_302
  let v1219 : BitVec 32 := Scalar.addi v1218 c0_i32_303
  let v1221 : Index := Scalar.indexCast v1219
  let c9728_304 : Index := 9728#32
  ![v1220.toNat, v1221.toNat, 9728]
def k0_off21 (i : grid0.Coords) (c0_i32_318 : BitVec 32) : Fin 3 → Nat :=
  let arg0 : BitVec 32 := BitVec.ofNat 32 (i 0).val
  let c2_i32_311 : BitVec 32 := 2#32
  let c0_i32_312 : BitVec 32 := 0#32
  let v1270 : BitVec 1 := Scalar.cmpi .eq c2_i32_311 c0_i32_312
  let c1_i32_313 : BitVec 32 := 1#32
  let v1271 : BitVec 32 := Scalar.select v1270 c1_i32_313 c2_i32_311
  let v1272 : BitVec 32 := Scalar.remsi arg0 v1271
  let c0_i32_315 : BitVec 32 := 0#32
  let v1274 : BitVec 1 := Scalar.cmpi .slt v1272 c0_i32_315
  let c0_i32_316 : BitVec 32 := 0#32
  let v1275 : BitVec 1 := Scalar.cmpi .slt v1271 c0_i32_316
  let v1276 : BitVec 1 := Scalar.xori v1274 v1275
  let c0_i32_314 : BitVec 32 := 0#32
  let v1273 : BitVec 1 := Scalar.cmpi .ne v1272 c0_i32_314
  let v1277 : BitVec 1 := Scalar.andi v1276 v1273
  let v1278 : BitVec 32 := Scalar.addi v1272 v1271
  let v1279 : BitVec 32 := Scalar.select v1277 v1278 v1272
  let v1282 : Index := Scalar.indexCast v1279
  let arg1 : BitVec 32 := BitVec.ofNat 32 (i 1).val
  let c128_i32_317 : BitVec 32 := 128#32
  let v1280 : BitVec 32 := Scalar.muli arg1 c128_i32_317
  let v1281 : BitVec 32 := Scalar.addi v1280 c0_i32_318
  let v1283 : Index := Scalar.indexCast v1281
  let c10240_319 : Index := 10240#32
  ![v1282.toNat, v1283.toNat, 10240]
def k0_off22 (i : grid0.Coords) (c0_i32_333 : BitVec 32) : Fin 3 → Nat :=
  let arg0 : BitVec 32 := BitVec.ofNat 32 (i 0).val
  let c2_i32_326 : BitVec 32 := 2#32
  let c0_i32_327 : BitVec 32 := 0#32
  let v1332 : BitVec 1 := Scalar.cmpi .eq c2_i32_326 c0_i32_327
  let c1_i32_328 : BitVec 32 := 1#32
  let v1333 : BitVec 32 := Scalar.select v1332 c1_i32_328 c2_i32_326
  let v1334 : BitVec 32 := Scalar.remsi arg0 v1333
  let c0_i32_330 : BitVec 32 := 0#32
  let v1336 : BitVec 1 := Scalar.cmpi .slt v1334 c0_i32_330
  let c0_i32_331 : BitVec 32 := 0#32
  let v1337 : BitVec 1 := Scalar.cmpi .slt v1333 c0_i32_331
  let v1338 : BitVec 1 := Scalar.xori v1336 v1337
  let c0_i32_329 : BitVec 32 := 0#32
  let v1335 : BitVec 1 := Scalar.cmpi .ne v1334 c0_i32_329
  let v1339 : BitVec 1 := Scalar.andi v1338 v1335
  let v1340 : BitVec 32 := Scalar.addi v1334 v1333
  let v1341 : BitVec 32 := Scalar.select v1339 v1340 v1334
  let v1344 : Index := Scalar.indexCast v1341
  let arg1 : BitVec 32 := BitVec.ofNat 32 (i 1).val
  let c128_i32_332 : BitVec 32 := 128#32
  let v1342 : BitVec 32 := Scalar.muli arg1 c128_i32_332
  let v1343 : BitVec 32 := Scalar.addi v1342 c0_i32_333
  let v1345 : Index := Scalar.indexCast v1343
  let c10752_334 : Index := 10752#32
  ![v1344.toNat, v1345.toNat, 10752]
def k0_off23 (i : grid0.Coords) (c0_i32_348 : BitVec 32) : Fin 3 → Nat :=
  let arg0 : BitVec 32 := BitVec.ofNat 32 (i 0).val
  let c2_i32_341 : BitVec 32 := 2#32
  let c0_i32_342 : BitVec 32 := 0#32
  let v1394 : BitVec 1 := Scalar.cmpi .eq c2_i32_341 c0_i32_342
  let c1_i32_343 : BitVec 32 := 1#32
  let v1395 : BitVec 32 := Scalar.select v1394 c1_i32_343 c2_i32_341
  let v1396 : BitVec 32 := Scalar.remsi arg0 v1395
  let c0_i32_345 : BitVec 32 := 0#32
  let v1398 : BitVec 1 := Scalar.cmpi .slt v1396 c0_i32_345
  let c0_i32_346 : BitVec 32 := 0#32
  let v1399 : BitVec 1 := Scalar.cmpi .slt v1395 c0_i32_346
  let v1400 : BitVec 1 := Scalar.xori v1398 v1399
  let c0_i32_344 : BitVec 32 := 0#32
  let v1397 : BitVec 1 := Scalar.cmpi .ne v1396 c0_i32_344
  let v1401 : BitVec 1 := Scalar.andi v1400 v1397
  let v1402 : BitVec 32 := Scalar.addi v1396 v1395
  let v1403 : BitVec 32 := Scalar.select v1401 v1402 v1396
  let v1406 : Index := Scalar.indexCast v1403
  let arg1 : BitVec 32 := BitVec.ofNat 32 (i 1).val
  let c128_i32_347 : BitVec 32 := 128#32
  let v1404 : BitVec 32 := Scalar.muli arg1 c128_i32_347
  let v1405 : BitVec 32 := Scalar.addi v1404 c0_i32_348
  let v1407 : Index := Scalar.indexCast v1405
  let c11264_349 : Index := 11264#32
  ![v1406.toNat, v1407.toNat, 11264]
def k0_off24 (i : grid0.Coords) (c0_i32_363 : BitVec 32) : Fin 3 → Nat :=
  let arg0 : BitVec 32 := BitVec.ofNat 32 (i 0).val
  let c2_i32_356 : BitVec 32 := 2#32
  let c0_i32_357 : BitVec 32 := 0#32
  let v1456 : BitVec 1 := Scalar.cmpi .eq c2_i32_356 c0_i32_357
  let c1_i32_358 : BitVec 32 := 1#32
  let v1457 : BitVec 32 := Scalar.select v1456 c1_i32_358 c2_i32_356
  let v1458 : BitVec 32 := Scalar.remsi arg0 v1457
  let c0_i32_360 : BitVec 32 := 0#32
  let v1460 : BitVec 1 := Scalar.cmpi .slt v1458 c0_i32_360
  let c0_i32_361 : BitVec 32 := 0#32
  let v1461 : BitVec 1 := Scalar.cmpi .slt v1457 c0_i32_361
  let v1462 : BitVec 1 := Scalar.xori v1460 v1461
  let c0_i32_359 : BitVec 32 := 0#32
  let v1459 : BitVec 1 := Scalar.cmpi .ne v1458 c0_i32_359
  let v1463 : BitVec 1 := Scalar.andi v1462 v1459
  let v1464 : BitVec 32 := Scalar.addi v1458 v1457
  let v1465 : BitVec 32 := Scalar.select v1463 v1464 v1458
  let v1468 : Index := Scalar.indexCast v1465
  let arg1 : BitVec 32 := BitVec.ofNat 32 (i 1).val
  let c128_i32_362 : BitVec 32 := 128#32
  let v1466 : BitVec 32 := Scalar.muli arg1 c128_i32_362
  let v1467 : BitVec 32 := Scalar.addi v1466 c0_i32_363
  let v1469 : Index := Scalar.indexCast v1467
  let c11776_364 : Index := 11776#32
  ![v1468.toNat, v1469.toNat, 11776]
def k0_off25 (i : grid0.Coords) (c0_i32_378 : BitVec 32) : Fin 3 → Nat :=
  let arg0 : BitVec 32 := BitVec.ofNat 32 (i 0).val
  let c2_i32_371 : BitVec 32 := 2#32
  let c0_i32_372 : BitVec 32 := 0#32
  let v1518 : BitVec 1 := Scalar.cmpi .eq c2_i32_371 c0_i32_372
  let c1_i32_373 : BitVec 32 := 1#32
  let v1519 : BitVec 32 := Scalar.select v1518 c1_i32_373 c2_i32_371
  let v1520 : BitVec 32 := Scalar.remsi arg0 v1519
  let c0_i32_375 : BitVec 32 := 0#32
  let v1522 : BitVec 1 := Scalar.cmpi .slt v1520 c0_i32_375
  let c0_i32_376 : BitVec 32 := 0#32
  let v1523 : BitVec 1 := Scalar.cmpi .slt v1519 c0_i32_376
  let v1524 : BitVec 1 := Scalar.xori v1522 v1523
  let c0_i32_374 : BitVec 32 := 0#32
  let v1521 : BitVec 1 := Scalar.cmpi .ne v1520 c0_i32_374
  let v1525 : BitVec 1 := Scalar.andi v1524 v1521
  let v1526 : BitVec 32 := Scalar.addi v1520 v1519
  let v1527 : BitVec 32 := Scalar.select v1525 v1526 v1520
  let v1530 : Index := Scalar.indexCast v1527
  let arg1 : BitVec 32 := BitVec.ofNat 32 (i 1).val
  let c128_i32_377 : BitVec 32 := 128#32
  let v1528 : BitVec 32 := Scalar.muli arg1 c128_i32_377
  let v1529 : BitVec 32 := Scalar.addi v1528 c0_i32_378
  let v1531 : Index := Scalar.indexCast v1529
  let c12288_379 : Index := 12288#32
  ![v1530.toNat, v1531.toNat, 12288]
def k0_off26 (i : grid0.Coords) (c0_i32_393 : BitVec 32) : Fin 3 → Nat :=
  let arg0 : BitVec 32 := BitVec.ofNat 32 (i 0).val
  let c2_i32_386 : BitVec 32 := 2#32
  let c0_i32_387 : BitVec 32 := 0#32
  let v1580 : BitVec 1 := Scalar.cmpi .eq c2_i32_386 c0_i32_387
  let c1_i32_388 : BitVec 32 := 1#32
  let v1581 : BitVec 32 := Scalar.select v1580 c1_i32_388 c2_i32_386
  let v1582 : BitVec 32 := Scalar.remsi arg0 v1581
  let c0_i32_390 : BitVec 32 := 0#32
  let v1584 : BitVec 1 := Scalar.cmpi .slt v1582 c0_i32_390
  let c0_i32_391 : BitVec 32 := 0#32
  let v1585 : BitVec 1 := Scalar.cmpi .slt v1581 c0_i32_391
  let v1586 : BitVec 1 := Scalar.xori v1584 v1585
  let c0_i32_389 : BitVec 32 := 0#32
  let v1583 : BitVec 1 := Scalar.cmpi .ne v1582 c0_i32_389
  let v1587 : BitVec 1 := Scalar.andi v1586 v1583
  let v1588 : BitVec 32 := Scalar.addi v1582 v1581
  let v1589 : BitVec 32 := Scalar.select v1587 v1588 v1582
  let v1592 : Index := Scalar.indexCast v1589
  let arg1 : BitVec 32 := BitVec.ofNat 32 (i 1).val
  let c128_i32_392 : BitVec 32 := 128#32
  let v1590 : BitVec 32 := Scalar.muli arg1 c128_i32_392
  let v1591 : BitVec 32 := Scalar.addi v1590 c0_i32_393
  let v1593 : Index := Scalar.indexCast v1591
  let c12800_394 : Index := 12800#32
  ![v1592.toNat, v1593.toNat, 12800]
def k0_off27 (i : grid0.Coords) (c0_i32_408 : BitVec 32) : Fin 3 → Nat :=
  let arg0 : BitVec 32 := BitVec.ofNat 32 (i 0).val
  let c2_i32_401 : BitVec 32 := 2#32
  let c0_i32_402 : BitVec 32 := 0#32
  let v1642 : BitVec 1 := Scalar.cmpi .eq c2_i32_401 c0_i32_402
  let c1_i32_403 : BitVec 32 := 1#32
  let v1643 : BitVec 32 := Scalar.select v1642 c1_i32_403 c2_i32_401
  let v1644 : BitVec 32 := Scalar.remsi arg0 v1643
  let c0_i32_405 : BitVec 32 := 0#32
  let v1646 : BitVec 1 := Scalar.cmpi .slt v1644 c0_i32_405
  let c0_i32_406 : BitVec 32 := 0#32
  let v1647 : BitVec 1 := Scalar.cmpi .slt v1643 c0_i32_406
  let v1648 : BitVec 1 := Scalar.xori v1646 v1647
  let c0_i32_404 : BitVec 32 := 0#32
  let v1645 : BitVec 1 := Scalar.cmpi .ne v1644 c0_i32_404
  let v1649 : BitVec 1 := Scalar.andi v1648 v1645
  let v1650 : BitVec 32 := Scalar.addi v1644 v1643
  let v1651 : BitVec 32 := Scalar.select v1649 v1650 v1644
  let v1654 : Index := Scalar.indexCast v1651
  let arg1 : BitVec 32 := BitVec.ofNat 32 (i 1).val
  let c128_i32_407 : BitVec 32 := 128#32
  let v1652 : BitVec 32 := Scalar.muli arg1 c128_i32_407
  let v1653 : BitVec 32 := Scalar.addi v1652 c0_i32_408
  let v1655 : Index := Scalar.indexCast v1653
  let c13312_409 : Index := 13312#32
  ![v1654.toNat, v1655.toNat, 13312]
def k0_off28 (i : grid0.Coords) (c0_i32_423 : BitVec 32) : Fin 3 → Nat :=
  let arg0 : BitVec 32 := BitVec.ofNat 32 (i 0).val
  let c2_i32_416 : BitVec 32 := 2#32
  let c0_i32_417 : BitVec 32 := 0#32
  let v1704 : BitVec 1 := Scalar.cmpi .eq c2_i32_416 c0_i32_417
  let c1_i32_418 : BitVec 32 := 1#32
  let v1705 : BitVec 32 := Scalar.select v1704 c1_i32_418 c2_i32_416
  let v1706 : BitVec 32 := Scalar.remsi arg0 v1705
  let c0_i32_420 : BitVec 32 := 0#32
  let v1708 : BitVec 1 := Scalar.cmpi .slt v1706 c0_i32_420
  let c0_i32_421 : BitVec 32 := 0#32
  let v1709 : BitVec 1 := Scalar.cmpi .slt v1705 c0_i32_421
  let v1710 : BitVec 1 := Scalar.xori v1708 v1709
  let c0_i32_419 : BitVec 32 := 0#32
  let v1707 : BitVec 1 := Scalar.cmpi .ne v1706 c0_i32_419
  let v1711 : BitVec 1 := Scalar.andi v1710 v1707
  let v1712 : BitVec 32 := Scalar.addi v1706 v1705
  let v1713 : BitVec 32 := Scalar.select v1711 v1712 v1706
  let v1716 : Index := Scalar.indexCast v1713
  let arg1 : BitVec 32 := BitVec.ofNat 32 (i 1).val
  let c128_i32_422 : BitVec 32 := 128#32
  let v1714 : BitVec 32 := Scalar.muli arg1 c128_i32_422
  let v1715 : BitVec 32 := Scalar.addi v1714 c0_i32_423
  let v1717 : Index := Scalar.indexCast v1715
  let c13824_424 : Index := 13824#32
  ![v1716.toNat, v1717.toNat, 13824]
def k0_cond3 (i : grid0.Coords) : BitVec 1 :=
  let arg0 : BitVec 32 := BitVec.ofNat 32 (i 0).val
  let c0_i32_4 : BitVec 32 := 0#32
  let v8 : BitVec 1 := Scalar.cmpi .sgt arg0 c0_i32_4
  let v9 : BitVec 32 := Scalar.extui v8
  let c0_i32_5 : BitVec 32 := 0#32
  let v10 : BitVec 1 := Scalar.cmpi .ne v9 c0_i32_5
  v10

def k0_off29 (i : grid0.Coords) : Fin 3 → Nat :=
  let arg0 : BitVec 32 := BitVec.ofNat 32 (i 0).val
  let c1_i32 : BitVec 32 := 1#32
  let v16 : BitVec 32 := Scalar.subi arg0 c1_i32
  let c2_i32 : BitVec 32 := 2#32
  let c0_i32_7 : BitVec 32 := 0#32
  let v17 : BitVec 1 := Scalar.cmpi .eq c2_i32 c0_i32_7
  let c1_i32_8 : BitVec 32 := 1#32
  let v18 : BitVec 32 := Scalar.select v17 c1_i32_8 c2_i32
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let v27 : Index := Scalar.indexCast v26
  let c0 : Index := 0#32
  let c0_12 : Index := 0#32
  ![v27.toNat, 0, 0]
def k0_off30 (i : grid0.Coords) (c0_i32_30 : BitVec 32) : Fin 3 → Nat :=
  let arg0 : BitVec 32 := BitVec.ofNat 32 (i 0).val
  let c2_i32_24 : BitVec 32 := 2#32
  let c0_i32_25 : BitVec 32 := 0#32
  let v46 : BitVec 1 := Scalar.cmpi .eq c2_i32_24 c0_i32_25
  let c1_i32_26 : BitVec 32 := 1#32
  let v47 : BitVec 32 := Scalar.select v46 c1_i32_26 c2_i32_24
  let v48 : BitVec 32 := Scalar.remsi arg0 v47
  let c0_i32_28 : BitVec 32 := 0#32
  let v50 : BitVec 1 := Scalar.cmpi .slt v48 c0_i32_28
  let c0_i32_29 : BitVec 32 := 0#32
  let v51 : BitVec 1 := Scalar.cmpi .slt v47 c0_i32_29
  let v52 : BitVec 1 := Scalar.xori v50 v51
  let c0_i32_27 : BitVec 32 := 0#32
  let v49 : BitVec 1 := Scalar.cmpi .ne v48 c0_i32_27
  let v53 : BitVec 1 := Scalar.andi v52 v49
  let v54 : BitVec 32 := Scalar.addi v48 v47
  let v55 : BitVec 32 := Scalar.select v53 v54 v48
  let v58 : Index := Scalar.indexCast v55
  let arg1 : BitVec 32 := BitVec.ofNat 32 (i 1).val
  let c128_i32 : BitVec 32 := 128#32
  let v56 : BitVec 32 := Scalar.muli arg1 c128_i32
  let v57 : BitVec 32 := Scalar.addi v56 c0_i32_30
  let v59 : Index := Scalar.indexCast v57
  let c0_31 : Index := 0#32
  ![v58.toNat, v59.toNat, 0]
def k0_off31 (i : grid0.Coords) (c0_i32_45 : BitVec 32) : Fin 3 → Nat :=
  let arg0 : BitVec 32 := BitVec.ofNat 32 (i 0).val
  let c2_i32_38 : BitVec 32 := 2#32
  let c0_i32_39 : BitVec 32 := 0#32
  let v108 : BitVec 1 := Scalar.cmpi .eq c2_i32_38 c0_i32_39
  let c1_i32_40 : BitVec 32 := 1#32
  let v109 : BitVec 32 := Scalar.select v108 c1_i32_40 c2_i32_38
  let v110 : BitVec 32 := Scalar.remsi arg0 v109
  let c0_i32_42 : BitVec 32 := 0#32
  let v112 : BitVec 1 := Scalar.cmpi .slt v110 c0_i32_42
  let c0_i32_43 : BitVec 32 := 0#32
  let v113 : BitVec 1 := Scalar.cmpi .slt v109 c0_i32_43
  let v114 : BitVec 1 := Scalar.xori v112 v113
  let c0_i32_41 : BitVec 32 := 0#32
  let v111 : BitVec 1 := Scalar.cmpi .ne v110 c0_i32_41
  let v115 : BitVec 1 := Scalar.andi v114 v111
  let v116 : BitVec 32 := Scalar.addi v110 v109
  let v117 : BitVec 32 := Scalar.select v115 v116 v110
  let v120 : Index := Scalar.indexCast v117
  let arg1 : BitVec 32 := BitVec.ofNat 32 (i 1).val
  let c128_i32_44 : BitVec 32 := 128#32
  let v118 : BitVec 32 := Scalar.muli arg1 c128_i32_44
  let v119 : BitVec 32 := Scalar.addi v118 c0_i32_45
  let v121 : Index := Scalar.indexCast v119
  let c512_46 : Index := 512#32
  ![v120.toNat, v121.toNat, 512]
def k0_off32 (i : grid0.Coords) (c0_i32_60 : BitVec 32) : Fin 3 → Nat :=
  let arg0 : BitVec 32 := BitVec.ofNat 32 (i 0).val
  let c2_i32_53 : BitVec 32 := 2#32
  let c0_i32_54 : BitVec 32 := 0#32
  let v170 : BitVec 1 := Scalar.cmpi .eq c2_i32_53 c0_i32_54
  let c1_i32_55 : BitVec 32 := 1#32
  let v171 : BitVec 32 := Scalar.select v170 c1_i32_55 c2_i32_53
  let v172 : BitVec 32 := Scalar.remsi arg0 v171
  let c0_i32_57 : BitVec 32 := 0#32
  let v174 : BitVec 1 := Scalar.cmpi .slt v172 c0_i32_57
  let c0_i32_58 : BitVec 32 := 0#32
  let v175 : BitVec 1 := Scalar.cmpi .slt v171 c0_i32_58
  let v176 : BitVec 1 := Scalar.xori v174 v175
  let c0_i32_56 : BitVec 32 := 0#32
  let v173 : BitVec 1 := Scalar.cmpi .ne v172 c0_i32_56
  let v177 : BitVec 1 := Scalar.andi v176 v173
  let v178 : BitVec 32 := Scalar.addi v172 v171
  let v179 : BitVec 32 := Scalar.select v177 v178 v172
  let v182 : Index := Scalar.indexCast v179
  let arg1 : BitVec 32 := BitVec.ofNat 32 (i 1).val
  let c128_i32_59 : BitVec 32 := 128#32
  let v180 : BitVec 32 := Scalar.muli arg1 c128_i32_59
  let v181 : BitVec 32 := Scalar.addi v180 c0_i32_60
  let v183 : Index := Scalar.indexCast v181
  let c1024_61 : Index := 1024#32
  ![v182.toNat, v183.toNat, 1024]
def k0_off33 (i : grid0.Coords) (c0_i32_75 : BitVec 32) : Fin 3 → Nat :=
  let arg0 : BitVec 32 := BitVec.ofNat 32 (i 0).val
  let c2_i32_68 : BitVec 32 := 2#32
  let c0_i32_69 : BitVec 32 := 0#32
  let v232 : BitVec 1 := Scalar.cmpi .eq c2_i32_68 c0_i32_69
  let c1_i32_70 : BitVec 32 := 1#32
  let v233 : BitVec 32 := Scalar.select v232 c1_i32_70 c2_i32_68
  let v234 : BitVec 32 := Scalar.remsi arg0 v233
  let c0_i32_72 : BitVec 32 := 0#32
  let v236 : BitVec 1 := Scalar.cmpi .slt v234 c0_i32_72
  let c0_i32_73 : BitVec 32 := 0#32
  let v237 : BitVec 1 := Scalar.cmpi .slt v233 c0_i32_73
  let v238 : BitVec 1 := Scalar.xori v236 v237
  let c0_i32_71 : BitVec 32 := 0#32
  let v235 : BitVec 1 := Scalar.cmpi .ne v234 c0_i32_71
  let v239 : BitVec 1 := Scalar.andi v238 v235
  let v240 : BitVec 32 := Scalar.addi v234 v233
  let v241 : BitVec 32 := Scalar.select v239 v240 v234
  let v244 : Index := Scalar.indexCast v241
  let arg1 : BitVec 32 := BitVec.ofNat 32 (i 1).val
  let c128_i32_74 : BitVec 32 := 128#32
  let v242 : BitVec 32 := Scalar.muli arg1 c128_i32_74
  let v243 : BitVec 32 := Scalar.addi v242 c0_i32_75
  let v245 : Index := Scalar.indexCast v243
  let c1536_76 : Index := 1536#32
  ![v244.toNat, v245.toNat, 1536]
def k0_off34 (i : grid0.Coords) (c0_i32_90 : BitVec 32) : Fin 3 → Nat :=
  let arg0 : BitVec 32 := BitVec.ofNat 32 (i 0).val
  let c2_i32_83 : BitVec 32 := 2#32
  let c0_i32_84 : BitVec 32 := 0#32
  let v294 : BitVec 1 := Scalar.cmpi .eq c2_i32_83 c0_i32_84
  let c1_i32_85 : BitVec 32 := 1#32
  let v295 : BitVec 32 := Scalar.select v294 c1_i32_85 c2_i32_83
  let v296 : BitVec 32 := Scalar.remsi arg0 v295
  let c0_i32_87 : BitVec 32 := 0#32
  let v298 : BitVec 1 := Scalar.cmpi .slt v296 c0_i32_87
  let c0_i32_88 : BitVec 32 := 0#32
  let v299 : BitVec 1 := Scalar.cmpi .slt v295 c0_i32_88
  let v300 : BitVec 1 := Scalar.xori v298 v299
  let c0_i32_86 : BitVec 32 := 0#32
  let v297 : BitVec 1 := Scalar.cmpi .ne v296 c0_i32_86
  let v301 : BitVec 1 := Scalar.andi v300 v297
  let v302 : BitVec 32 := Scalar.addi v296 v295
  let v303 : BitVec 32 := Scalar.select v301 v302 v296
  let v306 : Index := Scalar.indexCast v303
  let arg1 : BitVec 32 := BitVec.ofNat 32 (i 1).val
  let c128_i32_89 : BitVec 32 := 128#32
  let v304 : BitVec 32 := Scalar.muli arg1 c128_i32_89
  let v305 : BitVec 32 := Scalar.addi v304 c0_i32_90
  let v307 : Index := Scalar.indexCast v305
  let c2048_91 : Index := 2048#32
  ![v306.toNat, v307.toNat, 2048]
def k0_off35 (i : grid0.Coords) (c0_i32_105 : BitVec 32) : Fin 3 → Nat :=
  let arg0 : BitVec 32 := BitVec.ofNat 32 (i 0).val
  let c2_i32_98 : BitVec 32 := 2#32
  let c0_i32_99 : BitVec 32 := 0#32
  let v356 : BitVec 1 := Scalar.cmpi .eq c2_i32_98 c0_i32_99
  let c1_i32_100 : BitVec 32 := 1#32
  let v357 : BitVec 32 := Scalar.select v356 c1_i32_100 c2_i32_98
  let v358 : BitVec 32 := Scalar.remsi arg0 v357
  let c0_i32_102 : BitVec 32 := 0#32
  let v360 : BitVec 1 := Scalar.cmpi .slt v358 c0_i32_102
  let c0_i32_103 : BitVec 32 := 0#32
  let v361 : BitVec 1 := Scalar.cmpi .slt v357 c0_i32_103
  let v362 : BitVec 1 := Scalar.xori v360 v361
  let c0_i32_101 : BitVec 32 := 0#32
  let v359 : BitVec 1 := Scalar.cmpi .ne v358 c0_i32_101
  let v363 : BitVec 1 := Scalar.andi v362 v359
  let v364 : BitVec 32 := Scalar.addi v358 v357
  let v365 : BitVec 32 := Scalar.select v363 v364 v358
  let v368 : Index := Scalar.indexCast v365
  let arg1 : BitVec 32 := BitVec.ofNat 32 (i 1).val
  let c128_i32_104 : BitVec 32 := 128#32
  let v366 : BitVec 32 := Scalar.muli arg1 c128_i32_104
  let v367 : BitVec 32 := Scalar.addi v366 c0_i32_105
  let v369 : Index := Scalar.indexCast v367
  let c2560_106 : Index := 2560#32
  ![v368.toNat, v369.toNat, 2560]
def k0_off36 (i : grid0.Coords) (c0_i32_120 : BitVec 32) : Fin 3 → Nat :=
  let arg0 : BitVec 32 := BitVec.ofNat 32 (i 0).val
  let c2_i32_113 : BitVec 32 := 2#32
  let c0_i32_114 : BitVec 32 := 0#32
  let v418 : BitVec 1 := Scalar.cmpi .eq c2_i32_113 c0_i32_114
  let c1_i32_115 : BitVec 32 := 1#32
  let v419 : BitVec 32 := Scalar.select v418 c1_i32_115 c2_i32_113
  let v420 : BitVec 32 := Scalar.remsi arg0 v419
  let c0_i32_117 : BitVec 32 := 0#32
  let v422 : BitVec 1 := Scalar.cmpi .slt v420 c0_i32_117
  let c0_i32_118 : BitVec 32 := 0#32
  let v423 : BitVec 1 := Scalar.cmpi .slt v419 c0_i32_118
  let v424 : BitVec 1 := Scalar.xori v422 v423
  let c0_i32_116 : BitVec 32 := 0#32
  let v421 : BitVec 1 := Scalar.cmpi .ne v420 c0_i32_116
  let v425 : BitVec 1 := Scalar.andi v424 v421
  let v426 : BitVec 32 := Scalar.addi v420 v419
  let v427 : BitVec 32 := Scalar.select v425 v426 v420
  let v430 : Index := Scalar.indexCast v427
  let arg1 : BitVec 32 := BitVec.ofNat 32 (i 1).val
  let c128_i32_119 : BitVec 32 := 128#32
  let v428 : BitVec 32 := Scalar.muli arg1 c128_i32_119
  let v429 : BitVec 32 := Scalar.addi v428 c0_i32_120
  let v431 : Index := Scalar.indexCast v429
  let c3072_121 : Index := 3072#32
  ![v430.toNat, v431.toNat, 3072]
def k0_off37 (i : grid0.Coords) (c0_i32_135 : BitVec 32) : Fin 3 → Nat :=
  let arg0 : BitVec 32 := BitVec.ofNat 32 (i 0).val
  let c2_i32_128 : BitVec 32 := 2#32
  let c0_i32_129 : BitVec 32 := 0#32
  let v480 : BitVec 1 := Scalar.cmpi .eq c2_i32_128 c0_i32_129
  let c1_i32_130 : BitVec 32 := 1#32
  let v481 : BitVec 32 := Scalar.select v480 c1_i32_130 c2_i32_128
  let v482 : BitVec 32 := Scalar.remsi arg0 v481
  let c0_i32_132 : BitVec 32 := 0#32
  let v484 : BitVec 1 := Scalar.cmpi .slt v482 c0_i32_132
  let c0_i32_133 : BitVec 32 := 0#32
  let v485 : BitVec 1 := Scalar.cmpi .slt v481 c0_i32_133
  let v486 : BitVec 1 := Scalar.xori v484 v485
  let c0_i32_131 : BitVec 32 := 0#32
  let v483 : BitVec 1 := Scalar.cmpi .ne v482 c0_i32_131
  let v487 : BitVec 1 := Scalar.andi v486 v483
  let v488 : BitVec 32 := Scalar.addi v482 v481
  let v489 : BitVec 32 := Scalar.select v487 v488 v482
  let v492 : Index := Scalar.indexCast v489
  let arg1 : BitVec 32 := BitVec.ofNat 32 (i 1).val
  let c128_i32_134 : BitVec 32 := 128#32
  let v490 : BitVec 32 := Scalar.muli arg1 c128_i32_134
  let v491 : BitVec 32 := Scalar.addi v490 c0_i32_135
  let v493 : Index := Scalar.indexCast v491
  let c3584_136 : Index := 3584#32
  ![v492.toNat, v493.toNat, 3584]
def k0_off38 (i : grid0.Coords) (c0_i32_150 : BitVec 32) : Fin 3 → Nat :=
  let arg0 : BitVec 32 := BitVec.ofNat 32 (i 0).val
  let c2_i32_143 : BitVec 32 := 2#32
  let c0_i32_144 : BitVec 32 := 0#32
  let v542 : BitVec 1 := Scalar.cmpi .eq c2_i32_143 c0_i32_144
  let c1_i32_145 : BitVec 32 := 1#32
  let v543 : BitVec 32 := Scalar.select v542 c1_i32_145 c2_i32_143
  let v544 : BitVec 32 := Scalar.remsi arg0 v543
  let c0_i32_147 : BitVec 32 := 0#32
  let v546 : BitVec 1 := Scalar.cmpi .slt v544 c0_i32_147
  let c0_i32_148 : BitVec 32 := 0#32
  let v547 : BitVec 1 := Scalar.cmpi .slt v543 c0_i32_148
  let v548 : BitVec 1 := Scalar.xori v546 v547
  let c0_i32_146 : BitVec 32 := 0#32
  let v545 : BitVec 1 := Scalar.cmpi .ne v544 c0_i32_146
  let v549 : BitVec 1 := Scalar.andi v548 v545
  let v550 : BitVec 32 := Scalar.addi v544 v543
  let v551 : BitVec 32 := Scalar.select v549 v550 v544
  let v554 : Index := Scalar.indexCast v551
  let arg1 : BitVec 32 := BitVec.ofNat 32 (i 1).val
  let c128_i32_149 : BitVec 32 := 128#32
  let v552 : BitVec 32 := Scalar.muli arg1 c128_i32_149
  let v553 : BitVec 32 := Scalar.addi v552 c0_i32_150
  let v555 : Index := Scalar.indexCast v553
  let c4096_151 : Index := 4096#32
  ![v554.toNat, v555.toNat, 4096]
def k0_off39 (i : grid0.Coords) (c0_i32_165 : BitVec 32) : Fin 3 → Nat :=
  let arg0 : BitVec 32 := BitVec.ofNat 32 (i 0).val
  let c2_i32_158 : BitVec 32 := 2#32
  let c0_i32_159 : BitVec 32 := 0#32
  let v604 : BitVec 1 := Scalar.cmpi .eq c2_i32_158 c0_i32_159
  let c1_i32_160 : BitVec 32 := 1#32
  let v605 : BitVec 32 := Scalar.select v604 c1_i32_160 c2_i32_158
  let v606 : BitVec 32 := Scalar.remsi arg0 v605
  let c0_i32_162 : BitVec 32 := 0#32
  let v608 : BitVec 1 := Scalar.cmpi .slt v606 c0_i32_162
  let c0_i32_163 : BitVec 32 := 0#32
  let v609 : BitVec 1 := Scalar.cmpi .slt v605 c0_i32_163
  let v610 : BitVec 1 := Scalar.xori v608 v609
  let c0_i32_161 : BitVec 32 := 0#32
  let v607 : BitVec 1 := Scalar.cmpi .ne v606 c0_i32_161
  let v611 : BitVec 1 := Scalar.andi v610 v607
  let v612 : BitVec 32 := Scalar.addi v606 v605
  let v613 : BitVec 32 := Scalar.select v611 v612 v606
  let v616 : Index := Scalar.indexCast v613
  let arg1 : BitVec 32 := BitVec.ofNat 32 (i 1).val
  let c128_i32_164 : BitVec 32 := 128#32
  let v614 : BitVec 32 := Scalar.muli arg1 c128_i32_164
  let v615 : BitVec 32 := Scalar.addi v614 c0_i32_165
  let v617 : Index := Scalar.indexCast v615
  let c4608_166 : Index := 4608#32
  ![v616.toNat, v617.toNat, 4608]
def k0_off40 (i : grid0.Coords) (c0_i32_180 : BitVec 32) : Fin 3 → Nat :=
  let arg0 : BitVec 32 := BitVec.ofNat 32 (i 0).val
  let c2_i32_173 : BitVec 32 := 2#32
  let c0_i32_174 : BitVec 32 := 0#32
  let v666 : BitVec 1 := Scalar.cmpi .eq c2_i32_173 c0_i32_174
  let c1_i32_175 : BitVec 32 := 1#32
  let v667 : BitVec 32 := Scalar.select v666 c1_i32_175 c2_i32_173
  let v668 : BitVec 32 := Scalar.remsi arg0 v667
  let c0_i32_177 : BitVec 32 := 0#32
  let v670 : BitVec 1 := Scalar.cmpi .slt v668 c0_i32_177
  let c0_i32_178 : BitVec 32 := 0#32
  let v671 : BitVec 1 := Scalar.cmpi .slt v667 c0_i32_178
  let v672 : BitVec 1 := Scalar.xori v670 v671
  let c0_i32_176 : BitVec 32 := 0#32
  let v669 : BitVec 1 := Scalar.cmpi .ne v668 c0_i32_176
  let v673 : BitVec 1 := Scalar.andi v672 v669
  let v674 : BitVec 32 := Scalar.addi v668 v667
  let v675 : BitVec 32 := Scalar.select v673 v674 v668
  let v678 : Index := Scalar.indexCast v675
  let arg1 : BitVec 32 := BitVec.ofNat 32 (i 1).val
  let c128_i32_179 : BitVec 32 := 128#32
  let v676 : BitVec 32 := Scalar.muli arg1 c128_i32_179
  let v677 : BitVec 32 := Scalar.addi v676 c0_i32_180
  let v679 : Index := Scalar.indexCast v677
  let c5120_181 : Index := 5120#32
  ![v678.toNat, v679.toNat, 5120]
def k0_off41 (i : grid0.Coords) (c0_i32_195 : BitVec 32) : Fin 3 → Nat :=
  let arg0 : BitVec 32 := BitVec.ofNat 32 (i 0).val
  let c2_i32_188 : BitVec 32 := 2#32
  let c0_i32_189 : BitVec 32 := 0#32
  let v728 : BitVec 1 := Scalar.cmpi .eq c2_i32_188 c0_i32_189
  let c1_i32_190 : BitVec 32 := 1#32
  let v729 : BitVec 32 := Scalar.select v728 c1_i32_190 c2_i32_188
  let v730 : BitVec 32 := Scalar.remsi arg0 v729
  let c0_i32_192 : BitVec 32 := 0#32
  let v732 : BitVec 1 := Scalar.cmpi .slt v730 c0_i32_192
  let c0_i32_193 : BitVec 32 := 0#32
  let v733 : BitVec 1 := Scalar.cmpi .slt v729 c0_i32_193
  let v734 : BitVec 1 := Scalar.xori v732 v733
  let c0_i32_191 : BitVec 32 := 0#32
  let v731 : BitVec 1 := Scalar.cmpi .ne v730 c0_i32_191
  let v735 : BitVec 1 := Scalar.andi v734 v731
  let v736 : BitVec 32 := Scalar.addi v730 v729
  let v737 : BitVec 32 := Scalar.select v735 v736 v730
  let v740 : Index := Scalar.indexCast v737
  let arg1 : BitVec 32 := BitVec.ofNat 32 (i 1).val
  let c128_i32_194 : BitVec 32 := 128#32
  let v738 : BitVec 32 := Scalar.muli arg1 c128_i32_194
  let v739 : BitVec 32 := Scalar.addi v738 c0_i32_195
  let v741 : Index := Scalar.indexCast v739
  let c5632_196 : Index := 5632#32
  ![v740.toNat, v741.toNat, 5632]
def k0_off42 (i : grid0.Coords) (c0_i32_210 : BitVec 32) : Fin 3 → Nat :=
  let arg0 : BitVec 32 := BitVec.ofNat 32 (i 0).val
  let c2_i32_203 : BitVec 32 := 2#32
  let c0_i32_204 : BitVec 32 := 0#32
  let v790 : BitVec 1 := Scalar.cmpi .eq c2_i32_203 c0_i32_204
  let c1_i32_205 : BitVec 32 := 1#32
  let v791 : BitVec 32 := Scalar.select v790 c1_i32_205 c2_i32_203
  let v792 : BitVec 32 := Scalar.remsi arg0 v791
  let c0_i32_207 : BitVec 32 := 0#32
  let v794 : BitVec 1 := Scalar.cmpi .slt v792 c0_i32_207
  let c0_i32_208 : BitVec 32 := 0#32
  let v795 : BitVec 1 := Scalar.cmpi .slt v791 c0_i32_208
  let v796 : BitVec 1 := Scalar.xori v794 v795
  let c0_i32_206 : BitVec 32 := 0#32
  let v793 : BitVec 1 := Scalar.cmpi .ne v792 c0_i32_206
  let v797 : BitVec 1 := Scalar.andi v796 v793
  let v798 : BitVec 32 := Scalar.addi v792 v791
  let v799 : BitVec 32 := Scalar.select v797 v798 v792
  let v802 : Index := Scalar.indexCast v799
  let arg1 : BitVec 32 := BitVec.ofNat 32 (i 1).val
  let c128_i32_209 : BitVec 32 := 128#32
  let v800 : BitVec 32 := Scalar.muli arg1 c128_i32_209
  let v801 : BitVec 32 := Scalar.addi v800 c0_i32_210
  let v803 : Index := Scalar.indexCast v801
  let c6144_211 : Index := 6144#32
  ![v802.toNat, v803.toNat, 6144]
def k0_off43 (i : grid0.Coords) (c0_i32_225 : BitVec 32) : Fin 3 → Nat :=
  let arg0 : BitVec 32 := BitVec.ofNat 32 (i 0).val
  let c2_i32_218 : BitVec 32 := 2#32
  let c0_i32_219 : BitVec 32 := 0#32
  let v852 : BitVec 1 := Scalar.cmpi .eq c2_i32_218 c0_i32_219
  let c1_i32_220 : BitVec 32 := 1#32
  let v853 : BitVec 32 := Scalar.select v852 c1_i32_220 c2_i32_218
  let v854 : BitVec 32 := Scalar.remsi arg0 v853
  let c0_i32_222 : BitVec 32 := 0#32
  let v856 : BitVec 1 := Scalar.cmpi .slt v854 c0_i32_222
  let c0_i32_223 : BitVec 32 := 0#32
  let v857 : BitVec 1 := Scalar.cmpi .slt v853 c0_i32_223
  let v858 : BitVec 1 := Scalar.xori v856 v857
  let c0_i32_221 : BitVec 32 := 0#32
  let v855 : BitVec 1 := Scalar.cmpi .ne v854 c0_i32_221
  let v859 : BitVec 1 := Scalar.andi v858 v855
  let v860 : BitVec 32 := Scalar.addi v854 v853
  let v861 : BitVec 32 := Scalar.select v859 v860 v854
  let v864 : Index := Scalar.indexCast v861
  let arg1 : BitVec 32 := BitVec.ofNat 32 (i 1).val
  let c128_i32_224 : BitVec 32 := 128#32
  let v862 : BitVec 32 := Scalar.muli arg1 c128_i32_224
  let v863 : BitVec 32 := Scalar.addi v862 c0_i32_225
  let v865 : Index := Scalar.indexCast v863
  let c6656_226 : Index := 6656#32
  ![v864.toNat, v865.toNat, 6656]
def k0_off44 (i : grid0.Coords) (c0_i32_240 : BitVec 32) : Fin 3 → Nat :=
  let arg0 : BitVec 32 := BitVec.ofNat 32 (i 0).val
  let c2_i32_233 : BitVec 32 := 2#32
  let c0_i32_234 : BitVec 32 := 0#32
  let v914 : BitVec 1 := Scalar.cmpi .eq c2_i32_233 c0_i32_234
  let c1_i32_235 : BitVec 32 := 1#32
  let v915 : BitVec 32 := Scalar.select v914 c1_i32_235 c2_i32_233
  let v916 : BitVec 32 := Scalar.remsi arg0 v915
  let c0_i32_237 : BitVec 32 := 0#32
  let v918 : BitVec 1 := Scalar.cmpi .slt v916 c0_i32_237
  let c0_i32_238 : BitVec 32 := 0#32
  let v919 : BitVec 1 := Scalar.cmpi .slt v915 c0_i32_238
  let v920 : BitVec 1 := Scalar.xori v918 v919
  let c0_i32_236 : BitVec 32 := 0#32
  let v917 : BitVec 1 := Scalar.cmpi .ne v916 c0_i32_236
  let v921 : BitVec 1 := Scalar.andi v920 v917
  let v922 : BitVec 32 := Scalar.addi v916 v915
  let v923 : BitVec 32 := Scalar.select v921 v922 v916
  let v926 : Index := Scalar.indexCast v923
  let arg1 : BitVec 32 := BitVec.ofNat 32 (i 1).val
  let c128_i32_239 : BitVec 32 := 128#32
  let v924 : BitVec 32 := Scalar.muli arg1 c128_i32_239
  let v925 : BitVec 32 := Scalar.addi v924 c0_i32_240
  let v927 : Index := Scalar.indexCast v925
  let c7168_241 : Index := 7168#32
  ![v926.toNat, v927.toNat, 7168]
def k0_off45 (i : grid0.Coords) (c0_i32_255 : BitVec 32) : Fin 3 → Nat :=
  let arg0 : BitVec 32 := BitVec.ofNat 32 (i 0).val
  let c2_i32_248 : BitVec 32 := 2#32
  let c0_i32_249 : BitVec 32 := 0#32
  let v976 : BitVec 1 := Scalar.cmpi .eq c2_i32_248 c0_i32_249
  let c1_i32_250 : BitVec 32 := 1#32
  let v977 : BitVec 32 := Scalar.select v976 c1_i32_250 c2_i32_248
  let v978 : BitVec 32 := Scalar.remsi arg0 v977
  let c0_i32_252 : BitVec 32 := 0#32
  let v980 : BitVec 1 := Scalar.cmpi .slt v978 c0_i32_252
  let c0_i32_253 : BitVec 32 := 0#32
  let v981 : BitVec 1 := Scalar.cmpi .slt v977 c0_i32_253
  let v982 : BitVec 1 := Scalar.xori v980 v981
  let c0_i32_251 : BitVec 32 := 0#32
  let v979 : BitVec 1 := Scalar.cmpi .ne v978 c0_i32_251
  let v983 : BitVec 1 := Scalar.andi v982 v979
  let v984 : BitVec 32 := Scalar.addi v978 v977
  let v985 : BitVec 32 := Scalar.select v983 v984 v978
  let v988 : Index := Scalar.indexCast v985
  let arg1 : BitVec 32 := BitVec.ofNat 32 (i 1).val
  let c128_i32_254 : BitVec 32 := 128#32
  let v986 : BitVec 32 := Scalar.muli arg1 c128_i32_254
  let v987 : BitVec 32 := Scalar.addi v986 c0_i32_255
  let v989 : Index := Scalar.indexCast v987
  let c7680_256 : Index := 7680#32
  ![v988.toNat, v989.toNat, 7680]
def k0_off46 (i : grid0.Coords) (c0_i32_270 : BitVec 32) : Fin 3 → Nat :=
  let arg0 : BitVec 32 := BitVec.ofNat 32 (i 0).val
  let c2_i32_263 : BitVec 32 := 2#32
  let c0_i32_264 : BitVec 32 := 0#32
  let v1038 : BitVec 1 := Scalar.cmpi .eq c2_i32_263 c0_i32_264
  let c1_i32_265 : BitVec 32 := 1#32
  let v1039 : BitVec 32 := Scalar.select v1038 c1_i32_265 c2_i32_263
  let v1040 : BitVec 32 := Scalar.remsi arg0 v1039
  let c0_i32_267 : BitVec 32 := 0#32
  let v1042 : BitVec 1 := Scalar.cmpi .slt v1040 c0_i32_267
  let c0_i32_268 : BitVec 32 := 0#32
  let v1043 : BitVec 1 := Scalar.cmpi .slt v1039 c0_i32_268
  let v1044 : BitVec 1 := Scalar.xori v1042 v1043
  let c0_i32_266 : BitVec 32 := 0#32
  let v1041 : BitVec 1 := Scalar.cmpi .ne v1040 c0_i32_266
  let v1045 : BitVec 1 := Scalar.andi v1044 v1041
  let v1046 : BitVec 32 := Scalar.addi v1040 v1039
  let v1047 : BitVec 32 := Scalar.select v1045 v1046 v1040
  let v1050 : Index := Scalar.indexCast v1047
  let arg1 : BitVec 32 := BitVec.ofNat 32 (i 1).val
  let c128_i32_269 : BitVec 32 := 128#32
  let v1048 : BitVec 32 := Scalar.muli arg1 c128_i32_269
  let v1049 : BitVec 32 := Scalar.addi v1048 c0_i32_270
  let v1051 : Index := Scalar.indexCast v1049
  let c8192_271 : Index := 8192#32
  ![v1050.toNat, v1051.toNat, 8192]
def k0_off47 (i : grid0.Coords) (c0_i32_285 : BitVec 32) : Fin 3 → Nat :=
  let arg0 : BitVec 32 := BitVec.ofNat 32 (i 0).val
  let c2_i32_278 : BitVec 32 := 2#32
  let c0_i32_279 : BitVec 32 := 0#32
  let v1100 : BitVec 1 := Scalar.cmpi .eq c2_i32_278 c0_i32_279
  let c1_i32_280 : BitVec 32 := 1#32
  let v1101 : BitVec 32 := Scalar.select v1100 c1_i32_280 c2_i32_278
  let v1102 : BitVec 32 := Scalar.remsi arg0 v1101
  let c0_i32_282 : BitVec 32 := 0#32
  let v1104 : BitVec 1 := Scalar.cmpi .slt v1102 c0_i32_282
  let c0_i32_283 : BitVec 32 := 0#32
  let v1105 : BitVec 1 := Scalar.cmpi .slt v1101 c0_i32_283
  let v1106 : BitVec 1 := Scalar.xori v1104 v1105
  let c0_i32_281 : BitVec 32 := 0#32
  let v1103 : BitVec 1 := Scalar.cmpi .ne v1102 c0_i32_281
  let v1107 : BitVec 1 := Scalar.andi v1106 v1103
  let v1108 : BitVec 32 := Scalar.addi v1102 v1101
  let v1109 : BitVec 32 := Scalar.select v1107 v1108 v1102
  let v1112 : Index := Scalar.indexCast v1109
  let arg1 : BitVec 32 := BitVec.ofNat 32 (i 1).val
  let c128_i32_284 : BitVec 32 := 128#32
  let v1110 : BitVec 32 := Scalar.muli arg1 c128_i32_284
  let v1111 : BitVec 32 := Scalar.addi v1110 c0_i32_285
  let v1113 : Index := Scalar.indexCast v1111
  let c8704_286 : Index := 8704#32
  ![v1112.toNat, v1113.toNat, 8704]
def k0_off48 (i : grid0.Coords) (c0_i32_300 : BitVec 32) : Fin 3 → Nat :=
  let arg0 : BitVec 32 := BitVec.ofNat 32 (i 0).val
  let c2_i32_293 : BitVec 32 := 2#32
  let c0_i32_294 : BitVec 32 := 0#32
  let v1162 : BitVec 1 := Scalar.cmpi .eq c2_i32_293 c0_i32_294
  let c1_i32_295 : BitVec 32 := 1#32
  let v1163 : BitVec 32 := Scalar.select v1162 c1_i32_295 c2_i32_293
  let v1164 : BitVec 32 := Scalar.remsi arg0 v1163
  let c0_i32_297 : BitVec 32 := 0#32
  let v1166 : BitVec 1 := Scalar.cmpi .slt v1164 c0_i32_297
  let c0_i32_298 : BitVec 32 := 0#32
  let v1167 : BitVec 1 := Scalar.cmpi .slt v1163 c0_i32_298
  let v1168 : BitVec 1 := Scalar.xori v1166 v1167
  let c0_i32_296 : BitVec 32 := 0#32
  let v1165 : BitVec 1 := Scalar.cmpi .ne v1164 c0_i32_296
  let v1169 : BitVec 1 := Scalar.andi v1168 v1165
  let v1170 : BitVec 32 := Scalar.addi v1164 v1163
  let v1171 : BitVec 32 := Scalar.select v1169 v1170 v1164
  let v1174 : Index := Scalar.indexCast v1171
  let arg1 : BitVec 32 := BitVec.ofNat 32 (i 1).val
  let c128_i32_299 : BitVec 32 := 128#32
  let v1172 : BitVec 32 := Scalar.muli arg1 c128_i32_299
  let v1173 : BitVec 32 := Scalar.addi v1172 c0_i32_300
  let v1175 : Index := Scalar.indexCast v1173
  let c9216_301 : Index := 9216#32
  ![v1174.toNat, v1175.toNat, 9216]
def k0_off49 (i : grid0.Coords) (c0_i32_315 : BitVec 32) : Fin 3 → Nat :=
  let arg0 : BitVec 32 := BitVec.ofNat 32 (i 0).val
  let c2_i32_308 : BitVec 32 := 2#32
  let c0_i32_309 : BitVec 32 := 0#32
  let v1224 : BitVec 1 := Scalar.cmpi .eq c2_i32_308 c0_i32_309
  let c1_i32_310 : BitVec 32 := 1#32
  let v1225 : BitVec 32 := Scalar.select v1224 c1_i32_310 c2_i32_308
  let v1226 : BitVec 32 := Scalar.remsi arg0 v1225
  let c0_i32_312 : BitVec 32 := 0#32
  let v1228 : BitVec 1 := Scalar.cmpi .slt v1226 c0_i32_312
  let c0_i32_313 : BitVec 32 := 0#32
  let v1229 : BitVec 1 := Scalar.cmpi .slt v1225 c0_i32_313
  let v1230 : BitVec 1 := Scalar.xori v1228 v1229
  let c0_i32_311 : BitVec 32 := 0#32
  let v1227 : BitVec 1 := Scalar.cmpi .ne v1226 c0_i32_311
  let v1231 : BitVec 1 := Scalar.andi v1230 v1227
  let v1232 : BitVec 32 := Scalar.addi v1226 v1225
  let v1233 : BitVec 32 := Scalar.select v1231 v1232 v1226
  let v1236 : Index := Scalar.indexCast v1233
  let arg1 : BitVec 32 := BitVec.ofNat 32 (i 1).val
  let c128_i32_314 : BitVec 32 := 128#32
  let v1234 : BitVec 32 := Scalar.muli arg1 c128_i32_314
  let v1235 : BitVec 32 := Scalar.addi v1234 c0_i32_315
  let v1237 : Index := Scalar.indexCast v1235
  let c9728_316 : Index := 9728#32
  ![v1236.toNat, v1237.toNat, 9728]
def k0_off50 (i : grid0.Coords) (c0_i32_330 : BitVec 32) : Fin 3 → Nat :=
  let arg0 : BitVec 32 := BitVec.ofNat 32 (i 0).val
  let c2_i32_323 : BitVec 32 := 2#32
  let c0_i32_324 : BitVec 32 := 0#32
  let v1286 : BitVec 1 := Scalar.cmpi .eq c2_i32_323 c0_i32_324
  let c1_i32_325 : BitVec 32 := 1#32
  let v1287 : BitVec 32 := Scalar.select v1286 c1_i32_325 c2_i32_323
  let v1288 : BitVec 32 := Scalar.remsi arg0 v1287
  let c0_i32_327 : BitVec 32 := 0#32
  let v1290 : BitVec 1 := Scalar.cmpi .slt v1288 c0_i32_327
  let c0_i32_328 : BitVec 32 := 0#32
  let v1291 : BitVec 1 := Scalar.cmpi .slt v1287 c0_i32_328
  let v1292 : BitVec 1 := Scalar.xori v1290 v1291
  let c0_i32_326 : BitVec 32 := 0#32
  let v1289 : BitVec 1 := Scalar.cmpi .ne v1288 c0_i32_326
  let v1293 : BitVec 1 := Scalar.andi v1292 v1289
  let v1294 : BitVec 32 := Scalar.addi v1288 v1287
  let v1295 : BitVec 32 := Scalar.select v1293 v1294 v1288
  let v1298 : Index := Scalar.indexCast v1295
  let arg1 : BitVec 32 := BitVec.ofNat 32 (i 1).val
  let c128_i32_329 : BitVec 32 := 128#32
  let v1296 : BitVec 32 := Scalar.muli arg1 c128_i32_329
  let v1297 : BitVec 32 := Scalar.addi v1296 c0_i32_330
  let v1299 : Index := Scalar.indexCast v1297
  let c10240_331 : Index := 10240#32
  ![v1298.toNat, v1299.toNat, 10240]
def k0_off51 (i : grid0.Coords) (c0_i32_345 : BitVec 32) : Fin 3 → Nat :=
  let arg0 : BitVec 32 := BitVec.ofNat 32 (i 0).val
  let c2_i32_338 : BitVec 32 := 2#32
  let c0_i32_339 : BitVec 32 := 0#32
  let v1348 : BitVec 1 := Scalar.cmpi .eq c2_i32_338 c0_i32_339
  let c1_i32_340 : BitVec 32 := 1#32
  let v1349 : BitVec 32 := Scalar.select v1348 c1_i32_340 c2_i32_338
  let v1350 : BitVec 32 := Scalar.remsi arg0 v1349
  let c0_i32_342 : BitVec 32 := 0#32
  let v1352 : BitVec 1 := Scalar.cmpi .slt v1350 c0_i32_342
  let c0_i32_343 : BitVec 32 := 0#32
  let v1353 : BitVec 1 := Scalar.cmpi .slt v1349 c0_i32_343
  let v1354 : BitVec 1 := Scalar.xori v1352 v1353
  let c0_i32_341 : BitVec 32 := 0#32
  let v1351 : BitVec 1 := Scalar.cmpi .ne v1350 c0_i32_341
  let v1355 : BitVec 1 := Scalar.andi v1354 v1351
  let v1356 : BitVec 32 := Scalar.addi v1350 v1349
  let v1357 : BitVec 32 := Scalar.select v1355 v1356 v1350
  let v1360 : Index := Scalar.indexCast v1357
  let arg1 : BitVec 32 := BitVec.ofNat 32 (i 1).val
  let c128_i32_344 : BitVec 32 := 128#32
  let v1358 : BitVec 32 := Scalar.muli arg1 c128_i32_344
  let v1359 : BitVec 32 := Scalar.addi v1358 c0_i32_345
  let v1361 : Index := Scalar.indexCast v1359
  let c10752_346 : Index := 10752#32
  ![v1360.toNat, v1361.toNat, 10752]
def k0_off52 (i : grid0.Coords) (c0_i32_360 : BitVec 32) : Fin 3 → Nat :=
  let arg0 : BitVec 32 := BitVec.ofNat 32 (i 0).val
  let c2_i32_353 : BitVec 32 := 2#32
  let c0_i32_354 : BitVec 32 := 0#32
  let v1410 : BitVec 1 := Scalar.cmpi .eq c2_i32_353 c0_i32_354
  let c1_i32_355 : BitVec 32 := 1#32
  let v1411 : BitVec 32 := Scalar.select v1410 c1_i32_355 c2_i32_353
  let v1412 : BitVec 32 := Scalar.remsi arg0 v1411
  let c0_i32_357 : BitVec 32 := 0#32
  let v1414 : BitVec 1 := Scalar.cmpi .slt v1412 c0_i32_357
  let c0_i32_358 : BitVec 32 := 0#32
  let v1415 : BitVec 1 := Scalar.cmpi .slt v1411 c0_i32_358
  let v1416 : BitVec 1 := Scalar.xori v1414 v1415
  let c0_i32_356 : BitVec 32 := 0#32
  let v1413 : BitVec 1 := Scalar.cmpi .ne v1412 c0_i32_356
  let v1417 : BitVec 1 := Scalar.andi v1416 v1413
  let v1418 : BitVec 32 := Scalar.addi v1412 v1411
  let v1419 : BitVec 32 := Scalar.select v1417 v1418 v1412
  let v1422 : Index := Scalar.indexCast v1419
  let arg1 : BitVec 32 := BitVec.ofNat 32 (i 1).val
  let c128_i32_359 : BitVec 32 := 128#32
  let v1420 : BitVec 32 := Scalar.muli arg1 c128_i32_359
  let v1421 : BitVec 32 := Scalar.addi v1420 c0_i32_360
  let v1423 : Index := Scalar.indexCast v1421
  let c11264_361 : Index := 11264#32
  ![v1422.toNat, v1423.toNat, 11264]
def k0_off53 (i : grid0.Coords) (c0_i32_375 : BitVec 32) : Fin 3 → Nat :=
  let arg0 : BitVec 32 := BitVec.ofNat 32 (i 0).val
  let c2_i32_368 : BitVec 32 := 2#32
  let c0_i32_369 : BitVec 32 := 0#32
  let v1472 : BitVec 1 := Scalar.cmpi .eq c2_i32_368 c0_i32_369
  let c1_i32_370 : BitVec 32 := 1#32
  let v1473 : BitVec 32 := Scalar.select v1472 c1_i32_370 c2_i32_368
  let v1474 : BitVec 32 := Scalar.remsi arg0 v1473
  let c0_i32_372 : BitVec 32 := 0#32
  let v1476 : BitVec 1 := Scalar.cmpi .slt v1474 c0_i32_372
  let c0_i32_373 : BitVec 32 := 0#32
  let v1477 : BitVec 1 := Scalar.cmpi .slt v1473 c0_i32_373
  let v1478 : BitVec 1 := Scalar.xori v1476 v1477
  let c0_i32_371 : BitVec 32 := 0#32
  let v1475 : BitVec 1 := Scalar.cmpi .ne v1474 c0_i32_371
  let v1479 : BitVec 1 := Scalar.andi v1478 v1475
  let v1480 : BitVec 32 := Scalar.addi v1474 v1473
  let v1481 : BitVec 32 := Scalar.select v1479 v1480 v1474
  let v1484 : Index := Scalar.indexCast v1481
  let arg1 : BitVec 32 := BitVec.ofNat 32 (i 1).val
  let c128_i32_374 : BitVec 32 := 128#32
  let v1482 : BitVec 32 := Scalar.muli arg1 c128_i32_374
  let v1483 : BitVec 32 := Scalar.addi v1482 c0_i32_375
  let v1485 : Index := Scalar.indexCast v1483
  let c11776_376 : Index := 11776#32
  ![v1484.toNat, v1485.toNat, 11776]
def k0_off54 (i : grid0.Coords) (c0_i32_390 : BitVec 32) : Fin 3 → Nat :=
  let arg0 : BitVec 32 := BitVec.ofNat 32 (i 0).val
  let c2_i32_383 : BitVec 32 := 2#32
  let c0_i32_384 : BitVec 32 := 0#32
  let v1534 : BitVec 1 := Scalar.cmpi .eq c2_i32_383 c0_i32_384
  let c1_i32_385 : BitVec 32 := 1#32
  let v1535 : BitVec 32 := Scalar.select v1534 c1_i32_385 c2_i32_383
  let v1536 : BitVec 32 := Scalar.remsi arg0 v1535
  let c0_i32_387 : BitVec 32 := 0#32
  let v1538 : BitVec 1 := Scalar.cmpi .slt v1536 c0_i32_387
  let c0_i32_388 : BitVec 32 := 0#32
  let v1539 : BitVec 1 := Scalar.cmpi .slt v1535 c0_i32_388
  let v1540 : BitVec 1 := Scalar.xori v1538 v1539
  let c0_i32_386 : BitVec 32 := 0#32
  let v1537 : BitVec 1 := Scalar.cmpi .ne v1536 c0_i32_386
  let v1541 : BitVec 1 := Scalar.andi v1540 v1537
  let v1542 : BitVec 32 := Scalar.addi v1536 v1535
  let v1543 : BitVec 32 := Scalar.select v1541 v1542 v1536
  let v1546 : Index := Scalar.indexCast v1543
  let arg1 : BitVec 32 := BitVec.ofNat 32 (i 1).val
  let c128_i32_389 : BitVec 32 := 128#32
  let v1544 : BitVec 32 := Scalar.muli arg1 c128_i32_389
  let v1545 : BitVec 32 := Scalar.addi v1544 c0_i32_390
  let v1547 : Index := Scalar.indexCast v1545
  let c12288_391 : Index := 12288#32
  ![v1546.toNat, v1547.toNat, 12288]
def k0_off55 (i : grid0.Coords) (c0_i32_405 : BitVec 32) : Fin 3 → Nat :=
  let arg0 : BitVec 32 := BitVec.ofNat 32 (i 0).val
  let c2_i32_398 : BitVec 32 := 2#32
  let c0_i32_399 : BitVec 32 := 0#32
  let v1596 : BitVec 1 := Scalar.cmpi .eq c2_i32_398 c0_i32_399
  let c1_i32_400 : BitVec 32 := 1#32
  let v1597 : BitVec 32 := Scalar.select v1596 c1_i32_400 c2_i32_398
  let v1598 : BitVec 32 := Scalar.remsi arg0 v1597
  let c0_i32_402 : BitVec 32 := 0#32
  let v1600 : BitVec 1 := Scalar.cmpi .slt v1598 c0_i32_402
  let c0_i32_403 : BitVec 32 := 0#32
  let v1601 : BitVec 1 := Scalar.cmpi .slt v1597 c0_i32_403
  let v1602 : BitVec 1 := Scalar.xori v1600 v1601
  let c0_i32_401 : BitVec 32 := 0#32
  let v1599 : BitVec 1 := Scalar.cmpi .ne v1598 c0_i32_401
  let v1603 : BitVec 1 := Scalar.andi v1602 v1599
  let v1604 : BitVec 32 := Scalar.addi v1598 v1597
  let v1605 : BitVec 32 := Scalar.select v1603 v1604 v1598
  let v1608 : Index := Scalar.indexCast v1605
  let arg1 : BitVec 32 := BitVec.ofNat 32 (i 1).val
  let c128_i32_404 : BitVec 32 := 128#32
  let v1606 : BitVec 32 := Scalar.muli arg1 c128_i32_404
  let v1607 : BitVec 32 := Scalar.addi v1606 c0_i32_405
  let v1609 : Index := Scalar.indexCast v1607
  let c12800_406 : Index := 12800#32
  ![v1608.toNat, v1609.toNat, 12800]
def k0_off56 (i : grid0.Coords) (c0_i32_420 : BitVec 32) : Fin 3 → Nat :=
  let arg0 : BitVec 32 := BitVec.ofNat 32 (i 0).val
  let c2_i32_413 : BitVec 32 := 2#32
  let c0_i32_414 : BitVec 32 := 0#32
  let v1658 : BitVec 1 := Scalar.cmpi .eq c2_i32_413 c0_i32_414
  let c1_i32_415 : BitVec 32 := 1#32
  let v1659 : BitVec 32 := Scalar.select v1658 c1_i32_415 c2_i32_413
  let v1660 : BitVec 32 := Scalar.remsi arg0 v1659
  let c0_i32_417 : BitVec 32 := 0#32
  let v1662 : BitVec 1 := Scalar.cmpi .slt v1660 c0_i32_417
  let c0_i32_418 : BitVec 32 := 0#32
  let v1663 : BitVec 1 := Scalar.cmpi .slt v1659 c0_i32_418
  let v1664 : BitVec 1 := Scalar.xori v1662 v1663
  let c0_i32_416 : BitVec 32 := 0#32
  let v1661 : BitVec 1 := Scalar.cmpi .ne v1660 c0_i32_416
  let v1665 : BitVec 1 := Scalar.andi v1664 v1661
  let v1666 : BitVec 32 := Scalar.addi v1660 v1659
  let v1667 : BitVec 32 := Scalar.select v1665 v1666 v1660
  let v1670 : Index := Scalar.indexCast v1667
  let arg1 : BitVec 32 := BitVec.ofNat 32 (i 1).val
  let c128_i32_419 : BitVec 32 := 128#32
  let v1668 : BitVec 32 := Scalar.muli arg1 c128_i32_419
  let v1669 : BitVec 32 := Scalar.addi v1668 c0_i32_420
  let v1671 : Index := Scalar.indexCast v1669
  let c13312_421 : Index := 13312#32
  ![v1670.toNat, v1671.toNat, 13312]
def k0_off57 (i : grid0.Coords) (c0_i32_435 : BitVec 32) : Fin 3 → Nat :=
  let arg0 : BitVec 32 := BitVec.ofNat 32 (i 0).val
  let c2_i32_428 : BitVec 32 := 2#32
  let c0_i32_429 : BitVec 32 := 0#32
  let v1720 : BitVec 1 := Scalar.cmpi .eq c2_i32_428 c0_i32_429
  let c1_i32_430 : BitVec 32 := 1#32
  let v1721 : BitVec 32 := Scalar.select v1720 c1_i32_430 c2_i32_428
  let v1722 : BitVec 32 := Scalar.remsi arg0 v1721
  let c0_i32_432 : BitVec 32 := 0#32
  let v1724 : BitVec 1 := Scalar.cmpi .slt v1722 c0_i32_432
  let c0_i32_433 : BitVec 32 := 0#32
  let v1725 : BitVec 1 := Scalar.cmpi .slt v1721 c0_i32_433
  let v1726 : BitVec 1 := Scalar.xori v1724 v1725
  let c0_i32_431 : BitVec 32 := 0#32
  let v1723 : BitVec 1 := Scalar.cmpi .ne v1722 c0_i32_431
  let v1727 : BitVec 1 := Scalar.andi v1726 v1723
  let v1728 : BitVec 32 := Scalar.addi v1722 v1721
  let v1729 : BitVec 32 := Scalar.select v1727 v1728 v1722
  let v1732 : Index := Scalar.indexCast v1729
  let arg1 : BitVec 32 := BitVec.ofNat 32 (i 1).val
  let c128_i32_434 : BitVec 32 := 128#32
  let v1730 : BitVec 32 := Scalar.muli arg1 c128_i32_434
  let v1731 : BitVec 32 := Scalar.addi v1730 c0_i32_435
  let v1733 : Index := Scalar.indexCast v1731
  let c13824_436 : Index := 13824#32
  ![v1732.toNat, v1733.toNat, 13824]
def k0_cond4 (i : grid0.Coords) : BitVec 1 :=
  let arg0 : BitVec 32 := BitVec.ofNat 32 (i 0).val
  let c16_i32 : BitVec 32 := 16#32
  let v11 : BitVec 1 := Scalar.cmpi .eq arg0 c16_i32
  let arg1 : BitVec 32 := BitVec.ofNat 32 (i 1).val
  let c7_i32 : BitVec 32 := 7#32
  let v12 : BitVec 1 := Scalar.cmpi .eq arg1 c7_i32
  let v13 : BitVec 1 := Scalar.andi v11 v12
  let v14 : BitVec 32 := Scalar.extui v13
  let c0_i32_6 : BitVec 32 := 0#32
  let v15 : BitVec 1 := Scalar.cmpi .ne v14 c0_i32_6
  v15

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x14336 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S14336x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x14336 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev grid1 : Pipeline.Grid := ⟨2, ![17, 8], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_off1 (i : grid1.Coords) : Fin 3 → Nat :=
  let arg0 : BitVec 32 := BitVec.ofNat 32 (i 0).val
  let c2_i32 : BitVec 32 := 2#32
  let c0_i32_4 : BitVec 32 := 0#32
  let v11 : BitVec 1 := Scalar.cmpi .eq c2_i32 c0_i32_4
  let c1_i32 : BitVec 32 := 1#32
  let v12 : BitVec 32 := Scalar.select v11 c1_i32 c2_i32
  let v13 : BitVec 32 := Scalar.remsi arg0 v12
  let c0_i32_6 : BitVec 32 := 0#32
  let v15 : BitVec 1 := Scalar.cmpi .slt v13 c0_i32_6
  let c0_i32_7 : BitVec 32 := 0#32
  let v16 : BitVec 1 := Scalar.cmpi .slt v12 c0_i32_7
  let v17 : BitVec 1 := Scalar.xori v15 v16
  let c0_i32_5 : BitVec 32 := 0#32
  let v14 : BitVec 1 := Scalar.cmpi .ne v13 c0_i32_5
  let v18 : BitVec 1 := Scalar.andi v17 v14
  let v19 : BitVec 32 := Scalar.addi v13 v12
  let v20 : BitVec 32 := Scalar.select v18 v19 v13
  let v22 : Index := Scalar.indexCast v20
  let c0_8 : Index := 0#32
  let arg1 : BitVec 32 := BitVec.ofNat 32 (i 1).val
  let c2048_i32 : BitVec 32 := 2048#32
  let v21 : BitVec 32 := Scalar.muli arg1 c2048_i32
  let v23 : Index := Scalar.indexCast v21
  ![v22.toNat, 0, v23.toNat]
def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k1_off2 (i : grid1.Coords) : Fin 3 → Nat :=
  let arg0 : BitVec 32 := BitVec.ofNat 32 (i 0).val
  let c1_i32 : BitVec 32 := 1#32
  let v6 : BitVec 32 := Scalar.subi arg0 c1_i32
  let c2_i32 : BitVec 32 := 2#32
  let c0_i32_3 : BitVec 32 := 0#32
  let v7 : BitVec 1 := Scalar.cmpi .eq c2_i32 c0_i32_3
  let c1_i32_4 : BitVec 32 := 1#32
  let v8 : BitVec 32 := Scalar.select v7 c1_i32_4 c2_i32
  let v9 : BitVec 32 := Scalar.remsi v6 v8
  let c0_i32_6 : BitVec 32 := 0#32
  let v11 : BitVec 1 := Scalar.cmpi .slt v9 c0_i32_6
  let c0_i32_7 : BitVec 32 := 0#32
  let v12 : BitVec 1 := Scalar.cmpi .slt v8 c0_i32_7
  let v13 : BitVec 1 := Scalar.xori v11 v12
  let c0_i32_5 : BitVec 32 := 0#32
  let v10 : BitVec 1 := Scalar.cmpi .ne v9 c0_i32_5
  let v14 : BitVec 1 := Scalar.andi v13 v10
  let v15 : BitVec 32 := Scalar.addi v9 v8
  let v16 : BitVec 32 := Scalar.select v14 v15 v9
  let v17 : Index := Scalar.indexCast v16
  let c0 : Index := 0#32
  let c0_8 : Index := 0#32
  ![v17.toNat, 0, 0]
def k1_off3 (i : grid1.Coords) : Fin 3 → Nat :=
  let arg0 : BitVec 32 := BitVec.ofNat 32 (i 0).val
  let c2_i32_13 : BitVec 32 := 2#32
  let c0_i32_14 : BitVec 32 := 0#32
  let v28 : BitVec 1 := Scalar.cmpi .eq c2_i32_13 c0_i32_14
  let c1_i32_15 : BitVec 32 := 1#32
  let v29 : BitVec 32 := Scalar.select v28 c1_i32_15 c2_i32_13
  let v30 : BitVec 32 := Scalar.remsi arg0 v29
  let c0_i32_17 : BitVec 32 := 0#32
  let v32 : BitVec 1 := Scalar.cmpi .slt v30 c0_i32_17
  let c0_i32_18 : BitVec 32 := 0#32
  let v33 : BitVec 1 := Scalar.cmpi .slt v29 c0_i32_18
  let v34 : BitVec 1 := Scalar.xori v32 v33
  let c0_i32_16 : BitVec 32 := 0#32
  let v31 : BitVec 1 := Scalar.cmpi .ne v30 c0_i32_16
  let v35 : BitVec 1 := Scalar.andi v34 v31
  let v36 : BitVec 32 := Scalar.addi v30 v29
  let v37 : BitVec 32 := Scalar.select v35 v36 v30
  let v39 : Index := Scalar.indexCast v37
  let c0_19 : Index := 0#32
  let arg1 : BitVec 32 := BitVec.ofNat 32 (i 1).val
  let c2048_i32 : BitVec 32 := 2048#32
  let v38 : BitVec 32 := Scalar.muli arg1 c2048_i32
  let v40 : Index := Scalar.indexCast v38
  ![v39.toNat, 0, v40.toNat]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 1 := Scalar.cmpi .eq arg0 c16_i32
  let c7_i32 : BitVec 32 := 7#32
  let v1 : BitVec 32 := Scalar.select v0 c7_i32 arg1
  let c15_i32 : BitVec 32 := 15#32
  let v2 : BitVec 32 := Scalar.minsi arg0 c15_i32
  let c0_i32 : BitVec 32 := 0#32
  ![v1.toNat, v2.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc1_transform_4 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x896 .fp8e5m2 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16384x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S896x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S896x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S8x2048x14336 : Shape := ⟨3, ![8, 2048, 14336]⟩
abbrev S_ : Shape := ⟨0, ![]⟩
abbrev S8x2048x4096 : Shape := ⟨3, ![8, 2048, 4096]⟩
abbrev S14336x4096 : Shape := ⟨2, ![14336, 4096]⟩
abbrev S16384x14336 : Shape := ⟨2, ![16384, 14336]⟩
abbrev S1 : Shape := ⟨1, ![1]⟩
abbrev S16384x4096 : Shape := ⟨2, ![16384, 4096]⟩
abbrev S1x1 : Shape := ⟨2, ![1, 1]⟩
abbrev S1x16384x14336 : Shape := ⟨3, ![1, 16384, 14336]⟩
abbrev S1x1x1 : Shape := ⟨3, ![1, 1, 1]⟩

abbrev nBuf : Space → Nat
  | .hbm => 16
  | .vmem => 8
  | .smem => 3
  | _ => 0

abbrev bufTy : (tb : Table) → Fin (tcTables nBuf tb) → BufTy
  | .hbm, ⟨0, _⟩ => ⟨S8x2048x14336, .bf16⟩
  | .hbm, ⟨1, _⟩ => ⟨S_, .f32⟩
  | .hbm, ⟨2, _⟩ => ⟨S8x2048x4096, .fp8e4m3⟩
  | .hbm, ⟨3, _⟩ => ⟨S_, .f32⟩
  | .hbm, ⟨4, _⟩ => ⟨S14336x4096, .fp8e4m3⟩
  | .hbm, ⟨5, _⟩ => ⟨S_, .f32⟩
  | .hbm, ⟨6, _⟩ => ⟨S14336x4096, .f32⟩
  | .hbm, ⟨7, _⟩ => ⟨S16384x14336, .bf16⟩
  | .hbm, ⟨8, _⟩ => ⟨S1, .f32⟩
  | .hbm, ⟨9, _⟩ => ⟨S16384x4096, .fp8e4m3⟩
  | .hbm, ⟨10, _⟩ => ⟨S1, .f32⟩
  | .hbm, ⟨11, _⟩ => ⟨S1, .f32⟩
  | .hbm, ⟨12, _⟩ => ⟨S16384x4096, .bf16⟩
  | .hbm, ⟨13, _⟩ => ⟨S14336x4096, .f32⟩
  | .hbm, ⟨14, _⟩ => ⟨S1x1, .f32⟩
  | .hbm, ⟨15, _⟩ => ⟨S16384x14336, .fp8e5m2⟩
  | .local _ .vmem, ⟨0, _⟩ => ⟨S16384x14336, .bf16⟩
  | .local _ .vmem, ⟨1, _⟩ => ⟨S16384x4096, .fp8e4m3⟩
  | .local _ .vmem, ⟨2, _⟩ => ⟨S14336x4096, .fp8e4m3⟩
  | .local _ .vmem, ⟨3, _⟩ => ⟨S14336x4096, .f32⟩
  | .local _ .vmem, ⟨4, _⟩ => ⟨S16384x4096, .bf16⟩
  | .local _ .vmem, ⟨5, _⟩ => ⟨S14336x4096, .f32⟩
  | .local _ .vmem, ⟨6, _⟩ => ⟨S1x1, .f32⟩
  | .local _ .vmem, ⟨7, _⟩ => ⟨S16384x14336, .fp8e5m2⟩
  | .local _ .smem, ⟨0, _⟩ => ⟨S1, .f32⟩
  | .local _ .smem, ⟨1, _⟩ => ⟨S1, .f32⟩
  | .local _ .smem, ⟨2, _⟩ => ⟨S1, .f32⟩
  | _, _ => ⟨S8x2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg1_0 : Ref sig .tc := ⟨.smem, 0, rfl⟩
abbrev cc0_stg3_0 : Ref sig .tc := ⟨.smem, 1, rfl⟩
abbrev cc0_stg5_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S16384x14336 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14336x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14336x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14336x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16384x14336 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.DgradUnit.lean ====
/-
  The quantiser of the input-gradient kernel is printed unrolled: 112 units, one for each of the four groups of 32 rows and each
  of the 28 groups of 512 columns of the chunk. Here one unit is a program, the quantiser is a loop of it over the units, and the
  printed program is that loop, by unfolding.
-/
module

public import proofs.«01_k».proof.Proof.Gen.Kernel.Skeleton
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The slot of the scratch that row `n` of the grid writes: `n` modulo two, as the kernel computes it. -/
def slotN (n : ℕ) : BitVec 32 :=
  let arg0 : BitVec 32 := BitVec.ofNat 32 n
  let v30 : BitVec 1 := Scalar.cmpi .eq 2#32 0#32
  let v31 : BitVec 32 := Scalar.select v30 1#32 2#32
  let v32 : BitVec 32 := Scalar.remsi arg0 v31
  let v33 : BitVec 1 := Scalar.cmpi .ne v32 0#32
  let v34 : BitVec 1 := Scalar.cmpi .slt v32 0#32
  let v35 : BitVec 1 := Scalar.cmpi .slt v31 0#32
  let v36 : BitVec 1 := Scalar.xori v34 v35
  let v37 : BitVec 1 := Scalar.andi v36 v33
  let v38 : BitVec 32 := Scalar.addi v32 v31
  Scalar.select v37 v38 v32

/-- The row of the scratch where rows `32 r` and later of the chunk `n` go. -/
def rowN (n : ℕ) (r : Fin 4) : BitVec 32 :=
  Scalar.addi (Scalar.muli (BitVec.ofNat 32 n) 128#32) (BitVec.ofNat 32 (32 * r.val))

/-- The offsets in the scratch of unit `(r, c)`. -/
def offQ (i : grid0.Coords) (r : Fin 4) (c : Fin 28) : Fin 3 → ℕ :=
  ![(Scalar.indexCast (slotN (i 0).val)).toNat, (Scalar.indexCast (rowN (i 1).val r)).toNat, 512 * c.val]

/-- The slot's number as an index. -/
theorem slotN_eq : ∀ n : Fin 17, (Scalar.indexCast (slotN n.val)).toNat = n.val % 2 := by decide +kernel

/-- A tile's first row in the panel as an index. -/
theorem rowN_eq : ∀ (n : Fin 8) (r : Fin 4), (Scalar.indexCast (rowN n.val r)).toNat = 128 * n.val + 32 * r.val := by
  decide +kernel

/-- The offsets in the scratch of unit `(r, c)`, in plain numbers. -/
theorem offQ_eq (i : grid0.Coords) (r : Fin 4) (c : Fin 28) :
    offQ i r c = ![(i 0).val % 2, 128 * (i 1).val + 32 * r.val, 512 * c.val] := by
  have h0 : (Scalar.indexCast (slotN (i 0).val)).toNat = (i 0).val % 2 := slotN_eq (i 0)
  have h1 : (Scalar.indexCast (rowN (i 1).val r)).toNat = 128 * (i 1).val + 32 * r.val := rowN_eq (i 1) r
  unfold offQ
  rw [h0, h1]

/-- A tile's place lies in the panel. -/
theorem offQ_inb (i : grid0.Coords) (r : Fin 4) (c : Fin 28) :
    ∀ a, offQ i r c a + S1x32x512.size a ≤ S2x1024x14336.size a := by
  have h1 : (i 1).val < 8 := (i 1).isLt
  have hr := r.isLt
  have hc := c.isLt
  rw [offQ_eq]
  intro a
  fin_cases a
  · show (i 0).val % 2 + 1 ≤ 2; omega
  · show 128 * (i 1).val + 32 * r.val + 32 ≤ 1024; omega
  · show 512 * c.val + 512 ≤ 14336; omega

/-- A tile's place in the panel is aligned to its packing. -/
theorem offQ_packed (i : grid0.Coords) (r : Fin 4) (c : Fin 28) :
    (Rect.unit (s := S2x1024x14336) (offQ i r c) S1x32x512.size (offQ_inb i r c)).PackedRows (EltTy.packing .fp8e5m2) := by
  refine Or.inr ⟨by decide, rfl, Or.inl ⟨?_, by show 4 ∣ 32; decide⟩⟩
  show 4 ∣ offQ i r c 1
  rw [offQ_eq]
  show 4 ∣ 128 * (i 1).val + 32 * r.val
  omega

/-- The offsets in the chunk of unit `(r, c)`. -/
def offC (r : Fin 4) (c : Fin 28) : Fin 2 → ℕ := ![32 * r.val, 512 * c.val]

/-- A tile's place lies in the chunk of codes. -/
theorem offC_inb (r : Fin 4) (c : Fin 28) : ∀ a, offC r c a + S32x512.size a ≤ S128x14336.size a := by
  revert r c; decide +kernel

/-- A tile's place in the chunk of codes is aligned to its packing. -/
theorem offC_packed (r : Fin 4) (c : Fin 28) :
    (Rect.unit (s := S128x14336) (offC r c) S32x512.size (offC_inb r c)).PackedRows (EltTy.packing .fp8e5m2) := by
  revert r c; decide +kernel

/-- A tile of the gradient, widened. -/
def wide (v : Vec F S32x512 .bf16) : FVec F S32x512 .f32 :=
  extf .f32 (shapeCast S32x512 v shapeCasts_S32x512_S32x512) bitsLt_bf16_f32

/-- The codes of a tile of the gradient under the scale `s`. -/
def codeTile (v : Vec F S32x512 .bf16) (s : Elt F .f32) : FVec F S32x512 .fp8e5m2 :=
  truncf .fp8e5m2 (minimumf (broadcast S32x512 (Scalar.ofBits .f32 0x47600000#32 : F .f32))
    (maximumf (broadcast S32x512 (Scalar.ofBits .f32 0xC7600000#32 : F .f32)) (mulf (wide v) (broadcast S32x512 s)))) bitsLt_fp8e5m2_f32

/-- The running maximum `m` with the sixteen pieces of a tile of magnitudes. -/
def maxTile (m : FVec F S8x128 .f32) (a : FVec F S32x512 .f32) : FVec F S8x128 .f32 :=
  let m := maximumf m (extractStridedSlice S8x128 ![0, 0] a slices_S32x512_o0_0_S8x128)
  let m := maximumf m (extractStridedSlice S8x128 ![0, 128] a slices_S32x512_o0_128_S8x128)
  let m := maximumf m (extractStridedSlice S8x128 ![0, 256] a slices_S32x512_o0_256_S8x128)
  let m := maximumf m (extractStridedSlice S8x128 ![0, 384] a slices_S32x512_o0_384_S8x128)
  let m := maximumf m (extractStridedSlice S8x128 ![8, 0] a slices_S32x512_o8_0_S8x128)
  let m := maximumf m (extractStridedSlice S8x128 ![8, 128] a slices_S32x512_o8_128_S8x128)
  let m := maximumf m (extractStridedSlice S8x128 ![8, 256] a slices_S32x512_o8_256_S8x128)
  let m := maximumf m (extractStridedSlice S8x128 ![8, 384] a slices_S32x512_o8_384_S8x128)
  let m := maximumf m (extractStridedSlice S8x128 ![16, 0] a slices_S32x512_o16_0_S8x128)
  let m := maximumf m (extractStridedSlice S8x128 ![16, 128] a slices_S32x512_o16_128_S8x128)
  let m := maximumf m (extractStridedSlice S8x128 ![16, 256] a slices_S32x512_o16_256_S8x128)
  let m := maximumf m (extractStridedSlice S8x128 ![16, 384] a slices_S32x512_o16_384_S8x128)
  let m := maximumf m (extractStridedSlice S8x128 ![24, 0] a slices_S32x512_o24_0_S8x128)
  let m := maximumf m (extractStridedSlice S8x128 ![24, 128] a slices_S32x512_o24_128_S8x128)
  let m := maximumf m (extractStridedSlice S8x128 ![24, 256] a slices_S32x512_o24_256_S8x128)
  maximumf m (extractStridedSlice S8x128 ![24, 384] a slices_S32x512_o24_384_S8x128)

/-- One unit: read the tile, store its codes in the output block and in the scratch, and take its magnitudes into the maximum. -/
def unitQ (i : grid0.Coords) (arg2 : Memref sig .tc .smem S2 .f32) (arg3 : Memref sig .tc .vmem S128x14336 .bf16)
    (arg6 : Memref sig .tc .vmem S128x14336 .fp8e5m2) (harg6 : arg6.IsWhole) (arg8 : Memref sig .tc .vmem S2x1024x14336 .fp8e5m2)
    (harg8 : arg8.IsWhole) (rc : Fin 4 × Fin 28) (m : FVec F S8x128 .f32) :
    Prog (TpuEff nD τ sig (Elt F) Λ₀ .tc) (FVec F S8x128 .f32) := do
  let v ← Prog.lift (.load arg3 (Rect.unit (s := S128x14336) (offC rc.1 rc.2) S32x512.size (offC_inb rc.1 rc.2)).toLoadRect (View.loadsAt_vmem h_S32x512))
  let s ← smemLoad arg2 (Rect.unit (s := S2) ![0] S1.size inb_S2_S1_0) numel1_S1 rfl
  let _d ← Prog.lift (.load arg6 (Rect.unit (s := S128x14336) (offC rc.1 rc.2) S32x512.size (offC_inb rc.1 rc.2)).toLoadRect (View.loadsAt_vmem h_S32x512))
  Prog.lift (.store arg6 (Rect.unit (s := S128x14336) (offC rc.1 rc.2) S32x512.size (offC_inb rc.1 rc.2)) (codeTile v s) Finset.univ (View.stores_vmem h_S32x512 (harg6.storeExact_slice rfl _ (offC_packed rc.1 rc.2)) (fun _ => rfl)) (.inl rfl))
  let _d ← Prog.lift (.load arg8 (Rect.unit (s := S2x1024x14336) (offQ i rc.1 rc.2) S1x32x512.size (offQ_inb i rc.1 rc.2)).toLoadRect (View.loadsAt_vmem h_S1x32x512))
  Prog.lift (.store arg8 (Rect.unit (s := S2x1024x14336) (offQ i rc.1 rc.2) S1x32x512.size (offQ_inb i rc.1 rc.2)) (shapeCast S1x32x512 (codeTile v s) shapeCasts_S32x512_S1x32x512) Finset.univ (View.stores_vmem h_S1x32x512 (harg8.storeExact_slice rfl _ (offQ_packed i rc.1 rc.2)) (fun _ => rfl)) (.inl rfl))
  pure (maxTile m (absf (wide v)))

/-- A loop over a list of units that carries the running maximum. -/
def loopQ (f : Fin 4 × Fin 28 → FVec F S8x128 .f32 → Prog (TpuEff nD τ sig (Elt F) Λ₀ .tc) (FVec F S8x128 .f32)) :
    List (Fin 4 × Fin 28) → FVec F S8x128 .f32 → Prog (TpuEff nD τ sig (Elt F) Λ₀ .tc) (FVec F S8x128 .f32)
  | [], m => pure m
  | rc :: l, m => do
    let m' ← f rc m
    loopQ f l m'

/-- The units of one group of rows. -/
def rowUnits (r : Fin 4) : List (Fin 4 × Fin 28) :=
  [(r, 0), (r, 1), (r, 2), (r, 3), (r, 4), (r, 5), (r, 6), (r, 7), (r, 8), (r, 9), (r, 10), (r, 11), (r, 12), (r, 13),
   (r, 14), (r, 15), (r, 16), (r, 17), (r, 18), (r, 19), (r, 20), (r, 21), (r, 22), (r, 23), (r, 24), (r, 25), (r, 26), (r, 27)]

/-- All units, row group by row group. -/
def units : List (Fin 4 × Fin 28) := rowUnits 0 ++ (rowUnits 1 ++ (rowUnits 2 ++ rowUnits 3))

/-- The load of the running maximum. -/
def loadMax (arg9 : Memref sig .tc .vmem S8x128 .f32) : Prog (TpuEff nD τ sig (Elt F) Λ₀ .tc) (FVec F S8x128 .f32) := do
  let v : Vec F S8x128 .f32 ← Prog.lift (.load arg9 (Rect.unit (s := S8x128) ![0, 0] S8x128.size inb_S8x128_S8x128_0_0).toLoadRect (View.loadsAt_vmem h_S8x128))
  pure v

/-- The store of the running maximum. -/
def storeMax (arg9 : Memref sig .tc .vmem S8x128 .f32) (m : FVec F S8x128 .f32) : Prog (TpuEff nD τ sig (Elt F) Λ₀ .tc) PUnit := do
  let _d : Vec F S8x128 .f32 ← Prog.lift (.load arg9 (Rect.unit (s := S8x128) ![0, 0] S8x128.size inb_S8x128_S8x128_0_0).toLoadRect (View.loadsAt_vmem h_S8x128))
  Prog.lift (.store arg9 (Rect.unit (s := S8x128) ![0, 0] S8x128.size inb_S8x128_S8x128_0_0) (shapeCast S8x128 m shapeCasts_S8x128_S8x128) Finset.univ (View.stores_vmem_bits_univ h_S8x128 rfl) (.inl rfl))
  pure ⟨⟩

/-- The units of a list between the load and the store of the running maximum. -/
def quantiseOver (l : List (Fin 4 × Fin 28)) (i : grid0.Coords) (arg2 : Memref sig .tc .smem S2 .f32) (arg3 : Memref sig .tc .vmem S128x14336 .bf16)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) : Prog (TpuEff nD τ sig (Elt F) Λ₀ .tc) PUnit :=
  loadMax arg9 >>= fun v => loopQ (F := F) (unitQ i arg2 arg3 arg6 harg6 arg8 harg8) l v >>= fun m => storeMax arg9 m

/-- The quantiser of a chunk. -/
def quantise (i : grid0.Coords) (arg2 : Memref sig .tc .smem S2 .f32) (arg3 : Memref sig .tc .vmem S128x14336 .bf16)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) : Prog (TpuEff nD τ sig (Elt F) Λ₀ .tc) PUnit :=
  quantiseOver units i arg2 arg3 arg6 harg6 arg8 harg8 arg9

/-- The reset of the running maximum. -/
def resetMax (arg9 : Memref sig .tc .vmem S8x128 .f32) : Prog (TpuEff nD τ sig (Elt F) Λ₀ .tc) PUnit := do
  let _d : Vec F S8x128 .f32 ← Prog.lift (.load arg9 (Rect.unit (s := S8x128) ![0, 0] S8x128.size inb_S8x128_S8x128_0_0).toLoadRect (View.loadsAt_vmem h_S8x128))
  Prog.lift (.store arg9 (Rect.unit (s := S8x128) ![0, 0] S8x128.size inb_S8x128_S8x128_0_0) (k0_pay1 (F := F)) Finset.univ (View.stores_vmem_bits_univ h_S8x128 rfl) (.inl rfl))
  pure ⟨⟩

/-- The load of the scratch's other panel. -/
def loadPanel (i : grid0.Coords) (arg8 : Memref sig .tc .vmem S2x1024x14336 .fp8e5m2) (h3 : k0_cond3 i = 1#1) :
    Prog (TpuEff nD τ sig (Elt F) Λ₀ .tc) (Vec F S1x1024x14336 .fp8e5m2) := do
  let v28 : Vec F S1x1024x14336 .fp8e5m2 ← Prog.lift (.load arg8 (Rect.unit (s := S2x1024x14336) (k0_off29 i) S1x1024x14336.size (k0_off29_inb i h3)).toLoadRect (View.loadsAt_vmem h_S1x1024x14336))
  pure v28

/-- The load of a panel of the weights. -/
def loadWeights (arg4 : Memref sig .tc .vmem S14336x512 .fp8e4m3) :
    Prog (TpuEff nD τ sig (Elt F) Λ₀ .tc) (Vec F S14336x512 .fp8e4m3) := do
  let v30 : Vec F S14336x512 .fp8e4m3 ← Prog.lift (.load arg4 (Rect.unit (s := S14336x512) ![0, 0] S14336x512.size inb_S14336x512_S14336x512_0_0).toLoadRect (View.loadsAt_vmem h_S14336x512))
  pure v30

/-- The store of a product under the second scalar. -/
def storeProduct (arg2 : Memref sig .tc .smem S2 .f32) (arg5 : Memref sig .tc .vmem S1024x512 .bf16) (harg5 : arg5.IsWhole)
    (v31 : FVec F S1024x512 .f32) : Prog (TpuEff nD τ sig (Elt F) Λ₀ .tc) PUnit := do
  let s : Elt F .f32 ← smemLoad arg2 (Rect.unit (s := S2) ![1] S1.size inb_S2_S1_1) numel1_S1 rfl
  let _d : Vec F S1024x512 .bf16 ← Prog.lift (.load arg5 (Rect.unit (s := S1024x512) ![0, 0] S1024x512.size inb_S1024x512_S1024x512_0_0).toLoadRect (View.loadsAt_vmem h_S1024x512))
  Prog.lift (.store arg5 (Rect.unit (s := S1024x512) ![0, 0] S1024x512.size inb_S1024x512_S1024x512_0_0) (k0_pay2 v31 (broadcast S1024x512 s)) Finset.univ (View.stores_vmem h_S1024x512 (harg5.storeExact_slice rfl _ packedbf16_S1024x512_S1024x512_0_0) (fun _ => rfl)) (.inl rfl))
  pure ⟨⟩

/-- The panel's product with a panel of the weights, and the quantiser of the next row's chunk beside it. -/
def product (i : grid0.Coords) (arg2 : Memref sig .tc .smem S2 .f32) (arg3 : Memref sig .tc .vmem S128x14336 .bf16)
    (arg4 : Memref sig .tc .vmem S14336x512 .fp8e4m3) (arg5 : Memref sig .tc .vmem S1024x512 .bf16) (harg5 : arg5.IsWhole)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) (h3 : k0_cond3 i = 1#1) :
    Prog (TpuEff nD τ sig (Elt F) Λ₀ .tc) PUnit :=
  loadPanel i arg8 h3 >>= fun v28 => loadWeights arg4 >>= fun v30 =>
    quantise i arg2 arg3 arg6 harg6 arg8 harg8 arg9 >>= fun _ => storeProduct arg2 arg5 harg5 (k0_pay677 v28 v30)

/-- The reduction of the running maximum to one number. -/
def reduceMax (arg7 : Memref sig .tc .vmem S1x1 .f32) (arg9 : Memref sig .tc .vmem S8x128 .f32) :
    Prog (TpuEff nD τ sig (Elt F) Λ₀ .tc) PUnit := do
  let v : Vec F S8x128 .f32 ← Prog.lift (.load arg9 (Rect.unit (s := S8x128) ![0, 0] S8x128.size inb_S8x128_S8x128_0_0).toLoadRect (View.loadsAt_vmem h_S8x128))
  let _d : Vec F S1x1 .f32 ← Prog.lift (.load arg7 (Rect.unit (s := S1x1) ![0, 0] S1x1.size inb_S1x1_S1x1_0_0).toLoadRect (View.loadsAt_vmem h_S1x1))
  Prog.lift (.store arg7 (Rect.unit (s := S1x1) ![0, 0] S1x1.size inb_S1x1_S1x1_0_0) (k0_pay3 v) Finset.univ (View.stores_vmem_bits_univ h_S1x1 rfl) (.inl rfl))
  pure ⟨⟩

/-- The condition of the first point. -/
def cond1 (i : grid0.Coords) : BitVec 1 :=
  let arg0 : BitVec 32 := BitVec.ofNat 32 (i 0).val
  let arg1 : BitVec 32 := BitVec.ofNat 32 (i 1).val
  let v0 : BitVec 1 := Scalar.cmpi .eq arg0 0#32
  let v1 : BitVec 1 := Scalar.cmpi .eq arg1 0#32
  let v2 : BitVec 1 := Scalar.andi v0 v1
  let v3 : BitVec 32 := Scalar.extui v2
  Scalar.cmpi .ne v3 0#32

/-- The whole body of the input-gradient kernel with its quantiser as a loop, branch after branch. -/
def rolledDo (i : grid0.Coords) (arg2 : Memref sig .tc .smem S2 .f32) (arg3 : Memref sig .tc .vmem S128x14336 .bf16)
    (arg4 : Memref sig .tc .vmem S14336x512 .fp8e4m3) (arg5 : Memref sig .tc .vmem S1024x512 .bf16) (harg5 : arg5.IsWhole)
    (arg6 : Memref sig .tc .vmem S128x14336 .fp8e5m2) (harg6 : arg6.IsWhole) (arg7 : Memref sig .tc .vmem S1x1 .f32)
    (arg8 : Memref sig .tc .vmem S2x1024x14336 .fp8e5m2)
    (harg8 : arg8.IsWhole) (arg9 : Memref sig .tc .vmem S8x128 .f32) : Prog (TpuEff nD τ sig (Elt F) Λ₀ .tc) PUnit := do
  if h1 : cond1 i = 1#1 then resetMax arg9 else pure ⟨⟩
  if h2 : k0_cond2 i = 1#1 then quantise i arg2 arg3 arg6 harg6 arg8 harg8 arg9 else pure ⟨⟩
  if h3 : k0_cond3 i = 1#1 then product i arg2 arg3 arg4 arg5 harg5 arg6 harg6 arg8 harg8 arg9 h3 else pure ⟨⟩
  if h4 : k0_cond4 i = 1#1 then reduceMax arg7 arg9 else pure ⟨⟩
  pure ⟨⟩

/-- The whole body of the input-gradient kernel with its quantiser as a loop. -/
def rolled (i : grid0.Coords) (arg2 : Memref sig .tc .smem S2 .f32) (arg3 : Memref sig .tc .vmem S128x14336 .bf16)
    (arg4 : Memref sig .tc .vmem S14336x512 .fp8e4m3) (arg5 : Memref sig .tc .vmem S1024x512 .bf16) (harg5 : arg5.IsWhole)
    (arg6 : Memref sig .tc .vmem S128x14336 .fp8e5m2) (harg6 : arg6.IsWhole) (arg7 : Memref sig .tc .vmem S1x1 .f32)
    (arg8 : Memref sig .tc .vmem S2x1024x14336 .fp8e5m2)
    (harg8 : arg8.IsWhole) (arg9 : Memref sig .tc .vmem S8x128 .f32) : Prog (TpuEff nD τ sig (Elt F) Λ₀ .tc) PUnit :=
  (if h1 : cond1 i = 1#1 then resetMax arg9 else pure ⟨⟩) >>= fun _ =>
    (if h2 : k0_cond2 i = 1#1 then quantise i arg2 arg3 arg6 harg6 arg8 harg8 arg9 else pure ⟨⟩) >>= fun _ =>
    (if h3 : k0_cond3 i = 1#1 then product i arg2 arg3 arg4 arg5 harg5 arg6 harg6 arg8 harg8 arg9 h3 else pure ⟨⟩) >>= fun _ =>
    (if h4 : k0_cond4 i = 1#1 then reduceMax arg7 arg9 else pure ⟨⟩) >>= fun _ => pure ⟨⟩

end Cert.Kernel.Hand
end
-- ==== Proof.WgradBody.lean ====
/-
  What one grid point of the weight-gradient kernel does, on any whole buffers: a point of the first row transposes a chunk of
  codes into the scratch; a later point also multiplies the whole panel of the row before with the activations.
-/
module

public import proofs.«01_k».proof.Proof.Gen.Kernel.Points
public import proofs.«01_k».proof.Proof.Gen.Kernel.Skeleton
public import Idealize.ShloMosaic.Lib.Claim
public import Idealize.ShloMosaic.Lib.WritesUnit
public import Idealize.ShloMosaic.Lib.VecWindow

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-element array. -/
def at0 : S1.Idx := fun _ => ⟨0, by decide +revert⟩

/-- A one-element array has no other index. -/
theorem at0_unique (x : S1.Idx) : x = at0 := funext fun a => Fin.ext (by
  have h : S1.size a = 1 := by decide +revert
  have h1 := (x a).isLt
  have h2 := (at0 a).isLt
  omega)

/-- The scratch after a chunk `w` of transposed codes was stored at offsets `off`. -/
def putAt {off : Fin 3 → ℕ} (h : ∀ a, off a + S1x896x2048.size a ≤ S2x896x16384.size a)
    (s : Vec F S2x896x16384 .fp8e5m2) (w : Vec F S1x896x2048 .fp8e5m2) : Vec F S2x896x16384 .fp8e5m2 :=
  fun y => if hy : ∀ a, off a ≤ (y a).val ∧ (y a).val < off a + S1x896x2048.size a then
    w (Rect.unitLocal (s := S2x896x16384) (off := off) (size := S1x896x2048.size) y hy) else s y

/-- The panel of transposed codes read from the scratch at offsets `off`. -/
def getAt {off : Fin 3 → ℕ} (h : ∀ a, off a + S1x896x16384.size a ≤ S2x896x16384.size a)
    (s : Vec F S2x896x16384 .fp8e5m2) : Vec F S1x896x16384 .fp8e5m2 :=
  fun x => s ((Rect.unit (s := S2x896x16384) off S1x896x16384.size h).emb x)

/-- The body in the first row of blocks. -/
theorem run_first (c : Dev nD) (i : grid1.Coords) (h1 : k1_cond1 i = 1#1) (h2 : ¬ k1_cond2 i = 1#1)
    (arg2 : Memref sig .tc .smem S1 .f32) (harg2 : arg2.IsWhole) (arg3 : Memref sig .tc .vmem S2048x896 .fp8e5m2) (harg3 : arg3.IsWhole)
    (arg4 : Memref sig .tc .vmem S16384x512 .fp8e4m3) (harg4 : arg4.IsWhole) (arg5 : Memref sig .tc .vmem S896x512 .f32) (harg5 : arg5.IsWhole)
    (arg6 : Memref sig .tc .vmem S896x512 .f32) (harg6 : arg6.IsWhole) (arg7 : Memref sig .tc .vmem S2x896x16384 .fp8e5m2) (harg7 : arg7.IsWhole)
    (x3 : Vec F S2048x896 .fp8e5m2) (s : Vec F S2x896x16384 .fp8e5m2) (E : Set ℕ) (K : PUnit → sProp 𝕄) :
    iprop(owns (c : Thread nD τ) arg3 fullShare x3 ∗ owns (c : Thread nD τ) arg7 fullShare s
        ∗ (iprop(owns (c : Thread nD τ) arg3 fullShare x3
            ∗ owns (c : Thread nD τ) arg7 fullShare (putAt (k1_off1_inb i h1) s (k1_pay1 x3))) -∗ K ⟨⟩))
      ⊢ wp frame (wpE (defs₀ (F := F)) Variants.none c none) E (cc1_wgrad i arg2 harg2 arg3 harg3 arg4 harg4 arg5 harg5 arg6 harg6 arg7 harg7) K := by
  simp only [cc1_wgrad_eq_skeleton]; unfold cc1_wgrad_skel
  unfold owns
  iintro ⟨⟨%f3, %hf3, H3⟩, ⟨%f7, %hf7, H7⟩, Hk⟩
  obtain rfl := harg3.eq_unread hf3
  sl_exec (disch := first | sl_exact h1 | sl_exact h2)
  sl_step
  iapply Hk
  isplitl [H3]
  · iexists _; isplitr; · ipureintro; exact harg3.read_unread _
    iexact H3
  iexists _; isplitr
  swap; · iexact H7
  ipureintro
  rw [View.readAt_full arg3.view, hf3]
  funext y
  refine (View.read_writes_cons_unit arg7.view f7 _ _ _ y rfl).trans ?_
  rw [View.writes_nil, hf7]; rfl

/-- The body in every later row of blocks. -/
theorem run_later (c : Dev nD) (i : grid1.Coords) (h1 : ¬ k1_cond1 i = 1#1) (h2 : k1_cond2 i = 1#1)
    (arg2 : Memref sig .tc .smem S1 .f32) (harg2 : arg2.IsWhole) (arg3 : Memref sig .tc .vmem S2048x896 .fp8e5m2) (harg3 : arg3.IsWhole)
    (arg4 : Memref sig .tc .vmem S16384x512 .fp8e4m3) (harg4 : arg4.IsWhole) (arg5 : Memref sig .tc .vmem S896x512 .f32) (harg5 : arg5.IsWhole)
    (arg6 : Memref sig .tc .vmem S896x512 .f32) (harg6 : arg6.IsWhole) (arg7 : Memref sig .tc .vmem S2x896x16384 .fp8e5m2) (harg7 : arg7.IsWhole)
    (x2 : Vec F S1 .f32) (x3 : Vec F S2048x896 .fp8e5m2) (x4 : Vec F S16384x512 .fp8e4m3) (x5 : Vec F S896x512 .f32)
    (s : Vec F S2x896x16384 .fp8e5m2) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d) ∗ owns (c : Thread nD τ) arg7 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg6 fullShare (k1_pay2 (k1_pay3 (getAt (k1_off2_inb i h2) s) x4) x5 (x2 at0))
            ∗ owns (c : Thread nD τ) arg7 fullShare (putAt (k1_off3_inb i h2) s (k1_pay4 x3))) -∗ K ⟨⟩))
      ⊢ wp frame (wpE (defs₀ (F := F)) Variants.none c none) E (cc1_wgrad i arg2 harg2 arg3 harg3 arg4 harg4 arg5 harg5 arg6 harg6 arg7 harg7) K := by
  simp only [cc1_wgrad_eq_skeleton]; unfold cc1_wgrad_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4; obtain rfl := harg5.eq_unread hf5
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (View.read_writes_full arg6.view f6 _ _ _).trans ?_
    rw [View.readAt_full, View.readAt_full, hf4, hf5]
    refine congrArg₂ (fun a b => k1_pay2 (k1_pay3 a x4) x5 b) (by rw [← hf7]; rfl) ?_
    unfold run_later.sl.r
    exact (congrFun hf2 _).trans (congrArg x2 (at0_unique _))
  iexists _; isplitr
  swap; · iexact H7
  ipureintro
  rw [View.readAt_full arg3.view, hf3]
  funext y
  refine (View.read_writes_cons_unit arg7.view f7 _ _ _ y rfl).trans ?_
  rw [View.writes_nil, hf7]; rfl

end Cert.Kernel.Hand
end
-- ==== Proof.DgradBody.lean ====
/-
  What the quantiser loop of the input-gradient kernel does, on any whole buffers: every unit stores the codes of its tile in the
  output block and in the scratch and takes its magnitudes into the running maximum, and after all units the block and the panel
  of the scratch hold the codes of the whole chunk.
-/
module

public import proofs.«01_k».proof.Proof.DgradUnit
public import proofs.«01_k».proof.Proof.WgradBody
public import Idealize.ShloMosaic.Lib.WritesUnit
public import Idealize.ShloMosaic.Lib.VecWindow
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile of a chunk at unit `rc`. -/
def tileAt (x : Vec F S128x14336 .bf16) (rc : Fin 4 × Fin 28) : Vec F S32x512 .bf16 :=
  fun k => x ((Rect.unit (s := S128x14336) (offC rc.1 rc.2) S32x512.size (offC_inb rc.1 rc.2)).emb k)

/-- The output block after the tile `w` was stored at unit `rc`. -/
def putC (rc : Fin 4 × Fin 28) (x : Vec F S128x14336 .fp8e5m2) (w : Vec F S32x512 .fp8e5m2) : Vec F S128x14336 .fp8e5m2 :=
  fun y => if hy : ∀ a, offC rc.1 rc.2 a ≤ (y a).val ∧ (y a).val < offC rc.1 rc.2 a + S32x512.size a then
    w (Rect.unitLocal (s := S128x14336) (off := offC rc.1 rc.2) (size := S32x512.size) y hy) else x y

/-- The scratch after the tile `w` was stored at unit `rc`. -/
def putQ (i : grid0.Coords) (rc : Fin 4 × Fin 28) (x : Vec F S2x1024x14336 .fp8e5m2) (w : Vec F S1x32x512 .fp8e5m2) :
    Vec F S2x1024x14336 .fp8e5m2 :=
  fun y => if hy : ∀ a, offQ i rc.1 rc.2 a ≤ (y a).val ∧ (y a).val < offQ i rc.1 rc.2 a + S1x32x512.size a then
    w (Rect.unitLocal (s := S2x1024x14336) (off := offQ i rc.1 rc.2) (size := S1x32x512.size) y hy) else x y

/-- The first of the two scalars. -/
def scal0 (x : Vec F S2 .f32) : Elt F .f32 := x ((Rect.unit (s := S2) ![0] S1.size inb_S2_S1_0).emb at0)

/-- One unit. -/
theorem run_unit (c : Dev nD) (i : grid0.Coords) (arg2 : Memref sig .tc .smem S2 .f32) (harg2 : arg2.IsWhole)
    (arg3 : Memref sig .tc .vmem S128x14336 .bf16) (harg3 : arg3.IsWhole)
    (arg6 : Memref sig .tc .vmem S128x14336 .fp8e5m2) (harg6 : arg6.IsWhole) (arg8 : Memref sig .tc .vmem S2x1024x14336 .fp8e5m2)
    (harg8 : arg8.IsWhole) (rc : Fin 4 × Fin 28) (m : FVec F S8x128 .f32)
    (x2 : Vec F S2 .f32) (x3 : Vec F S128x14336 .bf16) (x6 : Vec F S128x14336 .fp8e5m2) (x8 : Vec F S2x1024x14336 .fp8e5m2)
    (E : Set ℕ) (K : FVec F S8x128 .f32 → sProp 𝕄) :
    iprop(owns (c : Thread nD τ) arg2 fullShare x2 ∗ owns (c : Thread nD τ) arg3 fullShare x3
        ∗ owns (c : Thread nD τ) arg6 fullShare x6 ∗ owns (c : Thread nD τ) arg8 fullShare x8
        ∗ (iprop(owns (c : Thread nD τ) arg2 fullShare x2 ∗ owns (c : Thread nD τ) arg3 fullShare x3
            ∗ owns (c : Thread nD τ) arg6 fullShare (putC rc x6 (codeTile (tileAt x3 rc) (scal0 x2)))
            ∗ owns (c : Thread nD τ) arg8 fullShare (putQ i rc x8 (shapeCast S1x32x512 (codeTile (tileAt x3 rc) (scal0 x2)) shapeCasts_S32x512_S1x32x512)))
          -∗ K (maxTile m (absf (wide (tileAt x3 rc))))))
      ⊢ wp frame (wpE (defs₀ (F := F)) Variants.none c none) E (unitQ i arg2 arg3 arg6 harg6 arg8 harg8 rc m) K := by
  unfold unitQ
  unfold owns
  iintro ⟨⟨%f2, %hf2, H2⟩, ⟨%f3, %hf3, H3⟩, ⟨%f6, %hf6, H6⟩, ⟨%f8, %hf8, H8⟩, Hk⟩
  obtain rfl := harg2.eq_unread hf2; obtain rfl := harg3.eq_unread hf3
  have ht : View.readAt (Elt F) arg3.view (Rect.unit (s := S128x14336) (offC rc.1 rc.2) S32x512.size (offC_inb rc.1 rc.2)).toLoadRect
      (harg3.unread x3) = tileAt x3 rc := congrArg (fun z => tileAt z rc) hf3
  sl_exec
  sl_step
  have hs : run_unit.sl.r c arg2 harg2 x2 = scal0 x2 := by
    unfold run_unit.sl.r
    exact (congrFun hf2 _).trans (congrArg (fun z => x2 ((Rect.unit (s := S2) ![0] S1.size inb_S2_S1_0).emb z)) (at0_unique _))
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    rw [hs]
    funext y
    refine (View.read_writes_cons_unit arg6.view f6 _ _ _ y rfl).trans ?_
    rw [View.writes_nil, hf6]; rfl
  iexists _; isplitr
  swap; · iexact H8
  ipureintro
  rw [hs]
  funext y
  refine (View.read_writes_cons_unit arg8.view f8 _ _ _ y rfl).trans ?_
  rw [View.writes_nil, hf8]; rfl

/-- The output block after the units of a list. -/
def codesOf (x3 : Vec F S128x14336 .bf16) (s : Elt F .f32) (l : List (Fin 4 × Fin 28)) (x : Vec F S128x14336 .fp8e5m2) :
    Vec F S128x14336 .fp8e5m2 :=
  l.foldl (fun x rc => putC rc x (codeTile (tileAt x3 rc) s)) x

/-- The scratch after the units of a list. -/
def panelOf (i : grid0.Coords) (x3 : Vec F S128x14336 .bf16) (s : Elt F .f32) (l : List (Fin 4 × Fin 28))
    (x : Vec F S2x1024x14336 .fp8e5m2) : Vec F S2x1024x14336 .fp8e5m2 :=
  l.foldl (fun x rc => putQ i rc x (shapeCast S1x32x512 (codeTile (tileAt x3 rc) s) shapeCasts_S32x512_S1x32x512)) x

/-- The running maximum after the units of a list. -/
def maxOf (x3 : Vec F S128x14336 .bf16) (l : List (Fin 4 × Fin 28)) (m : FVec F S8x128 .f32) : FVec F S8x128 .f32 :=
  l.foldl (fun m rc => maxTile m (absf (wide (tileAt x3 rc)))) m

/-- The units of a list, one after the other. -/
theorem run_loop (c : Dev nD) (i : grid0.Coords) (arg2 : Memref sig .tc .smem S2 .f32) (harg2 : arg2.IsWhole)
    (arg3 : Memref sig .tc .vmem S128x14336 .bf16) (harg3 : arg3.IsWhole)
    (arg6 : Memref sig .tc .vmem S128x14336 .fp8e5m2) (harg6 : arg6.IsWhole) (arg8 : Memref sig .tc .vmem S2x1024x14336 .fp8e5m2)
    (harg8 : arg8.IsWhole) (x2 : Vec F S2 .f32) (x3 : Vec F S128x14336 .bf16)
    (E : Set ℕ) (K : FVec F S8x128 .f32 → sProp 𝕄) (l : List (Fin 4 × Fin 28)) :
    ∀ (m : FVec F S8x128 .f32) (x6 : Vec F S128x14336 .fp8e5m2) (x8 : Vec F S2x1024x14336 .fp8e5m2),
    iprop(owns (c : Thread nD τ) arg2 fullShare x2 ∗ owns (c : Thread nD τ) arg3 fullShare x3
        ∗ owns (c : Thread nD τ) arg6 fullShare x6 ∗ owns (c : Thread nD τ) arg8 fullShare x8
        ∗ (iprop(owns (c : Thread nD τ) arg2 fullShare x2 ∗ owns (c : Thread nD τ) arg3 fullShare x3
            ∗ owns (c : Thread nD τ) arg6 fullShare (codesOf x3 (scal0 x2) l x6)
            ∗ owns (c : Thread nD τ) arg8 fullShare (panelOf i x3 (scal0 x2) l x8))
          -∗ K (maxOf x3 l m)))
      ⊢ wp frame (wpE (defs₀ (F := F)) Variants.none c none) E (loopQ (unitQ i arg2 arg3 arg6 harg6 arg8 harg8) l m) K := by
  induction l with
  | nil =>
    intro m x6 x8
    unfold loopQ
    simp only [codesOf, panelOf, maxOf, List.foldl_nil]
    iintro ⟨H2, H3, H6, H8, Hk⟩
    sl_step
    iapply Hk
    isplitl [H2]; · iexact H2
    isplitl [H3]; · iexact H3
    isplitl [H6]; · iexact H6
    iexact H8
  | cons rc l ih =>
    intro m x6 x8
    unfold loopQ
    rw [wp_bind]
    iintro ⟨H2, H3, H6, H8, Hk⟩
    iapply (run_unit c i arg2 harg2 arg3 harg3 arg6 harg6 arg8 harg8 rc m x2 x3 x6 x8 E _)
    isplitl [H2]; · iexact H2
    isplitl [H3]; · iexact H3
    isplitl [H6]; · iexact H6
    isplitl [H8]; · iexact H8
    iintro ⟨H2, H3, H6, H8⟩
    iapply (ih _ _ _)
    isplitl [H2]; · iexact H2
    isplitl [H3]; · iexact H3
    isplitl [H6]; · iexact H6
    isplitl [H8]; · iexact H8
    iexact Hk

/-- The load of the running maximum. -/
theorem run_loadMax (c : Dev nD) (arg9 : Memref sig .tc .vmem S8x128 .f32) (harg9 : arg9.IsWhole) (x9 : Vec F S8x128 .f32) (E : Set ℕ)
    (K : FVec F S8x128 .f32 → sProp 𝕄) :
    iprop(owns (c : Thread nD τ) arg9 fullShare x9 ∗ (owns (c : Thread nD τ) arg9 fullShare x9 -∗ K x9))
      ⊢ wp frame (wpE (defs₀ (F := F)) Variants.none c none) E (loadMax arg9) K := by
  unfold loadMax owns
  iintro ⟨⟨%f9, %hf9, H9⟩, Hk⟩
  obtain rfl := harg9.eq_unread hf9
  have h9 : View.readAt (Elt F) arg9.view (Rect.unit (s := S8x128) ![0, 0] S8x128.size inb_S8x128_S8x128_0_0).toLoadRect
      (harg9.unread x9) = x9 := (View.readAt_full _ _ _).trans hf9
  sl_exec
  sl_step
  iapply Hk
  iexists _; isplitr; · ipureintro; exact harg9.read_unread _
  iexact H9

/-- The store of the running maximum. -/
theorem run_storeMax (c : Dev nD) (arg9 : Memref sig .tc .vmem S8x128 .f32) (harg9 : arg9.IsWhole) (x9 : Vec F S8x128 .f32)
    (m : FVec F S8x128 .f32) (E : Set ℕ) (K : PUnit → sProp 𝕄) :
    iprop(owns (c : Thread nD τ) arg9 fullShare x9 ∗ (owns (c : Thread nD τ) arg9 fullShare m -∗ K ⟨⟩))
      ⊢ wp frame (wpE (defs₀ (F := F)) Variants.none c none) E (storeMax arg9 m) K := by
  unfold storeMax owns
  iintro ⟨⟨%f9, %hf9, H9⟩, Hk⟩
  sl_exec
  sl_step
  iapply Hk
  iexists _; isplitr
  swap; · iexact H9
  ipureintro
  refine (View.read_writes_full arg9.view _ _ _ _).trans ?_
  rw [shapeCast_self]

/-- The reset of the running maximum. -/
theorem run_resetMax (c : Dev nD) (arg9 : Memref sig .tc .vmem S8x128 .f32) (harg9 : arg9.IsWhole) (x9 : Vec F S8x128 .f32)
    (E : Set ℕ) (K : PUnit → sProp 𝕄) :
    iprop(owns (c : Thread nD τ) arg9 fullShare x9 ∗ (owns (c : Thread nD τ) arg9 fullShare (k0_pay1 (F := F)) -∗ K ⟨⟩))
      ⊢ wp frame (wpE (defs₀ (F := F)) Variants.none c none) E (resetMax arg9) K := by
  unfold resetMax owns
  iintro ⟨⟨%f9, %hf9, H9⟩, Hk⟩
  sl_exec
  sl_step
  iapply Hk
  iexists _; isplitr
  swap; · iexact H9
  ipureintro
  exact View.read_writes_full arg9.view _ _ _ _

/-- The reduction of the running maximum. -/
theorem run_reduceMax (c : Dev nD) (arg7 : Memref sig .tc .vmem S1x1 .f32) (harg7 : arg7.IsWhole)
    (arg9 : Memref sig .tc .vmem S8x128 .f32) (harg9 : arg9.IsWhole) (x7 : Vec F S1x1 .f32) (x9 : Vec F S8x128 .f32)
    (E : Set ℕ) (K : PUnit → sProp 𝕄) :
    iprop(owns (c : Thread nD τ) arg7 fullShare x7 ∗ owns (c : Thread nD τ) arg9 fullShare x9
        ∗ (iprop(owns (c : Thread nD τ) arg7 fullShare (k0_pay3 x9) ∗ owns (c : Thread nD τ) arg9 fullShare x9) -∗ K ⟨⟩))
      ⊢ wp frame (wpE (defs₀ (F := F)) Variants.none c none) E (reduceMax arg7 arg9) K := by
  unfold reduceMax owns
  iintro ⟨⟨%f7, %hf7, H7⟩, ⟨%f9, %hf9, H9⟩, Hk⟩
  obtain rfl := harg9.eq_unread hf9
  have h9 : View.readAt (Elt F) arg9.view (Rect.unit (s := S8x128) ![0, 0] S8x128.size inb_S8x128_S8x128_0_0).toLoadRect
      (harg9.unread x9) = x9 := (View.readAt_full _ _ _).trans hf9
  sl_exec
  sl_step
  iapply Hk
  isplitl [H7]
  · iexists _; isplitr
    swap; · iexact H7
    ipureintro
    exact View.read_writes_full arg7.view _ _ _ _
  iexists _; isplitr; · ipureintro; exact harg9.read_unread _
  iexact H9

/-- The panel of the scratch that a later row multiplies. -/
def otherPanel (i : grid0.Coords) (h3 : k0_cond3 i = 1#1) (x8 : Vec F S2x1024x14336 .fp8e5m2) : Vec F S1x1024x14336 .fp8e5m2 :=
  fun k => x8 ((Rect.unit (s := S2x1024x14336) (k0_off29 i) S1x1024x14336.size (k0_off29_inb i h3)).emb k)

/-- The load of the other panel. -/
theorem run_loadPanel (c : Dev nD) (i : grid0.Coords) (h3 : k0_cond3 i = 1#1) (arg8 : Memref sig .tc .vmem S2x1024x14336 .fp8e5m2)
    (harg8 : arg8.IsWhole) (x8 : Vec F S2x1024x14336 .fp8e5m2) (E : Set ℕ) (K : Vec F S1x1024x14336 .fp8e5m2 → sProp 𝕄) :
    iprop(owns (c : Thread nD τ) arg8 fullShare x8 ∗ (owns (c : Thread nD τ) arg8 fullShare x8 -∗ K (otherPanel i h3 x8)))
      ⊢ wp frame (wpE (defs₀ (F := F)) Variants.none c none) E (loadPanel i arg8 h3) K := by
  unfold loadPanel owns
  iintro ⟨⟨%f8, %hf8, H8⟩, Hk⟩
  obtain rfl := harg8.eq_unread hf8
  have h8 : View.readAt (Elt F) arg8.view (Rect.unit (s := S2x1024x14336) (k0_off29 i) S1x1024x14336.size (k0_off29_inb i h3)).toLoadRect
      (harg8.unread x8) = otherPanel i h3 x8 := congrArg (fun z => otherPanel i h3 z) hf8
  sl_exec
  sl_step
  iapply Hk
  iexists _; isplitr; · ipureintro; exact harg8.read_unread _
  iexact H8

/-- The load of a panel of the weights. -/
theorem run_loadWeights (c : Dev nD) (arg4 : Memref sig .tc .vmem S14336x512 .fp8e4m3)
    (harg4 : arg4.IsWhole) (x4 : Vec F S14336x512 .fp8e4m3) (E : Set ℕ) (K : Vec F S14336x512 .fp8e4m3 → sProp 𝕄) :
    iprop(owns (c : Thread nD τ) arg4 fullShare x4 ∗ (owns (c : Thread nD τ) arg4 fullShare x4 -∗ K x4))
      ⊢ wp frame (wpE (defs₀ (F := F)) Variants.none c none) E (loadWeights arg4) K := by
  unfold loadWeights owns
  iintro ⟨⟨%f4, %hf4, H4⟩, Hk⟩
  obtain rfl := harg4.eq_unread hf4
  have h4 : View.readAt (Elt F) arg4.view (Rect.unit (s := S14336x512) ![0, 0] S14336x512.size inb_S14336x512_S14336x512_0_0).toLoadRect
      (harg4.unread x4) = x4 := (View.readAt_full _ _ _).trans hf4
  sl_exec
  sl_step
  iapply Hk
  iexists _; isplitr; · ipureintro; exact harg4.read_unread _
  iexact H4

/-- The second of the two scalars. -/
def scal1 (x : Vec F S2 .f32) : Elt F .f32 := x ((Rect.unit (s := S2) ![1] S1.size inb_S2_S1_1).emb at0)

/-- The store of a product under the second scalar. -/
theorem run_storeProduct (c : Dev nD) (arg2 : Memref sig .tc .smem S2 .f32) (harg2 : arg2.IsWhole)
    (arg5 : Memref sig .tc .vmem S1024x512 .bf16) (harg5 : arg5.IsWhole) (x2 : Vec F S2 .f32) (x5 : Vec F S1024x512 .bf16)
    (v31 : FVec F S1024x512 .f32) (E : Set ℕ) (K : PUnit → sProp 𝕄) :
    iprop(owns (c : Thread nD τ) arg2 fullShare x2 ∗ owns (c : Thread nD τ) arg5 fullShare x5
        ∗ (iprop(owns (c : Thread nD τ) arg2 fullShare x2
            ∗ owns (c : Thread nD τ) arg5 fullShare (k0_pay2 v31 (broadcast S1024x512 (scal1 x2)))) -∗ K ⟨⟩))
      ⊢ wp frame (wpE (defs₀ (F := F)) Variants.none c none) E (storeProduct arg2 arg5 harg5 v31) K := by
  unfold storeProduct owns
  iintro ⟨⟨%f2, %hf2, H2⟩, ⟨%f5, %hf5, H5⟩, Hk⟩
  obtain rfl := harg2.eq_unread hf2
  sl_exec
  sl_step
  have hs : run_storeProduct.sl.r c arg2 harg2 x2 = scal1 x2 := by
    unfold run_storeProduct.sl.r
    exact (congrFun hf2 _).trans (congrArg (fun z => x2 ((Rect.unit (s := S2) ![1] S1.size inb_S2_S1_1).emb z)) (at0_unique _))
  iapply Hk
  isplitl [H2]
  · iexists _; isplitr; · ipureintro; exact harg2.read_unread _
    iexact H2
  iexists _; isplitr
  swap; · iexact H5
  ipureintro
  rw [hs]
  exact View.read_writes_full arg5.view _ _ _ _

/-- The units of a list between the load and the store of the running maximum. -/
theorem run_quantiseOver (l : List (Fin 4 × Fin 28)) (c : Dev nD) (i : grid0.Coords) (arg2 : Memref sig .tc .smem S2 .f32) (harg2 : arg2.IsWhole)
    (arg3 : Memref sig .tc .vmem S128x14336 .bf16) (harg3 : arg3.IsWhole)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) (harg9 : arg9.IsWhole)
    (x2 : Vec F S2 .f32) (x3 : Vec F S128x14336 .bf16) (x6 : Vec F S128x14336 .fp8e5m2) (x8 : Vec F S2x1024x14336 .fp8e5m2)
    (x9 : Vec F S8x128 .f32) (E : Set ℕ) (K : PUnit → sProp 𝕄) :
    iprop(owns (c : Thread nD τ) arg2 fullShare x2 ∗ owns (c : Thread nD τ) arg3 fullShare x3
        ∗ owns (c : Thread nD τ) arg6 fullShare x6 ∗ owns (c : Thread nD τ) arg8 fullShare x8 ∗ owns (c : Thread nD τ) arg9 fullShare x9
        ∗ (iprop(owns (c : Thread nD τ) arg2 fullShare x2 ∗ owns (c : Thread nD τ) arg3 fullShare x3
            ∗ owns (c : Thread nD τ) arg6 fullShare (codesOf x3 (scal0 x2) l x6)
            ∗ owns (c : Thread nD τ) arg8 fullShare (panelOf i x3 (scal0 x2) l x8)
            ∗ owns (c : Thread nD τ) arg9 fullShare (maxOf x3 l x9))
          -∗ K ⟨⟩))
      ⊢ wp frame (wpE (defs₀ (F := F)) Variants.none c none) E (quantiseOver l i arg2 arg3 arg6 harg6 arg8 harg8 arg9) K := by
  unfold quantiseOver
  rw [wp_bind]
  iintro ⟨H2, H3, H6, H8, H9, Hk⟩
  iapply (run_loadMax c arg9 harg9 x9 E _)
  isplitl [H9]; · iexact H9
  iintro H9
  rw [wp_bind]
  iapply (run_loop c i arg2 harg2 arg3 harg3 arg6 harg6 arg8 harg8 x2 x3 E _ l _ x6 x8)
  isplitl [H2]; · iexact H2
  isplitl [H3]; · iexact H3
  isplitl [H6]; · iexact H6
  isplitl [H8]; · iexact H8
  iintro ⟨H2, H3, H6, H8⟩
  iapply (run_storeMax c arg9 harg9 x9 _ E _)
  isplitl [H9]; · iexact H9
  iintro H9
  iapply Hk
  isplitl [H2]; · iexact H2
  isplitl [H3]; · iexact H3
  isplitl [H6]; · iexact H6
  isplitl [H8]; · iexact H8
  iexact H9

/-- The first step of the body: the reset at the first point. -/
theorem stage_reset (c : Dev nD) (i : grid0.Coords) (arg9 : Memref sig .tc .vmem S8x128 .f32) (harg9 : arg9.IsWhole)
    (x9 : Vec F S8x128 .f32) (E : Set ℕ) (K : PUnit → sProp 𝕄) :
    iprop(owns (c : Thread nD τ) arg9 fullShare x9
        ∗ (owns (c : Thread nD τ) arg9 fullShare (if cond1 i = 1#1 then k0_pay1 (F := F) else x9) -∗ K ⟨⟩))
      ⊢ wp frame (wpE (defs₀ (F := F)) Variants.none c none) E (if h1 : cond1 i = 1#1 then resetMax arg9 else pure ⟨⟩) K := by
  by_cases h : cond1 i = 1#1
  · rw [dif_pos h, if_pos h]; exact run_resetMax c arg9 harg9 x9 E K
  · rw [dif_neg h, if_neg h]
    iintro ⟨H9, Hk⟩
    sl_step
    iapply Hk
    iexact H9

/-- The last step of the body: the reduced maximum at the last point. -/
theorem stage_reduce (c : Dev nD) (i : grid0.Coords) (arg7 : Memref sig .tc .vmem S1x1 .f32) (harg7 : arg7.IsWhole)
    (arg9 : Memref sig .tc .vmem S8x128 .f32) (harg9 : arg9.IsWhole) (x7 : Vec F S1x1 .f32) (x9 : Vec F S8x128 .f32)
    (E : Set ℕ) (K : PUnit → sProp 𝕄) :
    iprop(owns (c : Thread nD τ) arg7 fullShare x7 ∗ owns (c : Thread nD τ) arg9 fullShare x9
        ∗ (iprop(owns (c : Thread nD τ) arg7 fullShare (if k0_cond4 i = 1#1 then k0_pay3 x9 else x7)
            ∗ owns (c : Thread nD τ) arg9 fullShare x9) -∗ K ⟨⟩))
      ⊢ wp frame (wpE (defs₀ (F := F)) Variants.none c none) E (if h4 : k0_cond4 i = 1#1 then reduceMax arg7 arg9 else pure ⟨⟩) K := by
  by_cases h : k0_cond4 i = 1#1
  · rw [dif_pos h, if_pos h]; exact run_reduceMax c arg7 harg7 arg9 harg9 x7 x9 E K
  · rw [dif_neg h, if_neg h]
    iintro ⟨H7, H9, Hk⟩
    sl_step
    iapply Hk
    isplitl [H7]; · iexact H7
    iexact H9

/-- The body of the input-gradient kernel at any point: the codes of the chunk in the output block and in the scratch, the
running maximum, in later rows the product of the other panel, and at the last point the reduced maximum. -/
theorem run_rolled (c : Dev nD) (i : grid0.Coords) (hx : (k0_cond2 i = 1#1 ∧ ¬ k0_cond3 i = 1#1) ∨ (¬ k0_cond2 i = 1#1 ∧ k0_cond3 i = 1#1))
    (arg2 : Memref sig .tc .smem S2 .f32) (harg2 : arg2.IsWhole)
    (arg3 : Memref sig .tc .vmem S128x14336 .bf16) (harg3 : arg3.IsWhole) (arg4 : Memref sig .tc .vmem S14336x512 .fp8e4m3)
    (harg4 : arg4.IsWhole) (arg5 : Memref sig .tc .vmem S1024x512 .bf16) (harg5 : arg5.IsWhole)
    (arg6 : Memref sig .tc .vmem S128x14336 .fp8e5m2) (harg6 : arg6.IsWhole) (arg7 : Memref sig .tc .vmem S1x1 .f32) (harg7 : arg7.IsWhole)
    (arg8 : Memref sig .tc .vmem S2x1024x14336 .fp8e5m2) (harg8 : arg8.IsWhole)
    (arg9 : Memref sig .tc .vmem S8x128 .f32) (harg9 : arg9.IsWhole)
    (x2 : Vec F S2 .f32) (x3 : Vec F S128x14336 .bf16) (x4 : Vec F S14336x512 .fp8e4m3) (x5 : Vec F S1024x512 .bf16)
    (x6 : Vec F S128x14336 .fp8e5m2) (x7 : Vec F S1x1 .f32) (x8 : Vec F S2x1024x14336 .fp8e5m2)
    (x9 : Vec F S8x128 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (iprop(owns (c : Thread nD τ) arg2 fullShare x2 ∗ owns (c : Thread nD τ) arg3 fullShare x3 ∗ owns (c : Thread nD τ) arg4 fullShare x4
            ∗ owns (c : Thread nD τ) arg5 fullShare
                (if h : k0_cond3 i = 1#1 then k0_pay2 (k0_pay677 (otherPanel i h x8) x4) (broadcast S1024x512 (scal1 x2)) else x5)
            ∗ owns (c : Thread nD τ) arg6 fullShare (codesOf x3 (scal0 x2) units x6)
            ∗ owns (c : Thread nD τ) arg7 fullShare
                (if k0_cond4 i = 1#1 then k0_pay3 (maxOf x3 units (if cond1 i = 1#1 then k0_pay1 else x9)) else x7)
            ∗ owns (c : Thread nD τ) arg8 fullShare (panelOf i x3 (scal0 x2) units x8)
            ∗ owns (c : Thread nD τ) arg9 fullShare (maxOf x3 units (if cond1 i = 1#1 then k0_pay1 else x9)))
          -∗ K ⟨⟩))
      ⊢ wp frame (wpE (defs₀ (F := F)) Variants.none c none) E
          (rolled i arg2 arg3 arg4 arg5 harg5 arg6 harg6 arg7 arg8 harg8 arg9) K := by
  unfold rolled
  rw [wp_bind]
  iintro ⟨H2, H3, H4, H5, H6, H7, H8, H9, Hk⟩
  iapply (stage_reset c i arg9 harg9 x9 E _)
  isplitl [H9]; · iexact H9
  iintro H9
  generalize (if cond1 i = 1#1 then k0_pay1 else x9) = m9
  rw [wp_bind]
  rcases hx with ⟨h2, h3⟩ | ⟨h2, h3⟩
  · rw [dif_pos h2]
    iapply (run_quantiseOver units c i arg2 harg2 arg3 harg3 arg6 harg6 arg8 harg8 arg9 harg9 x2 x3 x6 x8 m9 E _)
    isplitl [H2]; · iexact H2
    isplitl [H3]; · iexact H3
    isplitl [H6]; · iexact H6
    isplitl [H8]; · iexact H8
    isplitl [H9]; · iexact H9
    iintro ⟨H2, H3, H6, H8, H9⟩
    rw [wp_bind, dif_neg h3, dif_neg h3]
    sl_step
    rw [wp_bind]
    iapply (stage_reduce c i arg7 harg7 arg9 harg9 x7 _ E _)
    isplitl [H7]; · iexact H7
    isplitl [H9]; · iexact H9
    iintro ⟨H7, H9⟩
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [dif_neg h2]
    sl_step
    rw [wp_bind, dif_pos h3, dif_pos h3]
    unfold product
    rw [wp_bind]
    iapply (run_loadPanel c i h3 arg8 harg8 x8 E _)
    isplitl [H8]; · iexact H8
    iintro H8
    rw [wp_bind]
    iapply (run_loadWeights c arg4 harg4 x4 E _)
    isplitl [H4]; · iexact H4
    iintro H4
    rw [wp_bind]
    iapply (run_quantiseOver units c i arg2 harg2 arg3 harg3 arg6 harg6 arg8 harg8 arg9 harg9 x2 x3 x6 x8 m9 E _)
    isplitl [H2]; · iexact H2
    isplitl [H3]; · iexact H3
    isplitl [H6]; · iexact H6
    isplitl [H8]; · iexact H8
    isplitl [H9]; · iexact H9
    iintro ⟨H2, H3, H6, H8, H9⟩
    iapply (run_storeProduct c arg2 harg2 arg5 harg5 x2 x5 _ E _)
    isplitl [H2]; · iexact H2
    isplitl [H5]; · iexact H5
    iintro ⟨H2, H5⟩
    rw [wp_bind]
    iapply (stage_reduce c i arg7 harg7 arg9 harg9 x7 _ E _)
    isplitl [H7]; · iexact H7
    isplitl [H9]; · iexact H9
    iintro ⟨H7, H9⟩
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.Kernel.Hand
end
-- ==== Proof.DgradFold.lean ====
/-
  The quantiser's loop as a whole: after all units the output block is the codes of the chunk, and the scratch holds them in the
  rows of the point.
-/
module

public import proofs.«01_k».proof.Proof.DgradBody
public import Idealize.ShloMosaic.Lib.ValueLayout
public import Idealize.ShloMosaic.Lib.Pointwise.Index
public import Idealize.ShloMosaic.Lib.WritesUnit
public import Idealize.ShloMosaic.Lib.VecWindow
public import Idealize.ShloMosaic.Lib.Pipeline.Value

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The codes of a whole chunk under the scale `s`. -/
def codeBlock (x : Vec F S128x14336 .bf16) (s : Elt F .f32) : FVec F S128x14336 .fp8e5m2 :=
  truncf .fp8e5m2 (minimumf (broadcast S128x14336 (Scalar.ofBits .f32 0x47600000#32 : F .f32))
    (maximumf (broadcast S128x14336 (Scalar.ofBits .f32 0xC7600000#32 : F .f32))
      (mulf (extf .f32 (x : FVec F S128x14336 .bf16) bitsLt_bf16_f32) (broadcast S128x14336 s)))) bitsLt_fp8e5m2_f32

/-- The codes of a tile are those of the chunk there. -/
theorem codeTile_apply (x : Vec F S128x14336 .bf16) (s : Elt F .f32) (rc : Fin 4 × Fin 28) (k : S32x512.Idx) :
    codeTile (tileAt x rc) s k
      = codeBlock x s ((Rect.unit (s := S128x14336) (offC rc.1 rc.2) S32x512.size (offC_inb rc.1 rc.2)).emb k) := by
  unfold codeTile wide
  rw [shapeCast_self]
  rfl

/-- The unit that covers an index of the chunk. -/
def unitOf (a : Fin 128) (b : Fin 14336) : Fin 4 × Fin 28 :=
  (⟨a.val / 32, by have := a.isLt; omega⟩, ⟨b.val / 512, by have := b.isLt; omega⟩)

/-- When an element of the chunk lies in a tile. -/
theorem covers_iff (rc : Fin 4 × Fin 28) (y : S128x14336.Idx) :
    (∀ a, offC rc.1 rc.2 a ≤ (y a).val ∧ (y a).val < offC rc.1 rc.2 a + S32x512.size a) ↔ rc = unitOf (y 0) (y 1) := by
  constructor
  · intro h
    have h0 : 32 * rc.1.val ≤ (y 0).val ∧ (y 0).val < 32 * rc.1.val + 32 := h 0
    have h1 : 512 * rc.2.val ≤ (y 1).val ∧ (y 1).val < 512 * rc.2.val + 512 := h 1
    refine Prod.ext (Fin.ext ?_) (Fin.ext ?_)
    · show rc.1.val = (y 0).val / 32; omega
    · show rc.2.val = (y 1).val / 512; omega
  · intro h
    have e0 : rc.1.val = (y 0).val / 32 := congrArg (fun z => z.1.val) h
    have e1 : rc.2.val = (y 1).val / 512 := congrArg (fun z => z.2.val) h
    intro a
    fin_cases a
    · show 32 * rc.1.val ≤ (y 0).val ∧ (y 0).val < 32 * rc.1.val + 32; omega
    · show 512 * rc.2.val ≤ (y 1).val ∧ (y 1).val < 512 * rc.2.val + 512; omega

/-- The output block after the units of a list: codes where a unit of the list covers the index, what was there elsewhere. -/
theorem codesOf_apply (x3 : Vec F S128x14336 .bf16) (s : Elt F .f32) (l : List (Fin 4 × Fin 28)) :
    ∀ (x : Vec F S128x14336 .fp8e5m2) (y : S128x14336.Idx),
      codesOf x3 s l x y = if unitOf (y 0) (y 1) ∈ l then codeBlock x3 s y else x y := by
  induction l with
  | nil => intro x y; simp [codesOf]
  | cons rc l ih =>
    intro x y
    show codesOf x3 s l (putC rc x (codeTile (tileAt x3 rc) s)) y = _
    rw [ih]
    by_cases hl : unitOf (y 0) (y 1) ∈ l
    · rw [if_pos hl, if_pos (List.mem_cons_of_mem _ hl)]
    · rw [if_neg hl]
      unfold putC
      by_cases hr : rc = unitOf (y 0) (y 1)
      · have hy := (covers_iff rc y).mpr hr
        rw [dif_pos hy, if_pos (by rw [← hr]; exact List.mem_cons_self), codeTile_apply]
        refine congrArg (codeBlock x3 s) (funext fun a => Fin.ext ?_)
        rw [Rect.emb_apply]
        have := (hy a).1
        simp [Rect.unitLocal_val]
        omega
      · rw [dif_neg (fun hy => hr ((covers_iff rc y).mp hy)), if_neg]
        intro h
        rcases List.mem_cons.mp h with h | h
        · exact hr h.symm
        · exact hl h

/-- The list of tiles has every tile. -/
theorem mem_units : ∀ rc : Fin 4 × Fin 28, rc ∈ units := by decide +kernel

/-- After all units the output block is the codes of the chunk. -/
theorem codesOf_units (x3 : Vec F S128x14336 .bf16) (s : Elt F .f32) (x : Vec F S128x14336 .fp8e5m2) :
    codesOf x3 s units x = codeBlock x3 s := by
  funext y
  rw [codesOf_apply, if_pos (mem_units _)]

/-- The row of a chunk that a row of the scratch's panel holds. -/
def chunkRow (a : Fin 1024) : Fin 128 := ⟨a.val % 128, Nat.mod_lt _ (by decide)⟩

/-- When an element of the panel lies in a tile's place. -/
theorem coversQ_iff (i : grid0.Coords) (rc : Fin 4 × Fin 28) (y : S2x1024x14336.Idx) :
    (∀ a, offQ i rc.1 rc.2 a ≤ (y a).val ∧ (y a).val < offQ i rc.1 rc.2 a + S1x32x512.size a)
      ↔ ((y 0).val = (i 0).val % 2 ∧ (y 1).val / 128 = (i 1).val) ∧ rc = unitOf (chunkRow (y 1)) (y 2) := by
  rw [offQ_eq]
  have hr := rc.1.isLt
  have hc := rc.2.isLt
  constructor
  · intro h
    have h0 : (i 0).val % 2 ≤ (y 0).val ∧ (y 0).val < (i 0).val % 2 + 1 := h 0
    have h1 : 128 * (i 1).val + 32 * rc.1.val ≤ (y 1).val ∧ (y 1).val < 128 * (i 1).val + 32 * rc.1.val + 32 := h 1
    have h2 : 512 * rc.2.val ≤ (y 2).val ∧ (y 2).val < 512 * rc.2.val + 512 := h 2
    refine ⟨⟨by omega, by omega⟩, Prod.ext (Fin.ext ?_) (Fin.ext ?_)⟩
    · show rc.1.val = (y 1).val % 128 / 32; omega
    · show rc.2.val = (y 2).val / 512; omega
  · rintro ⟨⟨h0, h1⟩, h⟩
    have e0 : rc.1.val = (y 1).val % 128 / 32 := congrArg (fun z => z.1.val) h
    have e1 : rc.2.val = (y 2).val / 512 := congrArg (fun z => z.2.val) h
    intro a
    fin_cases a
    · show (i 0).val % 2 ≤ (y 0).val ∧ (y 0).val < (i 0).val % 2 + 1; omega
    · show 128 * (i 1).val + 32 * rc.1.val ≤ (y 1).val ∧ (y 1).val < 128 * (i 1).val + 32 * rc.1.val + 32; omega
    · show 512 * rc.2.val ≤ (y 2).val ∧ (y 2).val < 512 * rc.2.val + 512; omega

/-- The scratch after the units of a list: codes of the chunk where a unit of the list covers the index, what was there
elsewhere. -/
theorem panelOf_apply (i : grid0.Coords) (x3 : Vec F S128x14336 .bf16) (s : Elt F .f32) (l : List (Fin 4 × Fin 28)) :
    ∀ (x : Vec F S2x1024x14336 .fp8e5m2) (y : S2x1024x14336.Idx),
      panelOf i x3 s l x y
        = if ((y 0).val = (i 0).val % 2 ∧ (y 1).val / 128 = (i 1).val) ∧ unitOf (chunkRow (y 1)) (y 2) ∈ l
          then codeBlock x3 s (ix2 (chunkRow (y 1)) (y 2)) else x y := by
  induction l with
  | nil => intro x y; simp [panelOf]
  | cons rc l ih =>
    intro x y
    show panelOf i x3 s l (putQ i rc x (shapeCast S1x32x512 (codeTile (tileAt x3 rc) s) shapeCasts_S32x512_S1x32x512)) y = _
    rw [ih]
    by_cases hp : (y 0).val = (i 0).val % 2 ∧ (y 1).val / 128 = (i 1).val
    · by_cases hl : unitOf (chunkRow (y 1)) (y 2) ∈ l
      · rw [if_pos ⟨hp, hl⟩, if_pos ⟨hp, List.mem_cons_of_mem _ hl⟩]
      · rw [if_neg (fun h => hl h.2)]
        unfold putQ
        by_cases hr : rc = unitOf (chunkRow (y 1)) (y 2)
        · have hy := (coversQ_iff i rc y).mpr ⟨hp, hr⟩
          rw [dif_pos hy, if_pos ⟨hp, by rw [← hr]; exact List.mem_cons_self⟩]
          have e := offQ_eq i rc.1 rc.2
          have hy1 : 128 * (i 1).val + 32 * rc.1.val ≤ (y 1).val := by have := (hy 1).1; rw [e] at this; exact this
          have hy2 : 512 * rc.2.val ≤ (y 2).val := by have := (hy 2).1; rw [e] at this; exact this
          have v1 : ((Rect.unitLocal (s := S2x1024x14336) (off := offQ i rc.1 rc.2) (size := S1x32x512.size) y hy) 1).val
              = (y 1).val - (128 * (i 1).val + 32 * rc.1.val) := by rw [Rect.unitLocal_val, e]; rfl
          have v2 : ((Rect.unitLocal (s := S2x1024x14336) (off := offQ i rc.1 rc.2) (size := S1x32x512.size) y hy) 2).val
              = (y 2).val - 512 * rc.2.val := by rw [Rect.unitLocal_val, e]; rfl
          generalize Rect.unitLocal (s := S2x1024x14336) (off := offQ i rc.1 rc.2) (size := S1x32x512.size) y hy = z at v1 v2
          rw [show z = ix3 (0 : Fin 1) (z 1 : Fin 32) (z 2 : Fin 512) from by
            funext a; fin_cases a
            · exact Subsingleton.elim (α := Fin 1) _ _
            · rfl
            · rfl]
          refine (ValueIdx.shapeCast_ab_1ab_apply _ _ _ _ _).trans ?_
          rw [codeTile_apply]
          refine congrArg (codeBlock x3 s) (funext fun a => Fin.ext ?_)
          rw [Rect.emb_apply]
          fin_cases a
          · show 32 * rc.1.val + 1 * (z 1).val = (y 1).val % 128; rw [v1]; omega
          · show 512 * rc.2.val + 1 * (z 2).val = (y 2).val; rw [v2]; omega
        · rw [dif_neg (fun hy => hr ((coversQ_iff i rc y).mp hy).2), if_neg]
          rintro ⟨-, h⟩
          rcases List.mem_cons.mp h with h | h
          · exact hr h.symm
          · exact hl h
    · rw [if_neg (fun h => hp h.1), if_neg (fun h => hp h.1)]
      unfold putQ
      rw [dif_neg (fun hy => hp ((coversQ_iff i rc y).mp hy).1)]

/-- After all units the point's rows of the point's panel are the codes of the chunk. -/
theorem panelOf_units (i : grid0.Coords) (x3 : Vec F S128x14336 .bf16) (s : Elt F .f32) (x : Vec F S2x1024x14336 .fp8e5m2)
    (y : S2x1024x14336.Idx) :
    panelOf i x3 s units x y
      = if (y 0).val = (i 0).val % 2 ∧ (y 1).val / 128 = (i 1).val then codeBlock x3 s (ix2 (chunkRow (y 1)) (y 2)) else x y := by
  rw [panelOf_apply]
  by_cases hp : (y 0).val = (i 0).val % 2 ∧ (y 1).val / 128 = (i 1).val
  · rw [if_pos ⟨hp, mem_units _⟩, if_pos hp]
  · rw [if_neg (fun h => hp h.1), if_neg hp]

end Cert.Kernel.Hand
end
-- ==== Proof.DgradRoll.lean ====
/-
  The quantiser of the input-gradient kernel is printed unrolled: 112 units, one for each of the four groups of 32 rows and each
  of the 28 groups of 512 columns of the chunk. Here one unit is a program, the quantiser is a loop of it over the units, and the
  printed program is that loop, by unfolding.
-/
module

public import proofs.«01_k».proof.Proof.DgradUnit
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The printed body is the body with the loop. -/
theorem dgrad_eq_do (i : grid0.Coords) (arg2 : Memref sig .tc .smem S2 .f32) (harg2 : arg2.IsWhole) (arg3 : Memref sig .tc .vmem S128x14336 .bf16) (harg3 : arg3.IsWhole) (arg4 : Memref sig .tc .vmem S14336x512 .fp8e4m3) (harg4 : arg4.IsWhole) (arg5 : Memref sig .tc .vmem S1024x512 .bf16) (harg5 : arg5.IsWhole) (arg6 : Memref sig .tc .vmem S128x14336 .fp8e5m2) (harg6 : arg6.IsWhole) (arg7 : Memref sig .tc .vmem S1x1 .f32) (harg7 : arg7.IsWhole) (arg8 : Memref sig .tc .vmem S2x1024x14336 .fp8e5m2) (harg8 : arg8.IsWhole) (arg9 : Memref sig .tc .vmem S8x128 .f32) (harg9 : arg9.IsWhole) :
    cc0_dgrad (F := F) i arg2 harg2 arg3 harg3 arg4 harg4 arg5 harg5 arg6 harg6 arg7 harg7 arg8 harg8 arg9 harg9
      = rolledDo i arg2 arg3 arg4 arg5 harg5 arg6 harg6 arg7 arg8 harg8 arg9 := by
  sl_kernel_rfl

/-- The branches one after the other are a chain. -/
theorem rolledDo_eq (i : grid0.Coords) (arg2 : Memref sig .tc .smem S2 .f32) (harg2 : arg2.IsWhole) (arg3 : Memref sig .tc .vmem S128x14336 .bf16) (harg3 : arg3.IsWhole) (arg4 : Memref sig .tc .vmem S14336x512 .fp8e4m3) (harg4 : arg4.IsWhole) (arg5 : Memref sig .tc .vmem S1024x512 .bf16) (harg5 : arg5.IsWhole) (arg6 : Memref sig .tc .vmem S128x14336 .fp8e5m2) (harg6 : arg6.IsWhole) (arg7 : Memref sig .tc .vmem S1x1 .f32) (harg7 : arg7.IsWhole) (arg8 : Memref sig .tc .vmem S2x1024x14336 .fp8e5m2) (harg8 : arg8.IsWhole) (arg9 : Memref sig .tc .vmem S8x128 .f32) (harg9 : arg9.IsWhole) :
    rolledDo (F := F) i arg2 arg3 arg4 arg5 harg5 arg6 harg6 arg7 arg8 harg8 arg9
      = rolled i arg2 arg3 arg4 arg5 harg5 arg6 harg6 arg7 arg8 harg8 arg9 := by
  unfold rolledDo rolled
  by_cases h1 : cond1 i = 1#1 <;> by_cases h2 : k0_cond2 i = 1#1 <;> by_cases h3 : k0_cond3 i = 1#1 <;>
    by_cases h4 : k0_cond4 i = 1#1 <;> simp only [h1, h2, h3, h4, dif_pos, dif_neg, not_false_eq_true, reduceDIte] <;> rfl

/-- The printed body is the body with the loop. -/
theorem dgrad_eq (i : grid0.Coords) (arg2 : Memref sig .tc .smem S2 .f32) (harg2 : arg2.IsWhole) (arg3 : Memref sig .tc .vmem S128x14336 .bf16) (harg3 : arg3.IsWhole) (arg4 : Memref sig .tc .vmem S14336x512 .fp8e4m3) (harg4 : arg4.IsWhole) (arg5 : Memref sig .tc .vmem S1024x512 .bf16) (harg5 : arg5.IsWhole) (arg6 : Memref sig .tc .vmem S128x14336 .fp8e5m2) (harg6 : arg6.IsWhole) (arg7 : Memref sig .tc .vmem S1x1 .f32) (harg7 : arg7.IsWhole) (arg8 : Memref sig .tc .vmem S2x1024x14336 .fp8e5m2) (harg8 : arg8.IsWhole) (arg9 : Memref sig .tc .vmem S8x128 .f32) (harg9 : arg9.IsWhole) :
    cc0_dgrad (F := F) i arg2 harg2 arg3 harg3 arg4 harg4 arg5 harg5 arg6 harg6 arg7 harg7 arg8 harg8 arg9 harg9
      = rolled i arg2 arg3 arg4 arg5 harg5 arg6 harg6 arg7 arg8 harg8 arg9 :=
  (dgrad_eq_do i arg2 harg2 arg3 harg3 arg4 harg4 arg5 harg5 arg6 harg6 arg7 harg7 arg8 harg8 arg9 harg9).trans
    (rolledDo_eq i arg2 harg2 arg3 harg3 arg4 harg4 arg5 harg5 arg6 harg6 arg7 harg7 arg8 harg8 arg9 harg9)

end Cert.Kernel.Hand
end
-- ==== Proof.WgradData.lean ====
/-
  The weight-gradient call at any entry contents: the scratch's invariant from point to point, what each point leaves in the
  result's block, and the body obligation of its pipeline.
-/
module

public import proofs.«01_k».proof.Proof.WgradBody
public import proofs.«01_k».proof.Proof.Gen.Kernel.Points
public import proofs.«01_k».proof.Proof.Gen.Kernel.Launch
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.Pointwise.Index

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

/-- The first branch is taken in the first row of blocks only. -/
theorem wcond1_iff : ∀ t : Fin grid1.N, k1_cond1 (grid1.coords t) = 1#1 ↔ t.val / 8 = 0 := by decide +kernel
/-- The second branch is taken in every later row. -/
theorem wcond2_iff : ∀ t : Fin grid1.N, k1_cond2 (grid1.coords t) = 1#1 ↔ ¬ t.val / 8 = 0 := by decide +kernel
/-- The chunk is stored in the slot of the row's parity, at the chunk's columns. -/
theorem woff1_eq : ∀ t : Fin grid1.N, k1_off1 (grid1.coords t) = ![t.val / 8 % 2, 0, t.val % 8 * 2048] := by decide +kernel
/-- Where a point puts its transposed chunk. -/
theorem woff3_eq : ∀ t : Fin grid1.N, k1_off3 (grid1.coords t) = ![t.val / 8 % 2, 0, t.val % 8 * 2048] := by decide +kernel
/-- The panel is read from the other slot. -/
theorem woff2_eq : ∀ t : Fin grid1.N, ¬ t.val / 8 = 0 → k1_off2 (grid1.coords t) = ![(t.val / 8 + 1) % 2, 0, 0] := by decide +kernel
/-- Nothing is written back in the first row. -/
theorem wflush4_first : ∀ t : Fin grid1.N, t.val / 8 = 0 → win1_4.flush t = false := by decide +kernel

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Grid point number `n`. -/
def wpt (n : ℕ) : Fin cfg1.N := ⟨n % 136, Nat.mod_lt _ (by decide)⟩

/-- A point is the one at its own number. -/
theorem wpt_val (t : Fin cfg1.N) : wpt t.val = t := Fin.ext (Nat.mod_eq_of_lt (t.isLt.trans_eq N_1))

/-- Row `r`, token `k` of the transposed codes of row of blocks `i`. -/
def wCell (c : Dev nD) (i : ℕ) (r : Fin 896) (k : Fin 16384) : Elt F .fp8e5m2 :=
  k1_pay1 (iblk1 V c 1 (wpt (8 * i + k.val / 2048))) (ix3 (0 : Fin 1) r (⟨k.val % 2048, Nat.mod_lt _ (by decide)⟩ : Fin 2048))

/-- The whole wPanel of transposed codes of row of blocks `i`. -/
def wPanel (c : Dev nD) (i : ℕ) : Vec F S1x896x16384 .fp8e5m2 := fun x => wCell V c i (x 1) (x 2)

/-- What the scratch holds before point `n`: in the slot of the row's parity the chunks transposed so far, in the other slot
    the whole wPanel of the row before. -/
def wInv (c : Dev nD) (n : ℕ) (s : Vec F S2x896x16384 .fp8e5m2) : Prop :=
  (∀ y : S2x896x16384.Idx, (y 0).val = n / 8 % 2 → (y 2).val < n % 8 * 2048 → s y = wCell V c (n / 8) (y 1) (y 2))
  ∧ (0 < n / 8 → ∀ y : S2x896x16384.Idx, ¬ (y 0).val = n / 8 % 2 → s y = wCell V c (n / 8 - 1) (y 1) (y 2))

/-- Before the first point the scratch may hold anything. -/
theorem wInv_zero (c : Dev nD) (s : Vec F S2x896x16384 .fp8e5m2) : wInv V c 0 s :=
  ⟨fun _ _ h => absurd h (by simp), fun h => absurd h (by simp)⟩

/-- Storing the point's transposed chunk takes the invariant one point on. -/
theorem wInv_step (c : Dev nD) (t : Fin cfg1.N) {off : Fin 3 → ℕ} (h : ∀ a, off a + S1x896x2048.size a ≤ S2x896x16384.size a)
    (hoff : off = ![t.val / 8 % 2, 0, t.val % 8 * 2048]) {s : Vec F S2x896x16384 .fp8e5m2} (hs : wInv V c t.val s) :
    wInv V c (t.val + 1) (putAt h s (k1_pay1 (iblk1 V c 1 t))) := by
  subst hoff
  have key : ∀ y : S2x896x16384.Idx, (y 0).val = t.val / 8 % 2 → (y 2).val < (t.val % 8 + 1) * 2048 →
      putAt h s (k1_pay1 (iblk1 V c 1 t)) y = wCell V c (t.val / 8) (y 1) (y 2) := by
    intro y h0 h2
    have hy1 : (y 1).val < 896 := (y 1).isLt
    by_cases hlt : (y 2).val < t.val % 8 * 2048
    · unfold putAt
      rw [dif_neg (fun hy => by have := (hy 2).1; simp at this; omega)]
      exact hs.1 y h0 hlt
    · unfold putAt
      rw [dif_pos (by
        intro a; fin_cases a
        · simp [S1x896x2048]; omega
        · simp [S1x896x2048]; omega
        · simp [S1x896x2048]; omega)]
      unfold wCell
      have e : 8 * (t.val / 8) + (y 2).val / 2048 = t.val := by omega
      rw [e, wpt_val]
      refine congrArg _ (funext fun a => Fin.ext ?_)
      rw [Rect.unitLocal_val]
      fin_cases a
      · simp; omega
      · simp
      · simp; omega
  have other : ∀ y : S2x896x16384.Idx, ¬ (y 0).val = t.val / 8 % 2 → putAt h s (k1_pay1 (iblk1 V c 1 t)) y = s y := by
    intro y h0
    unfold putAt
    rw [dif_neg (fun hy => by have := hy 0; simp [S1x896x2048] at this; omega)]
  by_cases h8 : t.val % 8 = 7
  · have e1 : (t.val + 1) / 8 = t.val / 8 + 1 := by omega
    have e2 : (t.val + 1) % 8 = 0 := by omega
    refine ⟨fun y h0 h2 => absurd h2 (by rw [e2]; simp), fun _ y h0 => ?_⟩
    rw [e1] at h0 ⊢
    have hy0 : (y 0).val < 2 := (y 0).isLt
    have hy2 : (y 2).val < 16384 := (y 2).isLt
    exact key y (by omega) (by omega)
  · have e1 : (t.val + 1) / 8 = t.val / 8 := by omega
    have e2 : (t.val + 1) % 8 = t.val % 8 + 1 := by omega
    refine ⟨fun y h0 h2 => ?_, fun hp y h0 => ?_⟩
    · rw [e1] at h0 ⊢; rw [e2] at h2; exact key y h0 h2
    · rw [e1] at h0 hp ⊢; rw [other y h0]; exact hs.2 hp y h0

/-- The wPanel read at a later point is the whole wPanel of the row before. -/
theorem wGetAt_eq (c : Dev nD) (t : Fin cfg1.N) (ht : ¬ t.val / 8 = 0) {off : Fin 3 → ℕ} (h : ∀ a, off a + S1x896x16384.size a ≤ S2x896x16384.size a)
    (hoff : off = ![(t.val / 8 + 1) % 2, 0, 0]) {s : Vec F S2x896x16384 .fp8e5m2} (hs : wInv V c t.val s) :
    getAt h s = wPanel V c (t.val / 8 - 1) := by
  subst hoff
  funext x
  unfold getAt wPanel
  have hx0 : (x 0).val < 1 := (x 0).isLt
  refine (hs.2 (by omega) _ ?_).trans ?_
  · rw [Rect.emb_apply]; simp; omega
  · refine congrArg₂ (wCell V c _) (Fin.ext ?_) (Fin.ext ?_)
    · rw [Rect.emb_apply]; simp
    · rw [Rect.emb_apply]; simp

/-- What a later point leaves in the output's block. -/
def wOutAt (c : Dev nD) (t : Fin cfg1.N) : Vec F S896x512 .f32 :=
  k1_pay2 (k1_pay3 (wPanel V c (t.val / 8 - 1)) (iblk1 V c 2 t)) (iblk1 V c 3 t) ((iblk1 V c 0 t : Vec F S1 .f32) at0)

/-! ## The proof data -/

/-- A scoped buffer at any contents. -/
abbrev anyBuf (c : Dev nD) (r : Ref sig .tc) : sProp 𝕄 := iprop(∃ f : Buf (Elt F) ((c : Thread nD τ).loc r), ((c : Thread nD τ).loc r) ↦{fullShare} f)

/-- The scoped buffers that are not this call's, each at any contents. -/
def rest1 (c : Dev nD) : sProp 𝕄 :=
  iprop(anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc0_stg5_0 ∗ anyBuf (F := F) c cc0_scratch0 ∗ anyBuf (F := F) c cc0_scratch1 ∗ anyBuf (F := F) c cc0_stg0_0)

/-- The scratch at contents that satisfy the invariant before point `n`, and the generator register. -/
def wPhiS (c : Dev nD) (n : ℕ) : sProp 𝕄 :=
  iprop((∃ s, ⌜wInv V c n s⌝ ∗ owns (c : Thread nD τ) (Memref.whole cc1_scratch0) fullShare s) ∗ (rest1 c ∗ ∃ r, prngReg c r))

/-- The second call's proof data: what each window's buffer holds before and after each point, and the scratch's invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => wOutAt V c t
  Φ t := wPhiS V c t.val
  q _ := fullShare
  owed _ := 0

/-- A window's array at entry is what memory holds. -/
theorem A_eq1 (c : Dev nD) (w : Fin cfg1.W) : (dat1 V c).A w = V c (Pipeline.arrRef spec1 w) := by dsimp only [dat1]
/-- What window 0's buffer holds after a point. -/
theorem after1_0 (c : Dev nD) (t : Fin cfg1.N) : (dat1 V c).after 0 t = iblk1 V c 0 t := by dsimp only [dat1]
/-- What window 1's buffer holds after a point. -/
theorem after1_1 (c : Dev nD) (t : Fin cfg1.N) : (dat1 V c).after 1 t = iblk1 V c 1 t := by dsimp only [dat1]
/-- What window 2's buffer holds after a point. -/
theorem after1_2 (c : Dev nD) (t : Fin cfg1.N) : (dat1 V c).after 2 t = iblk1 V c 2 t := by dsimp only [dat1]
/-- What window 3's buffer holds after a point. -/
theorem after1_3 (c : Dev nD) (t : Fin cfg1.N) : (dat1 V c).after 3 t = iblk1 V c 3 t := by dsimp only [dat1]
/-- What window 4's buffer holds after a point. -/
theorem after1_4 (c : Dev nD) (t : Fin cfg1.N) : (dat1 V c).after 4 t = wOutAt V c t := by dsimp only [dat1]
/-- What window 0's buffer holds before a point. -/
theorem before1_0 (c : Dev nD) (t : Fin cfg1.N) (d) : (dat1 V c).before 0 t d = iblk1 V c 0 t := before1_0_of V (dat1 V c) (A_eq1 V c 0) (after1_0 V c) t d
/-- What window 1's buffer holds before a point. -/
theorem before1_1 (c : Dev nD) (t : Fin cfg1.N) (d) : (dat1 V c).before 1 t d = iblk1 V c 1 t := before1_1_of V (dat1 V c) (A_eq1 V c 1) (after1_1 V c) t d
/-- What window 2's buffer holds before a point. -/
theorem before1_2 (c : Dev nD) (t : Fin cfg1.N) (d) : (dat1 V c).before 2 t d = iblk1 V c 2 t := before1_2_of V (dat1 V c) (A_eq1 V c 2) (after1_2 V c) t d
/-- What window 3's buffer holds before a point. -/
theorem before1_3 (c : Dev nD) (t : Fin cfg1.N) (d) : (dat1 V c).before 3 t d = iblk1 V c 3 t := before1_3_of V (dat1 V c) (A_eq1 V c 3) (after1_3 V c) t d

/-! ## The body obligation -/

/-- What the body starts from at a point. -/
def bodyPre1 (c : Dev nD) (t : Fin cfg1.N) : sProp 𝕄 :=
  iprop(wPhiS V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body ends with at a point. -/
def bodyPost1 (c : Dev nD) (t : Fin cfg1.N) : sProp 𝕄 :=
  iprop(wPhiS V c (t.val + 1) ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

/-- The body takes a point's start to its end. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1 wPhiS
  simp only [before1_0, before1_1, before1_2, before1_3]
  rw [show (dat1 V c).owesAt () t.succ = (dat1 V c).owesAt () t.castSucc from rfl, after1_0, after1_1, after1_2, after1_3]
  by_cases ht : t.val / 8 = 0
  · have h1 := (wcond1_iff t).mpr ht
    have h2 : ¬ k1_cond2 (grid1.coords t) = 1#1 := fun h => (wcond2_iff t).mp h ht
    rw [(dat1 V c).leavesExact_idle 4 t (by
      show (!(k1_cond2 (grid1.coords t) == 1#1)) = true
      simp [h2]) (wflush4_first t ht)]
    iintro ⟨⟨⟨%s, %hs, Hs⟩, Hr⟩, Ho, ⟨%d0, H0⟩, ⟨%d1, H1⟩, ⟨%d2, H2⟩, ⟨%d3, H3⟩, ⟨%d4, H4⟩⟩
    iapply run_first c (grid1.coords t) h1 h2 _ _ _ _ _ _ _ _ _ _ _ _ (iblk1 V c 1 t) s Set.univ _
    isplitl [H1]; · iexact H1
    isplitl [Hs]; · iexact Hs
    iintro ⟨H1, Hs⟩
    isplitl [Hs Hr]
    · isplitl [Hs]
      · iexists _; isplitr; · ipureintro; exact wInv_step V c t (k1_off1_inb _ h1) (woff1_eq t) hs
        iexact Hs
      iexact Hr
    isplitl [Ho]; · iexact Ho
    isplitl [H0]; · iexact H0
    isplitl [H1]; · iexact H1
    isplitl [H2]; · iexact H2
    isplitl [H3]; · iexact H3
    iexists d4; iexact H4
  · have h1 : ¬ k1_cond1 (grid1.coords t) = 1#1 := fun h => ht ((wcond1_iff t).mp h)
    have h2 := (wcond2_iff t).mpr ht
    have hl : (dat1 V c).leavesExact 4 t = owns (c : Thread nD τ) (st1_4 t) fullShare (wOutAt V c t) := by
      unfold Dat.leavesExact
      rw [show cfg1.idle 4 (cfg1.grid.coords t) = false from by
        show (!(k1_cond2 (grid1.coords t) == 1#1)) = false
        simp [h2]]
      rfl
    rw [hl]
    iintro ⟨⟨⟨%s, %hs, Hs⟩, Hr⟩, Ho, ⟨%d0, H0⟩, ⟨%d1, H1⟩, ⟨%d2, H2⟩, ⟨%d3, H3⟩, ⟨%d4, H4⟩⟩
    iapply run_later c (grid1.coords t) h1 h2 _ _ _ _ _ _ _ _ _ _ _ _ (iblk1 V c 0 t) (iblk1 V c 1 t) (iblk1 V c 2 t) (iblk1 V c 3 t) s Set.univ _
    isplitl [H0]; · iexact H0
    isplitl [H1]; · iexact H1
    isplitl [H2]; · iexact H2
    isplitl [H3]; · iexact H3
    isplitl [H4]; · iexists _; iexact H4
    isplitl [Hs]; · iexact Hs
    rw [wGetAt_eq V c t ht (k1_off2_inb _ h2) (woff2_eq t ht) hs]
    iintro ⟨H0, H1, H2, H3, H4, Hs⟩
    isplitl [Hs Hr]
    · isplitl [Hs]
      · iexists _; isplitr; · ipureintro; exact wInv_step V c t (k1_off3_inb _ h2) (woff3_eq t) hs
        iexact Hs
      iexact Hr
    isplitl [Ho]; · iexact Ho
    isplitl [H0]; · iexact H0
    isplitl [H1]; · iexact H1
    isplitl [H2]; · iexact H2
    isplitl [H3]; · iexact H3
    iexact H4

/-- The second call's row of the definitions is its body. -/
theorem defs₀_row1 (t : Fin cfg1.N) : defs₀ (F := F) .tc cfg1.body (cfg1.bodyArgs t (cfg1.slots t)) = bodyAt1 t := by
  unfold defs₀; rw [Defs.onTc_tc]

/-- The body meets the pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The pipeline's scoped buffers and the generator register start the invariant. -/
theorem phi_in1 (c : Dev nD) : Pipeline.ΦA spec1 c ⊢ (dat1 V c).Φ 0 := by
  show Pipeline.ΦA spec1 c ⊢ wPhiS V c 0
  unfold Pipeline.ΦA wPhiS rest1
  rw [scopedRest1_eq]
  simp only [owns_whole]
  iintro ⟨⟨A0, A1, A2, A3, A4, A5, A6, A7, A8, A9, A10, ⟨%f, Hs⟩, A11⟩, Hr⟩
  isplitl [Hs]
  · iexists f; isplitr; · ipureintro; exact wInv_zero V c f
    iexact Hs
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact Hr

/-- The invariant gives the scoped buffers and the generator register back. -/
theorem phi_out1 (c : Dev nD) : (dat1 V c).Φ (Fin.last cfg1.N) ⊢ Pipeline.ΦA spec1 c := by
  show wPhiS V c cfg1.N ⊢ Pipeline.ΦA spec1 c
  unfold Pipeline.ΦA wPhiS rest1
  rw [scopedRest1_eq]
  simp only [owns_whole]
  iintro ⟨⟨%f, %hs, Hs⟩, ⟨A0, A1, A2, A3, A4, A5, A6, A7, A8, A9, A10, A11⟩, Hr⟩
  isplitr [Hr]
  swap; · iexact Hr
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [Hs]; · iexists f; iexact Hs
  iexact A11

end Cert.Kernel.Hand
end
-- ==== Proof.DgradData.lean ====
/-
  The input-gradient call at any entry contents: what its scratch and its running maximum hold from point to point, what each
  point leaves in the three results' blocks, and the body obligation of its pipeline.
-/
module

public import proofs.«01_k».proof.Proof.DgradFold
public import proofs.«01_k».proof.Proof.DgradRoll
public import proofs.«01_k».proof.Proof.WgradData
public import proofs.«01_k».proof.Proof.Gen.Kernel.Points
public import proofs.«01_k».proof.Proof.Gen.Kernel.Launch
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.Pointwise.Index

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

/-- The second branch is taken in the first row of panels only. -/
theorem qcond2_iff : ∀ t : Fin grid0.N, k0_cond2 (grid0.coords t) = 1#1 ↔ t.val / 8 = 0 := by decide +kernel
/-- The third branch is taken in every later row. -/
theorem qcond3_iff : ∀ t : Fin grid0.N, k0_cond3 (grid0.coords t) = 1#1 ↔ ¬ t.val / 8 = 0 := by decide +kernel
/-- The first branch is taken at the first point only. -/
theorem qcond1_iff : ∀ t : Fin grid0.N, cond1 (grid0.coords t) = 1#1 ↔ t.val = 0 := by decide +kernel
/-- The last branch is taken at the last point only. -/
theorem qcond4_iff : ∀ t : Fin grid0.N, k0_cond4 (grid0.coords t) = 1#1 ↔ t.val = 135 := by decide +kernel
/-- A point's first coordinate: the block of rows. -/
theorem qcoord0 : ∀ t : Fin grid0.N, (grid0.coords t 0).val = t.val / 8 := by decide +kernel
/-- A point's second coordinate: the panel of columns. -/
theorem qcoord1 : ∀ t : Fin grid0.N, (grid0.coords t 1).val = t.val % 8 := by decide +kernel
/-- The panel is read from the other slot. -/
theorem qoff29_eq : ∀ t : Fin grid0.N, ¬ t.val / 8 = 0 → k0_off29 (grid0.coords t) = ![(t.val / 8 + 1) % 2, 0, 0] := by decide +kernel
/-- No product is written back in the first row. -/
theorem qflush3_first : ∀ t : Fin grid0.N, t.val / 8 = 0 → win0_3.flush t = false := by decide +kernel
/-- The maximum is written back at the last point only. -/
theorem qflush5 : ∀ t : Fin grid0.N, ¬ t.val = 135 → win0_5.flush t = false := by decide +kernel

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Grid point number `n`. -/
def qpt (n : ℕ) : Fin cfg0.N := ⟨n % 136, Nat.mod_lt _ (by decide)⟩

/-- A point is the one at its own number. -/
theorem qpt_val (t : Fin cfg0.N) : qpt t.val = t := Fin.ext (Nat.mod_eq_of_lt (t.isLt.trans_eq N_0))

/-- The codes of point `t`'s chunk. -/
def qCodes (c : Dev nD) (t : Fin cfg0.N) : Vec F S128x14336 .fp8e5m2 :=
  codeBlock (iblk0 V c 1 t) (scal0 (iblk0 V c 0 t))

/-- Row `r`, column `k` of panel `i` of the codes. -/
def qCell (c : Dev nD) (i : ℕ) (r : Fin 1024) (k : Fin 14336) : Elt F .fp8e5m2 :=
  qCodes V c (qpt (8 * i + r.val / 128)) (ix2 (chunkRow r) k)

/-- The whole panel `i` of the codes. -/
def qPanel (c : Dev nD) (i : ℕ) : Vec F S1x1024x14336 .fp8e5m2 := fun x => qCell V c i (x 1) (x 2)

/-- What the scratch holds before point `n`: in the slot of the row's parity the chunks quantised so far, in the other slot the
    whole panel of the row before. -/
def qInv (c : Dev nD) (n : ℕ) (s : Vec F S2x1024x14336 .fp8e5m2) : Prop :=
  (∀ y : S2x1024x14336.Idx, (y 0).val = n / 8 % 2 → (y 1).val < n % 8 * 128 → s y = qCell V c (n / 8) (y 1) (y 2))
  ∧ (0 < n / 8 → ∀ y : S2x1024x14336.Idx, ¬ (y 0).val = n / 8 % 2 → s y = qCell V c (n / 8 - 1) (y 1) (y 2))

/-- Before the first point the scratch may hold anything. -/
theorem qInv_zero (c : Dev nD) (s : Vec F S2x1024x14336 .fp8e5m2) : qInv V c 0 s :=
  ⟨fun _ _ h => absurd h (by simp), fun h => absurd h (by simp)⟩

/-- Storing the point's codes takes the invariant one point on. -/
theorem qInv_step (c : Dev nD) (t : Fin cfg0.N) {s : Vec F S2x1024x14336 .fp8e5m2} (hs : qInv V c t.val s) :
    qInv V c (t.val + 1) (panelOf (grid0.coords t) (iblk0 V c 1 t) (scal0 (iblk0 V c 0 t)) units s) := by
  have hp : ∀ y : S2x1024x14336.Idx, panelOf (grid0.coords t) (iblk0 V c 1 t) (scal0 (iblk0 V c 0 t)) units s y
      = if (y 0).val = t.val / 8 % 2 ∧ (y 1).val / 128 = t.val % 8 then qCodes V c t (ix2 (chunkRow (y 1)) (y 2)) else s y := by
    intro y
    rw [panelOf_units, qcoord0, qcoord1]; rfl
  generalize panelOf (grid0.coords t) (iblk0 V c 1 t) (scal0 (iblk0 V c 0 t)) units s = s' at hp ⊢
  have key : ∀ y : S2x1024x14336.Idx, (y 0).val = t.val / 8 % 2 → (y 1).val < (t.val % 8 + 1) * 128 →
      s' y = qCell V c (t.val / 8) (y 1) (y 2) := by
    intro y h0 h1
    rw [hp]
    by_cases h : (y 1).val / 128 = t.val % 8
    · rw [if_pos ⟨h0, h⟩]
      unfold qCell
      rw [show 8 * (t.val / 8) + (y 1).val / 128 = t.val from by omega, qpt_val]
    · rw [if_neg (fun hh => h hh.2)]
      exact hs.1 y h0 (by omega)
  have other : ∀ y : S2x1024x14336.Idx, ¬ (y 0).val = t.val / 8 % 2 → s' y = s y := by
    intro y h0
    rw [hp, if_neg (fun hh => h0 hh.1)]
  by_cases h8 : t.val % 8 = 7
  · have e1 : (t.val + 1) / 8 = t.val / 8 + 1 := by omega
    have e2 : (t.val + 1) % 8 = 0 := by omega
    refine ⟨fun y _ h => absurd h (by rw [e2]; omega), fun _ y h0 => ?_⟩
    rw [e1] at h0 ⊢
    have hy0 : (y 0).val < 2 := (y 0).isLt
    have hy1 : (y 1).val < 1024 := (y 1).isLt
    rw [show t.val / 8 + 1 - 1 = t.val / 8 from by omega]
    exact key y (by omega) (by omega)
  · have e1 : (t.val + 1) / 8 = t.val / 8 := by omega
    have e2 : (t.val + 1) % 8 = t.val % 8 + 1 := by omega
    refine ⟨fun y h0 h1 => ?_, fun h y h0 => ?_⟩
    · rw [e1] at h0 ⊢; rw [e2] at h1; exact key y h0 h1
    · rw [e1] at h h0 ⊢; rw [other y h0]; exact hs.2 h y h0

/-- In a later row the other slot is the whole panel of the row before. -/
theorem otherPanel_eq (c : Dev nD) (t : Fin cfg0.N) (ht : ¬ t.val / 8 = 0) (h : k0_cond3 (grid0.coords t) = 1#1)
    {s : Vec F S2x1024x14336 .fp8e5m2} (hs : qInv V c t.val s) :
    otherPanel (grid0.coords t) h s = qPanel V c (t.val / 8 - 1) := by
  have e := qoff29_eq t ht
  funext x
  unfold otherPanel qPanel
  have hx0 : (x 0).val < 1 := (x 0).isLt
  have v0 : ((Rect.unit (s := S2x1024x14336) (k0_off29 (grid0.coords t)) S1x1024x14336.size (k0_off29_inb (grid0.coords t) h)).emb x 0).val
      = (t.val / 8 + 1) % 2 + 1 * (x 0).val := by rw [Rect.emb_apply]; show k0_off29 (grid0.coords t) 0 + 1 * (x 0).val = _; rw [e]; rfl
  have v1 : ((Rect.unit (s := S2x1024x14336) (k0_off29 (grid0.coords t)) S1x1024x14336.size (k0_off29_inb (grid0.coords t) h)).emb x 1).val
      = 0 + 1 * (x 1).val := by rw [Rect.emb_apply]; show k0_off29 (grid0.coords t) 1 + 1 * (x 1).val = _; rw [e]; rfl
  have v2 : ((Rect.unit (s := S2x1024x14336) (k0_off29 (grid0.coords t)) S1x1024x14336.size (k0_off29_inb (grid0.coords t) h)).emb x 2).val
      = 0 + 1 * (x 2).val := by rw [Rect.emb_apply]; show k0_off29 (grid0.coords t) 2 + 1 * (x 2).val = _; rw [e]; rfl
  rw [hs.2 (by omega) _ (by rw [v0]; omega)]
  exact congrArg₂ (qCell V c _) (Fin.ext (by rw [v1]; omega)) (Fin.ext (by rw [v2]; omega))

/-- The running maximum before point `n`. -/
def qMax (c : Dev nD) : ℕ → FVec F S8x128 .f32
  | 0 => k0_pay1
  | n + 1 => maxOf (iblk0 V c 1 (qpt n)) units (qMax c n)

/-- Taking the point's chunk into the maximum. -/
theorem qMax_step (c : Dev nD) (t : Fin cfg0.N) {m : Vec F S8x128 .f32} (hm : 0 < t.val → m = qMax V c t.val) :
    maxOf (iblk0 V c 1 t) units (if cond1 (grid0.coords t) = 1#1 then k0_pay1 else m) = qMax V c (t.val + 1) := by
  show _ = maxOf (iblk0 V c 1 (qpt t.val)) units (qMax V c t.val)
  rw [qpt_val]
  refine congrArg (maxOf (iblk0 V c 1 t) units) ?_
  by_cases h : t.val = 0
  · rw [if_pos ((qcond1_iff t).mpr h), h]; rfl
  · rw [if_neg (fun hc => h ((qcond1_iff t).mp hc))]; exact hm (by omega)

/-- What a later point leaves in the product's block. -/
def qOutAt (c : Dev nD) (t : Fin cfg0.N) : Vec F S1024x512 .bf16 :=
  k0_pay2 (k0_pay677 (qPanel V c (t.val / 8 - 1)) (iblk0 V c 2 t)) (broadcast S1024x512 (scal1 (iblk0 V c 0 t)))

/-! ## The proof data -/

/-- The scoped buffers that are not this call's, each at any contents. -/
def rest0 (c : Dev nD) : sProp 𝕄 :=
  iprop(anyBuf (F := F) c cc1_stg1_0 ∗ anyBuf (F := F) c cc1_stg1_1 ∗ anyBuf (F := F) c cc1_stg2_0 ∗ anyBuf (F := F) c cc1_stg2_1 ∗ anyBuf (F := F) c cc1_stg3_0 ∗ anyBuf (F := F) c cc1_stg3_1 ∗ anyBuf (F := F) c cc1_stg4_0 ∗ anyBuf (F := F) c cc1_stg4_1 ∗ anyBuf (F := F) c cc1_scratch0 ∗ anyBuf (F := F) c cc1_stg0_0)

/-- The scratch and the running maximum at contents that satisfy the invariants, and everything else at any contents. -/
def qPhiS (c : Dev nD) (n : ℕ) : sProp 𝕄 :=
  iprop((∃ s, ⌜qInv V c n s⌝ ∗ owns (c : Thread nD τ) (Memref.whole cc0_scratch0) fullShare s)
    ∗ (∃ m, ⌜0 < n → m = qMax V c n⌝ ∗ owns (c : Thread nD τ) (Memref.whole cc0_scratch1) fullShare m)
    ∗ (rest0 c ∗ ∃ r, prngReg c r))

/-- The proof data of the call. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qOutAt V c t
    | ⟨4, _⟩ => qCodes V c t
    | ⟨5, _⟩ => k0_pay3 (qMax V c (t.val + 1))
  Φ t := qPhiS V c t.val
  q _ := fullShare
  owed _ := 0

/-- A window's array at entry is what memory holds. -/
theorem A_eq0 (c : Dev nD) (w : Fin cfg0.W) : (dat0 V c).A w = V c (Pipeline.arrRef spec0 w) := by dsimp only [dat0]
/-- What window 0's buffer holds after a point. -/
theorem after0_0 (c : Dev nD) (t : Fin cfg0.N) : (dat0 V c).after 0 t = iblk0 V c 0 t := by dsimp only [dat0]
/-- What window 1's buffer holds after a point. -/
theorem after0_1 (c : Dev nD) (t : Fin cfg0.N) : (dat0 V c).after 1 t = iblk0 V c 1 t := by dsimp only [dat0]
/-- What window 2's buffer holds after a point. -/
theorem after0_2 (c : Dev nD) (t : Fin cfg0.N) : (dat0 V c).after 2 t = iblk0 V c 2 t := by dsimp only [dat0]
/-- What window 3's buffer holds after a point. -/
theorem after0_3 (c : Dev nD) (t : Fin cfg0.N) : (dat0 V c).after 3 t = qOutAt V c t := by dsimp only [dat0]
/-- What window 4's buffer holds after a point. -/
theorem after0_4 (c : Dev nD) (t : Fin cfg0.N) : (dat0 V c).after 4 t = qCodes V c t := by dsimp only [dat0]
/-- What window 5's buffer holds after a point. -/
theorem after0_5 (c : Dev nD) (t : Fin cfg0.N) : (dat0 V c).after 5 t = k0_pay3 (qMax V c (t.val + 1)) := by dsimp only [dat0]
/-- What window 0's buffer holds before a point. -/
theorem before0_0 (c : Dev nD) (t : Fin cfg0.N) (d) : (dat0 V c).before 0 t d = iblk0 V c 0 t := before0_0_of V (dat0 V c) (A_eq0 V c 0) (after0_0 V c) t d
/-- What window 1's buffer holds before a point. -/
theorem before0_1 (c : Dev nD) (t : Fin cfg0.N) (d) : (dat0 V c).before 1 t d = iblk0 V c 1 t := before0_1_of V (dat0 V c) (A_eq0 V c 1) (after0_1 V c) t d
/-- What window 2's buffer holds before a point. -/
theorem before0_2 (c : Dev nD) (t : Fin cfg0.N) (d) : (dat0 V c).before 2 t d = iblk0 V c 2 t := before0_2_of V (dat0 V c) (A_eq0 V c 2) (after0_2 V c) t d

/-! ## The body obligation -/

/-- What the body is given at point `t`. -/
def bodyPre0 (c : Dev nD) (t : Fin cfg0.N) : sProp 𝕄 :=
  iprop(qPhiS V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body gives back. -/
def bodyPost0 (c : Dev nD) (t : Fin cfg0.N) : sProp 𝕄 :=
  iprop(qPhiS V c (t.val + 1) ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t
    ∗ (dat0 V c).leavesExact 4 t
    ∗ (dat0 V c).leavesExact 5 t)

/-- The product's block: stored in a later row, untouched in the first. -/
theorem leaves3 (c : Dev nD) (t : Fin cfg0.N) (d) {s : Vec F S2x1024x14336 .fp8e5m2} (hs : qInv V c t.val s) :
    owns (c : Thread nD τ) (st0_3 t) fullShare
        (if h : k0_cond3 (grid0.coords t) = 1#1 then
          k0_pay2 (k0_pay677 (otherPanel (grid0.coords t) h s) (iblk0 V c 2 t)) (broadcast S1024x512 (scal1 (iblk0 V c 0 t)))
        else (dat0 V c).before 3 t d)
      ⊢ (dat0 V c).leavesExact 3 t := by
  by_cases h : k0_cond3 (grid0.coords t) = 1#1
  · have ht := (qcond3_iff t).mp h
    rw [dif_pos h, otherPanel_eq V c t ht h hs]
    unfold Dat.leavesExact
    rw [show cfg0.idle 3 (cfg0.grid.coords t) = false from by
      show (!(k0_cond3 (grid0.coords t) == 1#1)) = false
      simp [h]]
    exact .rfl
  · have ht : t.val / 8 = 0 := by
      by_contra hh; exact h ((qcond3_iff t).mpr hh)
    rw [dif_neg h, (dat0 V c).leavesExact_idle 3 t (by
      show (!(k0_cond3 (grid0.coords t) == 1#1)) = true
      simp [h]) (qflush3_first t ht)]
    iintro H
    iexists d
    iexact H

/-- The codes' block: stored at every point. -/
theorem leaves4 (c : Dev nD) (t : Fin cfg0.N) :
    owns (c : Thread nD τ) (st0_4 t) fullShare (qCodes V c t) ⊢ (dat0 V c).leavesExact 4 t := by
  unfold Dat.leavesExact
  rw [show cfg0.idle 4 (cfg0.grid.coords t) = false from by
    show (!(k0_cond2 (grid0.coords t) == 1#1) && !(k0_cond3 (grid0.coords t) == 1#1)) = false
    by_cases h : t.val / 8 = 0
    · simp [(qcond2_iff t).mpr h]
    · simp [(qcond3_iff t).mpr h]]
  exact .rfl

/-- The maximum's block: stored at the last point, untouched before it. -/
theorem leaves5 (c : Dev nD) (t : Fin cfg0.N) (d) :
    owns (c : Thread nD τ) (st0_5 t) fullShare
        (if k0_cond4 (grid0.coords t) = 1#1 then k0_pay3 (qMax V c (t.val + 1)) else (dat0 V c).before 5 t d)
      ⊢ (dat0 V c).leavesExact 5 t := by
  by_cases h : k0_cond4 (grid0.coords t) = 1#1
  · rw [if_pos h]
    unfold Dat.leavesExact
    rw [show cfg0.idle 5 (cfg0.grid.coords t) = false from by
      show (!(k0_cond4 (grid0.coords t) == 1#1)) = false
      simp [h]]
    exact .rfl
  · rw [if_neg h, (dat0 V c).leavesExact_idle 5 t (by
      show (!(k0_cond4 (grid0.coords t) == 1#1)) = true
      simp [h]) (qflush5 t (fun hh => h ((qcond4_iff t).mpr hh)))]
    iintro H
    iexists d
    iexact H

/-- The body at point `t` takes the invariant one point on and leaves the blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0 qPhiS
  rw [dgrad_eq]
  simp only [before0_0, before0_1, before0_2]
  rw [show (dat0 V c).owesAt () t.succ = (dat0 V c).owesAt () t.castSucc from rfl, after0_0, after0_1, after0_2]
  have hx : (k0_cond2 (grid0.coords t) = 1#1 ∧ ¬ k0_cond3 (grid0.coords t) = 1#1)
      ∨ (¬ k0_cond2 (grid0.coords t) = 1#1 ∧ k0_cond3 (grid0.coords t) = 1#1) := by
    by_cases h : t.val / 8 = 0
    · exact .inl ⟨(qcond2_iff t).mpr h, fun hh => (qcond3_iff t).mp hh h⟩
    · exact .inr ⟨fun hh => h ((qcond2_iff t).mp hh), (qcond3_iff t).mpr h⟩
  iintro ⟨⟨⟨%s, %hs, Hs⟩, ⟨%m, %hm, Hm⟩, Hr⟩, Ho, ⟨%d0, H0⟩, ⟨%d1, H1⟩, ⟨%d2, H2⟩, ⟨%d3, H3⟩, ⟨%d4, H4⟩, ⟨%d5, H5⟩⟩
  iapply (run_rolled c (grid0.coords t) hx _ (hstage0_0 _) _ (hstage0_1 _) _ (hstage0_2 _) _ (hstage0_3 _) _ (hstage0_4 _) _ (hstage0_5 _) _ (Memref.isWhole_whole _) _ (Memref.isWhole_whole _)
    (iblk0 V c 0 t) (iblk0 V c 1 t) (iblk0 V c 2 t) ((dat0 V c).before 3 t d3) ((dat0 V c).before 4 t d4) ((dat0 V c).before 5 t d5) s m Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  isplitl [Hm]; · iexact Hm
  rw [qMax_step V c t hm, codesOf_units]
  iintro ⟨H0, H1, H2, H3, H4, H5, Hs, Hm⟩
  isplitl [Hs Hm Hr]
  · isplitl [Hs]
    · iexists _; isplitr; · ipureintro; exact qInv_step V c t hs
      iexact Hs
    isplitl [Hm]
    · iexists _; isplitr; · ipureintro; exact fun _ => rfl
      iexact Hm
    iexact Hr
  isplitl [Ho]; · iexact Ho
  isplitl [H0]; · iexact H0
  isplitl [H1]; · iexact H1
  isplitl [H2]; · iexact H2
  isplitl [H3]
  · iapply (leaves3 V c t d3 hs); iexact H3
  isplitl [H4]
  · iapply (leaves4 V c t); iexact H4
  iapply (leaves5 V c t d5); iexact H5

/-- The first call's row of the definitions is its body. -/
theorem defs₀_row0 (t : Fin cfg0.N) : defs₀ (F := F) .tc cfg0.body (cfg0.bodyArgs t (cfg0.slots t)) = bodyAt0 t := by
  unfold defs₀; rw [Defs.onTc_tc]

/-- The body obligation of the call's pipeline. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The pipeline's scoped buffers and the generator register start the invariant. -/
theorem phi_in0 (c : Dev nD) : Pipeline.ΦA spec0 c ⊢ (dat0 V c).Φ 0 := by
  show Pipeline.ΦA spec0 c ⊢ qPhiS V c 0
  unfold Pipeline.ΦA qPhiS rest0
  rw [scopedRest0_eq]
  simp only [owns_whole]
  iintro ⟨⟨⟨%f, Hs⟩, ⟨%g, Hm⟩, A0, A1, A2, A3, A4, A5, A6, A7, A8, A9⟩, Hr⟩
  isplitl [Hs]
  · iexists f; isplitr; · ipureintro; exact qInv_zero V c f
    iexact Hs
  isplitl [Hm]
  · iexists g; isplitr; · ipureintro; exact fun h => absurd h (lt_irrefl 0)
    iexact Hm
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hr

/-- The invariant gives the scoped buffers and the generator register back. -/
theorem phi_out0 (c : Dev nD) : (dat0 V c).Φ (Fin.last cfg0.N) ⊢ Pipeline.ΦA spec0 c := by
  show qPhiS V c cfg0.N ⊢ Pipeline.ΦA spec0 c
  unfold Pipeline.ΦA qPhiS rest0
  rw [scopedRest0_eq]
  simp only [owns_whole]
  iintro ⟨⟨%f, %hs, Hs⟩, ⟨%g, %hm, Hm⟩, ⟨A0, A1, A2, A3, A4, A5, A6, A7, A8, A9⟩, Hr⟩
  isplitr [Hr]
  swap; · iexact Hr
  isplitl [Hs]; · iexists f; iexact Hs
  isplitl [Hm]; · iexists g; iexact Hm
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

end Cert.Kernel.Hand
end
-- ==== Proof.WholeRun.lean ====
/-
  The whole program from launch to return: the host's stretches and the two calls one after the other, what each leaves in every
  buffer, and the frame.
-/
module

public import proofs.«01_k».proof.Proof.DgradData
public import proofs.«01_k».proof.Proof.WgradData
public import proofs.«01_k».proof.Proof.Gen.Kernel.Points
public import proofs.«01_k».proof.Proof.Gen.Kernel.Launch
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.Pointwise.Index
public import Idealize.ShloMosaic.Lib.Ring
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_v2, main_v3, main_v4, main_v5]
/-- `hostOps0` writes only the listed references. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9]
/-- `hostOps1` writes only the listed references. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at this boundary. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at this boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At the region's exit each of its arrays holds what the pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A reference that is none of the region's arrays keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at this boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Every other buffer keeps what it held at the region's entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at this boundary. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- At the region's exit each of its arrays holds what the pipeline leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A reference that is none of the region's arrays keeps its contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at this boundary. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Every other buffer keeps what it held at the region's entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)
/-- Argument 2 ends as launched. -/
theorem W4_main_arg2 (c : Dev nD) : W4 m ρ c (Proc.devRef .tc main_arg2) = m ((c : Thread nD τ).loc main_arg2) :=
  W4_args m ρ c main_arg2 (by decide)
/-- Argument 3 ends as launched. -/
theorem W4_main_arg3 (c : Dev nD) : W4 m ρ c (Proc.devRef .tc main_arg3) = m ((c : Thread nD τ).loc main_arg3) :=
  W4_args m ρ c main_arg3 (by decide)
/-- Argument 4 ends as launched. -/
theorem W4_main_arg4 (c : Dev nD) : W4 m ρ c (Proc.devRef .tc main_arg4) = m ((c : Thread nD τ).loc main_arg4) :=
  W4_args m ρ c main_arg4 (by decide)
/-- Argument 5 ends as launched. -/
theorem W4_main_arg5 (c : Dev nD) : W4 m ρ c (Proc.devRef .tc main_arg5) = m ((c : Thread nD τ).loc main_arg5) :=
  W4_args m ρ c main_arg5 (by decide)
/-- Argument 6 ends as launched. -/
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in0 (V1 m ρ) c)
    unfold Pipeline.ΦA
    iintro ⟨Hp, -, Hr⟩
    isplitl [Hr]; · iexact Hr
    iexact Hp
  hout c := by
    rw [Pipeline.ownSems0_none]
    refine BIBase.Entails.trans (phi_out0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in1 (V3 m ρ) c)
    unfold Pipeline.ΦA
    iintro ⟨Hp, -, Hr⟩
    isplitl [Hr]; · iexact Hr
    iexact Hp
  hout c := by
    rw [Pipeline.ownSems0_none]
    refine BIBase.Entails.trans (phi_out1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution terminates, nothing faulting, with every unscoped buffer at the last boundary's contents
    and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- The frame: every execution terminates with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c),
     (h.1 c _ (mem_uc main_arg5 (by decide))).trans (W4_main_arg5 m ρ c),
     (h.1 c _ (mem_uc main_arg6 (by decide))).trans (W4_main_arg6 m ρ c)⟩, h.2⟩) (run m ρ)

end Cert.Kernel.Hand
end
-- ==== Proof.DgradUnitIdeal.lean ====
/-
  The quantiser of the input-gradient kernel is printed unrolled: 112 units, one for each of the four groups of 32 rows and each
  of the 28 groups of 512 columns of the chunk. Here one unit is a program, the quantiser is a loop of it over the units, and the
  printed program is that loop, by unfolding.
-/
module

public import proofs.«01_k».proof.Proof.Gen.KernelIdeal.Skeleton
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The slot of the scratch that row `n` of the grid writes: `n` modulo two, as the kernel computes it. -/
def slotN (n : ℕ) : BitVec 32 :=
  let arg0 : BitVec 32 := BitVec.ofNat 32 n
  let v30 : BitVec 1 := Scalar.cmpi .eq 2#32 0#32
  let v31 : BitVec 32 := Scalar.select v30 1#32 2#32
  let v32 : BitVec 32 := Scalar.remsi arg0 v31
  let v33 : BitVec 1 := Scalar.cmpi .ne v32 0#32
  let v34 : BitVec 1 := Scalar.cmpi .slt v32 0#32
  let v35 : BitVec 1 := Scalar.cmpi .slt v31 0#32
  let v36 : BitVec 1 := Scalar.xori v34 v35
  let v37 : BitVec 1 := Scalar.andi v36 v33
  let v38 : BitVec 32 := Scalar.addi v32 v31
  Scalar.select v37 v38 v32

/-- The row of the scratch where rows `32 r` and later of the chunk `n` go. -/
def rowN (n : ℕ) (r : Fin 4) : BitVec 32 :=
  Scalar.addi (Scalar.muli (BitVec.ofNat 32 n) 128#32) (BitVec.ofNat 32 (32 * r.val))

/-- The offsets in the scratch of unit `(r, c)`. -/
def offQ (i : grid0.Coords) (r : Fin 4) (c : Fin 28) : Fin 3 → ℕ :=
  ![(Scalar.indexCast (slotN (i 0).val)).toNat, (Scalar.indexCast (rowN (i 1).val r)).toNat, 512 * c.val]

/-- The slot's number as an index. -/
theorem slotN_eq : ∀ n : Fin 17, (Scalar.indexCast (slotN n.val)).toNat = n.val % 2 := by decide +kernel

/-- A tile's first row in the panel as an index. -/
theorem rowN_eq : ∀ (n : Fin 8) (r : Fin 4), (Scalar.indexCast (rowN n.val r)).toNat = 128 * n.val + 32 * r.val := by
  decide +kernel

/-- The offsets in the scratch of unit `(r, c)`, in plain numbers. -/
theorem offQ_eq (i : grid0.Coords) (r : Fin 4) (c : Fin 28) :
    offQ i r c = ![(i 0).val % 2, 128 * (i 1).val + 32 * r.val, 512 * c.val] := by
  have h0 : (Scalar.indexCast (slotN (i 0).val)).toNat = (i 0).val % 2 := slotN_eq (i 0)
  have h1 : (Scalar.indexCast (rowN (i 1).val r)).toNat = 128 * (i 1).val + 32 * r.val := rowN_eq (i 1) r
  unfold offQ
  rw [h0, h1]

/-- A tile's place lies in the panel. -/
theorem offQ_inb (i : grid0.Coords) (r : Fin 4) (c : Fin 28) :
    ∀ a, offQ i r c a + S1x32x512.size a ≤ S2x1024x14336.size a := by
  have h1 : (i 1).val < 8 := (i 1).isLt
  have hr := r.isLt
  have hc := c.isLt
  rw [offQ_eq]
  intro a
  fin_cases a
  · show (i 0).val % 2 + 1 ≤ 2; omega
  · show 128 * (i 1).val + 32 * r.val + 32 ≤ 1024; omega
  · show 512 * c.val + 512 ≤ 14336; omega

/-- A tile's place in the panel is aligned to its packing. -/
theorem offQ_packed (i : grid0.Coords) (r : Fin 4) (c : Fin 28) :
    (Rect.unit (s := S2x1024x14336) (offQ i r c) S1x32x512.size (offQ_inb i r c)).PackedRows (EltTy.packing .fp8e5m2) := by
  refine Or.inr ⟨by decide, rfl, Or.inl ⟨?_, by show 4 ∣ 32; decide⟩⟩
  show 4 ∣ offQ i r c 1
  rw [offQ_eq]
  show 4 ∣ 128 * (i 1).val + 32 * r.val
  omega

/-- The offsets in the chunk of unit `(r, c)`. -/
def offC (r : Fin 4) (c : Fin 28) : Fin 2 → ℕ := ![32 * r.val, 512 * c.val]

/-- A tile's place lies in the chunk of codes. -/
theorem offC_inb (r : Fin 4) (c : Fin 28) : ∀ a, offC r c a + S32x512.size a ≤ S128x14336.size a := by
  revert r c; decide +kernel

/-- A tile's place in the chunk of codes is aligned to its packing. -/
theorem offC_packed (r : Fin 4) (c : Fin 28) :
    (Rect.unit (s := S128x14336) (offC r c) S32x512.size (offC_inb r c)).PackedRows (EltTy.packing .fp8e5m2) := by
  revert r c; decide +kernel

/-- A tile of the gradient, widened. -/
def wide (v : Vec F S32x512 .bf16) : FVec F S32x512 .f32 :=
  extf .f32 (shapeCast S32x512 v shapeCasts_S32x512_S32x512) bitsLt_bf16_f32

/-- The codes of a tile of the gradient under the scale `s`. -/
def codeTile (v : Vec F S32x512 .bf16) (s : Elt F .f32) : FVec F S32x512 .fp8e5m2 :=
  truncf .fp8e5m2 (minimumf (broadcast S32x512 (Scalar.ofBits .f32 0x47600000#32 : F .f32))
    (maximumf (broadcast S32x512 (Scalar.ofBits .f32 0xC7600000#32 : F .f32)) (mulf (wide v) (broadcast S32x512 s)))) bitsLt_fp8e5m2_f32

/-- The running maximum `m` with the sixteen pieces of a tile of magnitudes. -/
def maxTile (m : FVec F S8x128 .f32) (a : FVec F S32x512 .f32) : FVec F S8x128 .f32 :=
  let m := maximumf m (extractStridedSlice S8x128 ![0, 0] a slices_S32x512_o0_0_S8x128)
  let m := maximumf m (extractStridedSlice S8x128 ![0, 128] a slices_S32x512_o0_128_S8x128)
  let m := maximumf m (extractStridedSlice S8x128 ![0, 256] a slices_S32x512_o0_256_S8x128)
  let m := maximumf m (extractStridedSlice S8x128 ![0, 384] a slices_S32x512_o0_384_S8x128)
  let m := maximumf m (extractStridedSlice S8x128 ![8, 0] a slices_S32x512_o8_0_S8x128)
  let m := maximumf m (extractStridedSlice S8x128 ![8, 128] a slices_S32x512_o8_128_S8x128)
  let m := maximumf m (extractStridedSlice S8x128 ![8, 256] a slices_S32x512_o8_256_S8x128)
  let m := maximumf m (extractStridedSlice S8x128 ![8, 384] a slices_S32x512_o8_384_S8x128)
  let m := maximumf m (extractStridedSlice S8x128 ![16, 0] a slices_S32x512_o16_0_S8x128)
  let m := maximumf m (extractStridedSlice S8x128 ![16, 128] a slices_S32x512_o16_128_S8x128)
  let m := maximumf m (extractStridedSlice S8x128 ![16, 256] a slices_S32x512_o16_256_S8x128)
  let m := maximumf m (extractStridedSlice S8x128 ![16, 384] a slices_S32x512_o16_384_S8x128)
  let m := maximumf m (extractStridedSlice S8x128 ![24, 0] a slices_S32x512_o24_0_S8x128)
  let m := maximumf m (extractStridedSlice S8x128 ![24, 128] a slices_S32x512_o24_128_S8x128)
  let m := maximumf m (extractStridedSlice S8x128 ![24, 256] a slices_S32x512_o24_256_S8x128)
  maximumf m (extractStridedSlice S8x128 ![24, 384] a slices_S32x512_o24_384_S8x128)

/-- One unit: read the tile, store its codes in the output block and in the scratch, and take its magnitudes into the maximum. -/
def unitQ (i : grid0.Coords) (arg2 : Memref sig .tc .smem S2 .f32) (arg3 : Memref sig .tc .vmem S128x14336 .bf16)
    (arg6 : Memref sig .tc .vmem S128x14336 .fp8e5m2) (harg6 : arg6.IsWhole) (arg8 : Memref sig .tc .vmem S2x1024x14336 .fp8e5m2)
    (harg8 : arg8.IsWhole) (rc : Fin 4 × Fin 28) (m : FVec F S8x128 .f32) :
    Prog (TpuEff nD τ sig (Elt F) Λ₀ .tc) (FVec F S8x128 .f32) := do
  let v ← Prog.lift (.load arg3 (Rect.unit (s := S128x14336) (offC rc.1 rc.2) S32x512.size (offC_inb rc.1 rc.2)).toLoadRect (View.loadsAt_vmem h_S32x512))
  let s ← smemLoad arg2 (Rect.unit (s := S2) ![0] S1.size inb_S2_S1_0) numel1_S1 rfl
  let _d ← Prog.lift (.load arg6 (Rect.unit (s := S128x14336) (offC rc.1 rc.2) S32x512.size (offC_inb rc.1 rc.2)).toLoadRect (View.loadsAt_vmem h_S32x512))
  Prog.lift (.store arg6 (Rect.unit (s := S128x14336) (offC rc.1 rc.2) S32x512.size (offC_inb rc.1 rc.2)) (codeTile v s) Finset.univ (View.stores_vmem h_S32x512 (harg6.storeExact_slice rfl _ (offC_packed rc.1 rc.2)) (fun _ => rfl)) (.inl rfl))
  let _d ← Prog.lift (.load arg8 (Rect.unit (s := S2x1024x14336) (offQ i rc.1 rc.2) S1x32x512.size (offQ_inb i rc.1 rc.2)).toLoadRect (View.loadsAt_vmem h_S1x32x512))
  Prog.lift (.store arg8 (Rect.unit (s := S2x1024x14336) (offQ i rc.1 rc.2) S1x32x512.size (offQ_inb i rc.1 rc.2)) (shapeCast S1x32x512 (codeTile v s) shapeCasts_S32x512_S1x32x512) Finset.univ (View.stores_vmem h_S1x32x512 (harg8.storeExact_slice rfl _ (offQ_packed i rc.1 rc.2)) (fun _ => rfl)) (.inl rfl))
  pure (maxTile m (absf (wide v)))

/-- A loop over a list of units that carries the running maximum. -/
def loopQ (f : Fin 4 × Fin 28 → FVec F S8x128 .f32 → Prog (TpuEff nD τ sig (Elt F) Λ₀ .tc) (FVec F S8x128 .f32)) :
    List (Fin 4 × Fin 28) → FVec F S8x128 .f32 → Prog (TpuEff nD τ sig (Elt F) Λ₀ .tc) (FVec F S8x128 .f32)
  | [], m => pure m
  | rc :: l, m => do
    let m' ← f rc m
    loopQ f l m'

/-- The units of one group of rows. -/
def rowUnits (r : Fin 4) : List (Fin 4 × Fin 28) :=
  [(r, 0), (r, 1), (r, 2), (r, 3), (r, 4), (r, 5), (r, 6), (r, 7), (r, 8), (r, 9), (r, 10), (r, 11), (r, 12), (r, 13),
   (r, 14), (r, 15), (r, 16), (r, 17), (r, 18), (r, 19), (r, 20), (r, 21), (r, 22), (r, 23), (r, 24), (r, 25), (r, 26), (r, 27)]

/-- All units, row group by row group. -/
def units : List (Fin 4 × Fin 28) := rowUnits 0 ++ (rowUnits 1 ++ (rowUnits 2 ++ rowUnits 3))

/-- The load of the running maximum. -/
def loadMax (arg9 : Memref sig .tc .vmem S8x128 .f32) : Prog (TpuEff nD τ sig (Elt F) Λ₀ .tc) (FVec F S8x128 .f32) := do
  let v : Vec F S8x128 .f32 ← Prog.lift (.load arg9 (Rect.unit (s := S8x128) ![0, 0] S8x128.size inb_S8x128_S8x128_0_0).toLoadRect (View.loadsAt_vmem h_S8x128))
  pure v

/-- The store of the running maximum. -/
def storeMax (arg9 : Memref sig .tc .vmem S8x128 .f32) (m : FVec F S8x128 .f32) : Prog (TpuEff nD τ sig (Elt F) Λ₀ .tc) PUnit := do
  let _d : Vec F S8x128 .f32 ← Prog.lift (.load arg9 (Rect.unit (s := S8x128) ![0, 0] S8x128.size inb_S8x128_S8x128_0_0).toLoadRect (View.loadsAt_vmem h_S8x128))
  Prog.lift (.store arg9 (Rect.unit (s := S8x128) ![0, 0] S8x128.size inb_S8x128_S8x128_0_0) (shapeCast S8x128 m shapeCasts_S8x128_S8x128) Finset.univ (View.stores_vmem_bits_univ h_S8x128 rfl) (.inl rfl))
  pure ⟨⟩

/-- The units of a list between the load and the store of the running maximum. -/
def quantiseOver (l : List (Fin 4 × Fin 28)) (i : grid0.Coords) (arg2 : Memref sig .tc .smem S2 .f32) (arg3 : Memref sig .tc .vmem S128x14336 .bf16)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) : Prog (TpuEff nD τ sig (Elt F) Λ₀ .tc) PUnit :=
  loadMax arg9 >>= fun v => loopQ (F := F) (unitQ i arg2 arg3 arg6 harg6 arg8 harg8) l v >>= fun m => storeMax arg9 m

/-- The quantiser of a chunk. -/
def quantise (i : grid0.Coords) (arg2 : Memref sig .tc .smem S2 .f32) (arg3 : Memref sig .tc .vmem S128x14336 .bf16)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) : Prog (TpuEff nD τ sig (Elt F) Λ₀ .tc) PUnit :=
  quantiseOver units i arg2 arg3 arg6 harg6 arg8 harg8 arg9

/-- The reset of the running maximum. -/
def resetMax (arg9 : Memref sig .tc .vmem S8x128 .f32) : Prog (TpuEff nD τ sig (Elt F) Λ₀ .tc) PUnit := do
  let _d : Vec F S8x128 .f32 ← Prog.lift (.load arg9 (Rect.unit (s := S8x128) ![0, 0] S8x128.size inb_S8x128_S8x128_0_0).toLoadRect (View.loadsAt_vmem h_S8x128))
  Prog.lift (.store arg9 (Rect.unit (s := S8x128) ![0, 0] S8x128.size inb_S8x128_S8x128_0_0) (k0_pay1 (F := F)) Finset.univ (View.stores_vmem_bits_univ h_S8x128 rfl) (.inl rfl))
  pure ⟨⟩

/-- The load of the scratch's other panel. -/
def loadPanel (i : grid0.Coords) (arg8 : Memref sig .tc .vmem S2x1024x14336 .fp8e5m2) (h3 : k0_cond3 i = 1#1) :
    Prog (TpuEff nD τ sig (Elt F) Λ₀ .tc) (Vec F S1x1024x14336 .fp8e5m2) := do
  let v28 : Vec F S1x1024x14336 .fp8e5m2 ← Prog.lift (.load arg8 (Rect.unit (s := S2x1024x14336) (k0_off29 i) S1x1024x14336.size (k0_off29_inb i h3)).toLoadRect (View.loadsAt_vmem h_S1x1024x14336))
  pure v28

/-- The load of a panel of the weights. -/
def loadWeights (arg4 : Memref sig .tc .vmem S14336x512 .fp8e4m3) :
    Prog (TpuEff nD τ sig (Elt F) Λ₀ .tc) (Vec F S14336x512 .fp8e4m3) := do
  let v30 : Vec F S14336x512 .fp8e4m3 ← Prog.lift (.load arg4 (Rect.unit (s := S14336x512) ![0, 0] S14336x512.size inb_S14336x512_S14336x512_0_0).toLoadRect (View.loadsAt_vmem h_S14336x512))
  pure v30

/-- The store of a product under the second scalar. -/
def storeProduct (arg2 : Memref sig .tc .smem S2 .f32) (arg5 : Memref sig .tc .vmem S1024x512 .bf16) (harg5 : arg5.IsWhole)
    (v31 : FVec F S1024x512 .f32) : Prog (TpuEff nD τ sig (Elt F) Λ₀ .tc) PUnit := do
  let s : Elt F .f32 ← smemLoad arg2 (Rect.unit (s := S2) ![1] S1.size inb_S2_S1_1) numel1_S1 rfl
  let _d : Vec F S1024x512 .bf16 ← Prog.lift (.load arg5 (Rect.unit (s := S1024x512) ![0, 0] S1024x512.size inb_S1024x512_S1024x512_0_0).toLoadRect (View.loadsAt_vmem h_S1024x512))
  Prog.lift (.store arg5 (Rect.unit (s := S1024x512) ![0, 0] S1024x512.size inb_S1024x512_S1024x512_0_0) (k0_pay2 v31 (broadcast S1024x512 s)) Finset.univ (View.stores_vmem h_S1024x512 (harg5.storeExact_slice rfl _ packedbf16_S1024x512_S1024x512_0_0) (fun _ => rfl)) (.inl rfl))
  pure ⟨⟩

/-- The panel's product with a panel of the weights, and the quantiser of the next row's chunk beside it. -/
def product (i : grid0.Coords) (arg2 : Memref sig .tc .smem S2 .f32) (arg3 : Memref sig .tc .vmem S128x14336 .bf16)
    (arg4 : Memref sig .tc .vmem S14336x512 .fp8e4m3) (arg5 : Memref sig .tc .vmem S1024x512 .bf16) (harg5 : arg5.IsWhole)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) (h3 : k0_cond3 i = 1#1) :
    Prog (TpuEff nD τ sig (Elt F) Λ₀ .tc) PUnit :=
  loadPanel i arg8 h3 >>= fun v28 => loadWeights arg4 >>= fun v30 =>
    quantise i arg2 arg3 arg6 harg6 arg8 harg8 arg9 >>= fun _ => storeProduct arg2 arg5 harg5 (k0_pay677 v28 v30)

/-- The reduction of the running maximum to one number. -/
def reduceMax (arg7 : Memref sig .tc .vmem S1x1 .f32) (arg9 : Memref sig .tc .vmem S8x128 .f32) :
    Prog (TpuEff nD τ sig (Elt F) Λ₀ .tc) PUnit := do
  let v : Vec F S8x128 .f32 ← Prog.lift (.load arg9 (Rect.unit (s := S8x128) ![0, 0] S8x128.size inb_S8x128_S8x128_0_0).toLoadRect (View.loadsAt_vmem h_S8x128))
  let _d : Vec F S1x1 .f32 ← Prog.lift (.load arg7 (Rect.unit (s := S1x1) ![0, 0] S1x1.size inb_S1x1_S1x1_0_0).toLoadRect (View.loadsAt_vmem h_S1x1))
  Prog.lift (.store arg7 (Rect.unit (s := S1x1) ![0, 0] S1x1.size inb_S1x1_S1x1_0_0) (k0_pay3 v) Finset.univ (View.stores_vmem_bits_univ h_S1x1 rfl) (.inl rfl))
  pure ⟨⟩

/-- The condition of the first point. -/
def cond1 (i : grid0.Coords) : BitVec 1 :=
  let arg0 : BitVec 32 := BitVec.ofNat 32 (i 0).val
  let arg1 : BitVec 32 := BitVec.ofNat 32 (i 1).val
  let v0 : BitVec 1 := Scalar.cmpi .eq arg0 0#32
  let v1 : BitVec 1 := Scalar.cmpi .eq arg1 0#32
  let v2 : BitVec 1 := Scalar.andi v0 v1
  let v3 : BitVec 32 := Scalar.extui v2
  Scalar.cmpi .ne v3 0#32

/-- The whole body of the input-gradient kernel with its quantiser as a loop, branch after branch. -/
def rolledDo (i : grid0.Coords) (arg2 : Memref sig .tc .smem S2 .f32) (arg3 : Memref sig .tc .vmem S128x14336 .bf16)
    (arg4 : Memref sig .tc .vmem S14336x512 .fp8e4m3) (arg5 : Memref sig .tc .vmem S1024x512 .bf16) (harg5 : arg5.IsWhole)
    (arg6 : Memref sig .tc .vmem S128x14336 .fp8e5m2) (harg6 : arg6.IsWhole) (arg7 : Memref sig .tc .vmem S1x1 .f32)
    (arg8 : Memref sig .tc .vmem S2x1024x14336 .fp8e5m2)
    (harg8 : arg8.IsWhole) (arg9 : Memref sig .tc .vmem S8x128 .f32) : Prog (TpuEff nD τ sig (Elt F) Λ₀ .tc) PUnit := do
  if h1 : cond1 i = 1#1 then resetMax arg9 else pure ⟨⟩
  if h2 : k0_cond2 i = 1#1 then quantise i arg2 arg3 arg6 harg6 arg8 harg8 arg9 else pure ⟨⟩
  if h3 : k0_cond3 i = 1#1 then product i arg2 arg3 arg4 arg5 harg5 arg6 harg6 arg8 harg8 arg9 h3 else pure ⟨⟩
  if h4 : k0_cond4 i = 1#1 then reduceMax arg7 arg9 else pure ⟨⟩
  pure ⟨⟩

/-- The whole body of the input-gradient kernel with its quantiser as a loop. -/
def rolled (i : grid0.Coords) (arg2 : Memref sig .tc .smem S2 .f32) (arg3 : Memref sig .tc .vmem S128x14336 .bf16)
    (arg4 : Memref sig .tc .vmem S14336x512 .fp8e4m3) (arg5 : Memref sig .tc .vmem S1024x512 .bf16) (harg5 : arg5.IsWhole)
    (arg6 : Memref sig .tc .vmem S128x14336 .fp8e5m2) (harg6 : arg6.IsWhole) (arg7 : Memref sig .tc .vmem S1x1 .f32)
    (arg8 : Memref sig .tc .vmem S2x1024x14336 .fp8e5m2)
    (harg8 : arg8.IsWhole) (arg9 : Memref sig .tc .vmem S8x128 .f32) : Prog (TpuEff nD τ sig (Elt F) Λ₀ .tc) PUnit :=
  (if h1 : cond1 i = 1#1 then resetMax arg9 else pure ⟨⟩) >>= fun _ =>
    (if h2 : k0_cond2 i = 1#1 then quantise i arg2 arg3 arg6 harg6 arg8 harg8 arg9 else pure ⟨⟩) >>= fun _ =>
    (if h3 : k0_cond3 i = 1#1 then product i arg2 arg3 arg4 arg5 harg5 arg6 harg6 arg8 harg8 arg9 h3 else pure ⟨⟩) >>= fun _ =>
    (if h4 : k0_cond4 i = 1#1 then reduceMax arg7 arg9 else pure ⟨⟩) >>= fun _ => pure ⟨⟩

end Cert.KernelIdeal.Hand
end
-- ==== Proof.WgradBodyIdeal.lean ====
/-
  What one grid point of the weight-gradient kernel does, on any whole buffers: a point of the first row transposes a chunk of
  codes into the scratch; a later point also multiplies the whole panel of the row before with the activations.
-/
module

public import proofs.«01_k».proof.Proof.Gen.KernelIdeal.Points
public import proofs.«01_k».proof.Proof.Gen.KernelIdeal.Skeleton
public import Idealize.ShloMosaic.Lib.Claim
public import Idealize.ShloMosaic.Lib.WritesUnit
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-element array. -/
def at0 : S1.Idx := fun _ => ⟨0, by decide +revert⟩

/-- A one-element array has no other index. -/
theorem at0_unique (x : S1.Idx) : x = at0 := funext fun a => Fin.ext (by
  have h : S1.size a = 1 := by decide +revert
  have h1 := (x a).isLt
  have h2 := (at0 a).isLt
  omega)

/-- The scratch after a chunk `w` of transposed codes was stored at offsets `off`. -/
def putAt {off : Fin 3 → ℕ} (h : ∀ a, off a + S1x896x2048.size a ≤ S2x896x16384.size a)
    (s : Vec F S2x896x16384 .fp8e5m2) (w : Vec F S1x896x2048 .fp8e5m2) : Vec F S2x896x16384 .fp8e5m2 :=
  fun y => if hy : ∀ a, off a ≤ (y a).val ∧ (y a).val < off a + S1x896x2048.size a then
    w (Rect.unitLocal (s := S2x896x16384) (off := off) (size := S1x896x2048.size) y hy) else s y

/-- The panel of transposed codes read from the scratch at offsets `off`. -/
def getAt {off : Fin 3 → ℕ} (h : ∀ a, off a + S1x896x16384.size a ≤ S2x896x16384.size a)
    (s : Vec F S2x896x16384 .fp8e5m2) : Vec F S1x896x16384 .fp8e5m2 :=
  fun x => s ((Rect.unit (s := S2x896x16384) off S1x896x16384.size h).emb x)

/-- The body in the first row of blocks. -/
theorem run_first (c : Dev nD) (i : grid1.Coords) (h1 : k1_cond1 i = 1#1) (h2 : ¬ k1_cond2 i = 1#1)
    (arg2 : Memref sig .tc .smem S1 .f32) (harg2 : arg2.IsWhole) (arg3 : Memref sig .tc .vmem S2048x896 .fp8e5m2) (harg3 : arg3.IsWhole)
    (arg4 : Memref sig .tc .vmem S16384x512 .fp8e4m3) (harg4 : arg4.IsWhole) (arg5 : Memref sig .tc .vmem S896x512 .f32) (harg5 : arg5.IsWhole)
    (arg6 : Memref sig .tc .vmem S896x512 .f32) (harg6 : arg6.IsWhole) (arg7 : Memref sig .tc .vmem S2x896x16384 .fp8e5m2) (harg7 : arg7.IsWhole)
    (x3 : Vec F S2048x896 .fp8e5m2) (s : Vec F S2x896x16384 .fp8e5m2) (E : Set ℕ) (K : PUnit → sProp 𝕄) :
    iprop(owns (c : Thread nD τ) arg3 fullShare x3 ∗ owns (c : Thread nD τ) arg7 fullShare s
        ∗ (iprop(owns (c : Thread nD τ) arg3 fullShare x3
            ∗ owns (c : Thread nD τ) arg7 fullShare (putAt (k1_off1_inb i h1) s (k1_pay1 x3))) -∗ K ⟨⟩))
      ⊢ wp frame (wpE (defs₀ (F := F)) Variants.none c none) E (cc1_wgrad i arg2 harg2 arg3 harg3 arg4 harg4 arg5 harg5 arg6 harg6 arg7 harg7) K := by
  simp only [cc1_wgrad_eq_skeleton]; unfold cc1_wgrad_skel
  unfold owns
  iintro ⟨⟨%f3, %hf3, H3⟩, ⟨%f7, %hf7, H7⟩, Hk⟩
  obtain rfl := harg3.eq_unread hf3
  sl_exec (disch := first | sl_exact h1 | sl_exact h2)
  sl_step
  iapply Hk
  isplitl [H3]
  · iexists _; isplitr; · ipureintro; exact harg3.read_unread _
    iexact H3
  iexists _; isplitr
  swap; · iexact H7
  ipureintro
  rw [View.readAt_full arg3.view, hf3]
  funext y
  refine (View.read_writes_cons_unit arg7.view f7 _ _ _ y rfl).trans ?_
  rw [View.writes_nil, hf7]; rfl

/-- The body in every later row of blocks. -/
theorem run_later (c : Dev nD) (i : grid1.Coords) (h1 : ¬ k1_cond1 i = 1#1) (h2 : k1_cond2 i = 1#1)
    (arg2 : Memref sig .tc .smem S1 .f32) (harg2 : arg2.IsWhole) (arg3 : Memref sig .tc .vmem S2048x896 .fp8e5m2) (harg3 : arg3.IsWhole)
    (arg4 : Memref sig .tc .vmem S16384x512 .fp8e4m3) (harg4 : arg4.IsWhole) (arg5 : Memref sig .tc .vmem S896x512 .f32) (harg5 : arg5.IsWhole)
    (arg6 : Memref sig .tc .vmem S896x512 .f32) (harg6 : arg6.IsWhole) (arg7 : Memref sig .tc .vmem S2x896x16384 .fp8e5m2) (harg7 : arg7.IsWhole)
    (x2 : Vec F S1 .f32) (x3 : Vec F S2048x896 .fp8e5m2) (x4 : Vec F S16384x512 .fp8e4m3) (x5 : Vec F S896x512 .f32)
    (s : Vec F S2x896x16384 .fp8e5m2) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ (∃ d, owns (c : Thread nD τ) arg6 fullShare d) ∗ owns (c : Thread nD τ) arg7 fullShare s
        ∗ (iprop(owns (c : Thread nD τ) arg2 fullShare x2 ∗ owns (c : Thread nD τ) arg3 fullShare x3 ∗ owns (c : Thread nD τ) arg4 fullShare x4
            ∗ owns (c : Thread nD τ) arg5 fullShare x5
            ∗ owns (c : Thread nD τ) arg6 fullShare (k1_pay2 (k1_pay3 (getAt (k1_off2_inb i h2) s) x4) x5 (x2 at0))
            ∗ owns (c : Thread nD τ) arg7 fullShare (putAt (k1_off3_inb i h2) s (k1_pay4 x3))) -∗ K ⟨⟩))
      ⊢ wp frame (wpE (defs₀ (F := F)) Variants.none c none) E (cc1_wgrad i arg2 harg2 arg3 harg3 arg4 harg4 arg5 harg5 arg6 harg6 arg7 harg7) K := by
  simp only [cc1_wgrad_eq_skeleton]; unfold cc1_wgrad_skel
  simp only [k1_part1_eq_skeleton]; unfold k1_part1_skel
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4; obtain rfl := harg5.eq_unread hf5
  sl_exec (disch := first | sl_exact h1 | sl_exact h2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (View.read_writes_full arg6.view f6 _ _ _).trans ?_
    rw [View.readAt_full, View.readAt_full, hf4, hf5]
    refine congrArg₂ (fun a b => k1_pay2 (k1_pay3 a x4) x5 b) (by rw [← hf7]; rfl) ?_
    unfold run_later.sl.r
    exact (congrFun hf2 _).trans (congrArg x2 (at0_unique _))
  iexists _; isplitr
  swap; · iexact H7
  ipureintro
  rw [View.readAt_full arg3.view, hf3]
  funext y
  refine (View.read_writes_cons_unit arg7.view f7 _ _ _ y rfl).trans ?_
  rw [View.writes_nil, hf7]; rfl

end Cert.KernelIdeal.Hand
end
-- ==== Proof.DgradBodyIdeal.lean ====
/-
  What the quantiser loop of the input-gradient kernel does, on any whole buffers: every unit stores the codes of its tile in the
  output block and in the scratch and takes its magnitudes into the running maximum, and after all units the block and the panel
  of the scratch hold the codes of the whole chunk.
-/
module

public import proofs.«01_k».proof.Proof.DgradUnitIdeal
public import proofs.«01_k».proof.Proof.WgradBodyIdeal
public import Idealize.ShloMosaic.Lib.WritesUnit
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile of a chunk at unit `rc`. -/
def tileAt (x : Vec F S128x14336 .bf16) (rc : Fin 4 × Fin 28) : Vec F S32x512 .bf16 :=
  fun k => x ((Rect.unit (s := S128x14336) (offC rc.1 rc.2) S32x512.size (offC_inb rc.1 rc.2)).emb k)

/-- The output block after the tile `w` was stored at unit `rc`. -/
def putC (rc : Fin 4 × Fin 28) (x : Vec F S128x14336 .fp8e5m2) (w : Vec F S32x512 .fp8e5m2) : Vec F S128x14336 .fp8e5m2 :=
  fun y => if hy : ∀ a, offC rc.1 rc.2 a ≤ (y a).val ∧ (y a).val < offC rc.1 rc.2 a + S32x512.size a then
    w (Rect.unitLocal (s := S128x14336) (off := offC rc.1 rc.2) (size := S32x512.size) y hy) else x y

/-- The scratch after the tile `w` was stored at unit `rc`. -/
def putQ (i : grid0.Coords) (rc : Fin 4 × Fin 28) (x : Vec F S2x1024x14336 .fp8e5m2) (w : Vec F S1x32x512 .fp8e5m2) :
    Vec F S2x1024x14336 .fp8e5m2 :=
  fun y => if hy : ∀ a, offQ i rc.1 rc.2 a ≤ (y a).val ∧ (y a).val < offQ i rc.1 rc.2 a + S1x32x512.size a then
    w (Rect.unitLocal (s := S2x1024x14336) (off := offQ i rc.1 rc.2) (size := S1x32x512.size) y hy) else x y

/-- The first of the two scalars. -/
def scal0 (x : Vec F S2 .f32) : Elt F .f32 := x ((Rect.unit (s := S2) ![0] S1.size inb_S2_S1_0).emb at0)

/-- One unit. -/
theorem run_unit (c : Dev nD) (i : grid0.Coords) (arg2 : Memref sig .tc .smem S2 .f32) (harg2 : arg2.IsWhole)
    (arg3 : Memref sig .tc .vmem S128x14336 .bf16) (harg3 : arg3.IsWhole)
    (arg6 : Memref sig .tc .vmem S128x14336 .fp8e5m2) (harg6 : arg6.IsWhole) (arg8 : Memref sig .tc .vmem S2x1024x14336 .fp8e5m2)
    (harg8 : arg8.IsWhole) (rc : Fin 4 × Fin 28) (m : FVec F S8x128 .f32)
    (x2 : Vec F S2 .f32) (x3 : Vec F S128x14336 .bf16) (x6 : Vec F S128x14336 .fp8e5m2) (x8 : Vec F S2x1024x14336 .fp8e5m2)
    (E : Set ℕ) (K : FVec F S8x128 .f32 → sProp 𝕄) :
    iprop(owns (c : Thread nD τ) arg2 fullShare x2 ∗ owns (c : Thread nD τ) arg3 fullShare x3
        ∗ owns (c : Thread nD τ) arg6 fullShare x6 ∗ owns (c : Thread nD τ) arg8 fullShare x8
        ∗ (iprop(owns (c : Thread nD τ) arg2 fullShare x2 ∗ owns (c : Thread nD τ) arg3 fullShare x3
            ∗ owns (c : Thread nD τ) arg6 fullShare (putC rc x6 (codeTile (tileAt x3 rc) (scal0 x2)))
            ∗ owns (c : Thread nD τ) arg8 fullShare (putQ i rc x8 (shapeCast S1x32x512 (codeTile (tileAt x3 rc) (scal0 x2)) shapeCasts_S32x512_S1x32x512)))
          -∗ K (maxTile m (absf (wide (tileAt x3 rc))))))
      ⊢ wp frame (wpE (defs₀ (F := F)) Variants.none c none) E (unitQ i arg2 arg3 arg6 harg6 arg8 harg8 rc m) K := by
  unfold unitQ
  unfold owns
  iintro ⟨⟨%f2, %hf2, H2⟩, ⟨%f3, %hf3, H3⟩, ⟨%f6, %hf6, H6⟩, ⟨%f8, %hf8, H8⟩, Hk⟩
  obtain rfl := harg2.eq_unread hf2; obtain rfl := harg3.eq_unread hf3
  have ht : View.readAt (Elt F) arg3.view (Rect.unit (s := S128x14336) (offC rc.1 rc.2) S32x512.size (offC_inb rc.1 rc.2)).toLoadRect
      (harg3.unread x3) = tileAt x3 rc := congrArg (fun z => tileAt z rc) hf3
  sl_exec
  sl_step
  have hs : run_unit.sl.r c arg2 harg2 x2 = scal0 x2 := by
    unfold run_unit.sl.r
    exact (congrFun hf2 _).trans (congrArg (fun z => x2 ((Rect.unit (s := S2) ![0] S1.size inb_S2_S1_0).emb z)) (at0_unique _))
  iapply Hk
  isplitl [H2]
  · iexists _; isplitr; · ipureintro; exact harg2.read_unread _
    iexact H2
  isplitl [H3]
  · iexists _; isplitr; · ipureintro; exact harg3.read_unread _
    iexact H3
  isplitl [H6]
  · iexists _; isplitr
    swap; · iexact H6
    ipureintro
    rw [hs]
    funext y
    refine (View.read_writes_cons_unit arg6.view f6 _ _ _ y rfl).trans ?_
    rw [View.writes_nil, hf6]; rfl
  iexists _; isplitr
  swap; · iexact H8
  ipureintro
  rw [hs]
  funext y
  refine (View.read_writes_cons_unit arg8.view f8 _ _ _ y rfl).trans ?_
  rw [View.writes_nil, hf8]; rfl

/-- The output block after the units of a list. -/
def codesOf (x3 : Vec F S128x14336 .bf16) (s : Elt F .f32) (l : List (Fin 4 × Fin 28)) (x : Vec F S128x14336 .fp8e5m2) :
    Vec F S128x14336 .fp8e5m2 :=
  l.foldl (fun x rc => putC rc x (codeTile (tileAt x3 rc) s)) x

/-- The scratch after the units of a list. -/
def panelOf (i : grid0.Coords) (x3 : Vec F S128x14336 .bf16) (s : Elt F .f32) (l : List (Fin 4 × Fin 28))
    (x : Vec F S2x1024x14336 .fp8e5m2) : Vec F S2x1024x14336 .fp8e5m2 :=
  l.foldl (fun x rc => putQ i rc x (shapeCast S1x32x512 (codeTile (tileAt x3 rc) s) shapeCasts_S32x512_S1x32x512)) x

/-- The running maximum after the units of a list. -/
def maxOf (x3 : Vec F S128x14336 .bf16) (l : List (Fin 4 × Fin 28)) (m : FVec F S8x128 .f32) : FVec F S8x128 .f32 :=
  l.foldl (fun m rc => maxTile m (absf (wide (tileAt x3 rc)))) m

/-- The units of a list, one after the other. -/
theorem run_loop (c : Dev nD) (i : grid0.Coords) (arg2 : Memref sig .tc .smem S2 .f32) (harg2 : arg2.IsWhole)
    (arg3 : Memref sig .tc .vmem S128x14336 .bf16) (harg3 : arg3.IsWhole)
    (arg6 : Memref sig .tc .vmem S128x14336 .fp8e5m2) (harg6 : arg6.IsWhole) (arg8 : Memref sig .tc .vmem S2x1024x14336 .fp8e5m2)
    (harg8 : arg8.IsWhole) (x2 : Vec F S2 .f32) (x3 : Vec F S128x14336 .bf16)
    (E : Set ℕ) (K : FVec F S8x128 .f32 → sProp 𝕄) (l : List (Fin 4 × Fin 28)) :
    ∀ (m : FVec F S8x128 .f32) (x6 : Vec F S128x14336 .fp8e5m2) (x8 : Vec F S2x1024x14336 .fp8e5m2),
    iprop(owns (c : Thread nD τ) arg2 fullShare x2 ∗ owns (c : Thread nD τ) arg3 fullShare x3
        ∗ owns (c : Thread nD τ) arg6 fullShare x6 ∗ owns (c : Thread nD τ) arg8 fullShare x8
        ∗ (iprop(owns (c : Thread nD τ) arg2 fullShare x2 ∗ owns (c : Thread nD τ) arg3 fullShare x3
            ∗ owns (c : Thread nD τ) arg6 fullShare (codesOf x3 (scal0 x2) l x6)
            ∗ owns (c : Thread nD τ) arg8 fullShare (panelOf i x3 (scal0 x2) l x8))
          -∗ K (maxOf x3 l m)))
      ⊢ wp frame (wpE (defs₀ (F := F)) Variants.none c none) E (loopQ (unitQ i arg2 arg3 arg6 harg6 arg8 harg8) l m) K := by
  induction l with
  | nil =>
    intro m x6 x8
    unfold loopQ
    simp only [codesOf, panelOf, maxOf, List.foldl_nil]
    iintro ⟨H2, H3, H6, H8, Hk⟩
    sl_step
    iapply Hk
    isplitl [H2]; · iexact H2
    isplitl [H3]; · iexact H3
    isplitl [H6]; · iexact H6
    iexact H8
  | cons rc l ih =>
    intro m x6 x8
    unfold loopQ
    rw [wp_bind]
    iintro ⟨H2, H3, H6, H8, Hk⟩
    iapply (run_unit c i arg2 harg2 arg3 harg3 arg6 harg6 arg8 harg8 rc m x2 x3 x6 x8 E _)
    isplitl [H2]; · iexact H2
    isplitl [H3]; · iexact H3
    isplitl [H6]; · iexact H6
    isplitl [H8]; · iexact H8
    iintro ⟨H2, H3, H6, H8⟩
    iapply (ih _ _ _)
    isplitl [H2]; · iexact H2
    isplitl [H3]; · iexact H3
    isplitl [H6]; · iexact H6
    isplitl [H8]; · iexact H8
    iexact Hk

/-- The load of the running maximum. -/
theorem run_loadMax (c : Dev nD) (arg9 : Memref sig .tc .vmem S8x128 .f32) (harg9 : arg9.IsWhole) (x9 : Vec F S8x128 .f32) (E : Set ℕ)
    (K : FVec F S8x128 .f32 → sProp 𝕄) :
    iprop(owns (c : Thread nD τ) arg9 fullShare x9 ∗ (owns (c : Thread nD τ) arg9 fullShare x9 -∗ K x9))
      ⊢ wp frame (wpE (defs₀ (F := F)) Variants.none c none) E (loadMax arg9) K := by
  unfold loadMax owns
  iintro ⟨⟨%f9, %hf9, H9⟩, Hk⟩
  obtain rfl := harg9.eq_unread hf9
  have h9 : View.readAt (Elt F) arg9.view (Rect.unit (s := S8x128) ![0, 0] S8x128.size inb_S8x128_S8x128_0_0).toLoadRect
      (harg9.unread x9) = x9 := (View.readAt_full _ _ _).trans hf9
  sl_exec
  sl_step
  iapply Hk
  iexists _; isplitr; · ipureintro; exact harg9.read_unread _
  iexact H9

/-- The store of the running maximum. -/
theorem run_storeMax (c : Dev nD) (arg9 : Memref sig .tc .vmem S8x128 .f32) (harg9 : arg9.IsWhole) (x9 : Vec F S8x128 .f32)
    (m : FVec F S8x128 .f32) (E : Set ℕ) (K : PUnit → sProp 𝕄) :
    iprop(owns (c : Thread nD τ) arg9 fullShare x9 ∗ (owns (c : Thread nD τ) arg9 fullShare m -∗ K ⟨⟩))
      ⊢ wp frame (wpE (defs₀ (F := F)) Variants.none c none) E (storeMax arg9 m) K := by
  unfold storeMax owns
  iintro ⟨⟨%f9, %hf9, H9⟩, Hk⟩
  sl_exec
  sl_step
  iapply Hk
  iexists _; isplitr
  swap; · iexact H9
  ipureintro
  refine (View.read_writes_full arg9.view _ _ _ _).trans ?_
  rw [shapeCast_self]

/-- The reset of the running maximum. -/
theorem run_resetMax (c : Dev nD) (arg9 : Memref sig .tc .vmem S8x128 .f32) (harg9 : arg9.IsWhole) (x9 : Vec F S8x128 .f32)
    (E : Set ℕ) (K : PUnit → sProp 𝕄) :
    iprop(owns (c : Thread nD τ) arg9 fullShare x9 ∗ (owns (c : Thread nD τ) arg9 fullShare (k0_pay1 (F := F)) -∗ K ⟨⟩))
      ⊢ wp frame (wpE (defs₀ (F := F)) Variants.none c none) E (resetMax arg9) K := by
  unfold resetMax owns
  iintro ⟨⟨%f9, %hf9, H9⟩, Hk⟩
  sl_exec
  sl_step
  iapply Hk
  iexists _; isplitr
  swap; · iexact H9
  ipureintro
  exact View.read_writes_full arg9.view _ _ _ _

/-- The reduction of the running maximum. -/
theorem run_reduceMax (c : Dev nD) (arg7 : Memref sig .tc .vmem S1x1 .f32) (harg7 : arg7.IsWhole)
    (arg9 : Memref sig .tc .vmem S8x128 .f32) (harg9 : arg9.IsWhole) (x7 : Vec F S1x1 .f32) (x9 : Vec F S8x128 .f32)
    (E : Set ℕ) (K : PUnit → sProp 𝕄) :
    iprop(owns (c : Thread nD τ) arg7 fullShare x7 ∗ owns (c : Thread nD τ) arg9 fullShare x9
        ∗ (iprop(owns (c : Thread nD τ) arg7 fullShare (k0_pay3 x9) ∗ owns (c : Thread nD τ) arg9 fullShare x9) -∗ K ⟨⟩))
      ⊢ wp frame (wpE (defs₀ (F := F)) Variants.none c none) E (reduceMax arg7 arg9) K := by
  unfold reduceMax owns
  iintro ⟨⟨%f7, %hf7, H7⟩, ⟨%f9, %hf9, H9⟩, Hk⟩
  obtain rfl := harg9.eq_unread hf9
  have h9 : View.readAt (Elt F) arg9.view (Rect.unit (s := S8x128) ![0, 0] S8x128.size inb_S8x128_S8x128_0_0).toLoadRect
      (harg9.unread x9) = x9 := (View.readAt_full _ _ _).trans hf9
  sl_exec
  sl_step
  iapply Hk
  isplitl [H7]
  · iexists _; isplitr
    swap; · iexact H7
    ipureintro
    exact View.read_writes_full arg7.view _ _ _ _
  iexists _; isplitr; · ipureintro; exact harg9.read_unread _
  iexact H9

/-- The panel of the scratch that a later row multiplies. -/
def otherPanel (i : grid0.Coords) (h3 : k0_cond3 i = 1#1) (x8 : Vec F S2x1024x14336 .fp8e5m2) : Vec F S1x1024x14336 .fp8e5m2 :=
  fun k => x8 ((Rect.unit (s := S2x1024x14336) (k0_off29 i) S1x1024x14336.size (k0_off29_inb i h3)).emb k)

/-- The load of the other panel. -/
theorem run_loadPanel (c : Dev nD) (i : grid0.Coords) (h3 : k0_cond3 i = 1#1) (arg8 : Memref sig .tc .vmem S2x1024x14336 .fp8e5m2)
    (harg8 : arg8.IsWhole) (x8 : Vec F S2x1024x14336 .fp8e5m2) (E : Set ℕ) (K : Vec F S1x1024x14336 .fp8e5m2 → sProp 𝕄) :
    iprop(owns (c : Thread nD τ) arg8 fullShare x8 ∗ (owns (c : Thread nD τ) arg8 fullShare x8 -∗ K (otherPanel i h3 x8)))
      ⊢ wp frame (wpE (defs₀ (F := F)) Variants.none c none) E (loadPanel i arg8 h3) K := by
  unfold loadPanel owns
  iintro ⟨⟨%f8, %hf8, H8⟩, Hk⟩
  obtain rfl := harg8.eq_unread hf8
  have h8 : View.readAt (Elt F) arg8.view (Rect.unit (s := S2x1024x14336) (k0_off29 i) S1x1024x14336.size (k0_off29_inb i h3)).toLoadRect
      (harg8.unread x8) = otherPanel i h3 x8 := congrArg (fun z => otherPanel i h3 z) hf8
  sl_exec
  sl_step
  iapply Hk
  iexists _; isplitr; · ipureintro; exact harg8.read_unread _
  iexact H8

/-- The load of a panel of the weights. -/
theorem run_loadWeights (c : Dev nD) (arg4 : Memref sig .tc .vmem S14336x512 .fp8e4m3)
    (harg4 : arg4.IsWhole) (x4 : Vec F S14336x512 .fp8e4m3) (E : Set ℕ) (K : Vec F S14336x512 .fp8e4m3 → sProp 𝕄) :
    iprop(owns (c : Thread nD τ) arg4 fullShare x4 ∗ (owns (c : Thread nD τ) arg4 fullShare x4 -∗ K x4))
      ⊢ wp frame (wpE (defs₀ (F := F)) Variants.none c none) E (loadWeights arg4) K := by
  unfold loadWeights owns
  iintro ⟨⟨%f4, %hf4, H4⟩, Hk⟩
  obtain rfl := harg4.eq_unread hf4
  have h4 : View.readAt (Elt F) arg4.view (Rect.unit (s := S14336x512) ![0, 0] S14336x512.size inb_S14336x512_S14336x512_0_0).toLoadRect
      (harg4.unread x4) = x4 := (View.readAt_full _ _ _).trans hf4
  sl_exec
  sl_step
  iapply Hk
  iexists _; isplitr; · ipureintro; exact harg4.read_unread _
  iexact H4

/-- The second of the two scalars. -/
def scal1 (x : Vec F S2 .f32) : Elt F .f32 := x ((Rect.unit (s := S2) ![1] S1.size inb_S2_S1_1).emb at0)

/-- The store of a product under the second scalar. -/
theorem run_storeProduct (c : Dev nD) (arg2 : Memref sig .tc .smem S2 .f32) (harg2 : arg2.IsWhole)
    (arg5 : Memref sig .tc .vmem S1024x512 .bf16) (harg5 : arg5.IsWhole) (x2 : Vec F S2 .f32) (x5 : Vec F S1024x512 .bf16)
    (v31 : FVec F S1024x512 .f32) (E : Set ℕ) (K : PUnit → sProp 𝕄) :
    iprop(owns (c : Thread nD τ) arg2 fullShare x2 ∗ owns (c : Thread nD τ) arg5 fullShare x5
        ∗ (iprop(owns (c : Thread nD τ) arg2 fullShare x2
            ∗ owns (c : Thread nD τ) arg5 fullShare (k0_pay2 v31 (broadcast S1024x512 (scal1 x2)))) -∗ K ⟨⟩))
      ⊢ wp frame (wpE (defs₀ (F := F)) Variants.none c none) E (storeProduct arg2 arg5 harg5 v31) K := by
  unfold storeProduct owns
  iintro ⟨⟨%f2, %hf2, H2⟩, ⟨%f5, %hf5, H5⟩, Hk⟩
  obtain rfl := harg2.eq_unread hf2
  sl_exec
  sl_step
  have hs : run_storeProduct.sl.r c arg2 harg2 x2 = scal1 x2 := by
    unfold run_storeProduct.sl.r
    exact (congrFun hf2 _).trans (congrArg (fun z => x2 ((Rect.unit (s := S2) ![1] S1.size inb_S2_S1_1).emb z)) (at0_unique _))
  iapply Hk
  isplitl [H2]
  · iexists _; isplitr; · ipureintro; exact harg2.read_unread _
    iexact H2
  iexists _; isplitr
  swap; · iexact H5
  ipureintro
  rw [hs]
  exact View.read_writes_full arg5.view _ _ _ _

/-- The units of a list between the load and the store of the running maximum. -/
theorem run_quantiseOver (l : List (Fin 4 × Fin 28)) (c : Dev nD) (i : grid0.Coords) (arg2 : Memref sig .tc .smem S2 .f32) (harg2 : arg2.IsWhole)
    (arg3 : Memref sig .tc .vmem S128x14336 .bf16) (harg3 : arg3.IsWhole)
    (arg6 : Memref sig .tc .vmem S128x14336 .fp8e5m2) (harg6 : arg6.IsWhole) (arg8 : Memref sig .tc .vmem S2x1024x14336 .fp8e5m2)
    (harg8 : arg8.IsWhole) (arg9 : Memref sig .tc .vmem S8x128 .f32) (harg9 : arg9.IsWhole)
    (x2 : Vec F S2 .f32) (x3 : Vec F S128x14336 .bf16) (x6 : Vec F S128x14336 .fp8e5m2) (x8 : Vec F S2x1024x14336 .fp8e5m2)
    (x9 : Vec F S8x128 .f32) (E : Set ℕ) (K : PUnit → sProp 𝕄) :
    iprop(owns (c : Thread nD τ) arg2 fullShare x2 ∗ owns (c : Thread nD τ) arg3 fullShare x3
        ∗ owns (c : Thread nD τ) arg6 fullShare x6 ∗ owns (c : Thread nD τ) arg8 fullShare x8 ∗ owns (c : Thread nD τ) arg9 fullShare x9
        ∗ (iprop(owns (c : Thread nD τ) arg2 fullShare x2 ∗ owns (c : Thread nD τ) arg3 fullShare x3
            ∗ owns (c : Thread nD τ) arg6 fullShare (codesOf x3 (scal0 x2) l x6)
            ∗ owns (c : Thread nD τ) arg8 fullShare (panelOf i x3 (scal0 x2) l x8)
            ∗ owns (c : Thread nD τ) arg9 fullShare (maxOf x3 l x9))
          -∗ K ⟨⟩))
      ⊢ wp frame (wpE (defs₀ (F := F)) Variants.none c none) E (quantiseOver l i arg2 arg3 arg6 harg6 arg8 harg8 arg9) K := by
  unfold quantiseOver
  rw [wp_bind]
  iintro ⟨H2, H3, H6, H8, H9, Hk⟩
  iapply (run_loadMax c arg9 harg9 x9 E _)
  isplitl [H9]; · iexact H9
  iintro H9
  rw [wp_bind]
  iapply (run_loop c i arg2 harg2 arg3 harg3 arg6 harg6 arg8 harg8 x2 x3 E _ l _ x6 x8)
  isplitl [H2]; · iexact H2
  isplitl [H3]; · iexact H3
  isplitl [H6]; · iexact H6
  isplitl [H8]; · iexact H8
  iintro ⟨H2, H3, H6, H8⟩
  iapply (run_storeMax c arg9 harg9 x9 _ E _)
  isplitl [H9]; · iexact H9
  iintro H9
  iapply Hk
  isplitl [H2]; · iexact H2
  isplitl [H3]; · iexact H3
  isplitl [H6]; · iexact H6
  isplitl [H8]; · iexact H8
  iexact H9

/-- The first step of the body: the reset at the first point. -/
theorem stage_reset (c : Dev nD) (i : grid0.Coords) (arg9 : Memref sig .tc .vmem S8x128 .f32) (harg9 : arg9.IsWhole)
    (x9 : Vec F S8x128 .f32) (E : Set ℕ) (K : PUnit → sProp 𝕄) :
    iprop(owns (c : Thread nD τ) arg9 fullShare x9
        ∗ (owns (c : Thread nD τ) arg9 fullShare (if cond1 i = 1#1 then k0_pay1 (F := F) else x9) -∗ K ⟨⟩))
      ⊢ wp frame (wpE (defs₀ (F := F)) Variants.none c none) E (if h1 : cond1 i = 1#1 then resetMax arg9 else pure ⟨⟩) K := by
  by_cases h : cond1 i = 1#1
  · rw [dif_pos h, if_pos h]; exact run_resetMax c arg9 harg9 x9 E K
  · rw [dif_neg h, if_neg h]
    iintro ⟨H9, Hk⟩
    sl_step
    iapply Hk
    iexact H9

/-- The last step of the body: the reduced maximum at the last point. -/
theorem stage_reduce (c : Dev nD) (i : grid0.Coords) (arg7 : Memref sig .tc .vmem S1x1 .f32) (harg7 : arg7.IsWhole)
    (arg9 : Memref sig .tc .vmem S8x128 .f32) (harg9 : arg9.IsWhole) (x7 : Vec F S1x1 .f32) (x9 : Vec F S8x128 .f32)
    (E : Set ℕ) (K : PUnit → sProp 𝕄) :
    iprop(owns (c : Thread nD τ) arg7 fullShare x7 ∗ owns (c : Thread nD τ) arg9 fullShare x9
        ∗ (iprop(owns (c : Thread nD τ) arg7 fullShare (if k0_cond4 i = 1#1 then k0_pay3 x9 else x7)
            ∗ owns (c : Thread nD τ) arg9 fullShare x9) -∗ K ⟨⟩))
      ⊢ wp frame (wpE (defs₀ (F := F)) Variants.none c none) E (if h4 : k0_cond4 i = 1#1 then reduceMax arg7 arg9 else pure ⟨⟩) K := by
  by_cases h : k0_cond4 i = 1#1
  · rw [dif_pos h, if_pos h]; exact run_reduceMax c arg7 harg7 arg9 harg9 x7 x9 E K
  · rw [dif_neg h, if_neg h]
    iintro ⟨H7, H9, Hk⟩
    sl_step
    iapply Hk
    isplitl [H7]; · iexact H7
    iexact H9

/-- The body of the input-gradient kernel at any point: the codes of the chunk in the output block and in the scratch, the
running maximum, in later rows the product of the other panel, and at the last point the reduced maximum. -/
theorem run_rolled (c : Dev nD) (i : grid0.Coords) (hx : (k0_cond2 i = 1#1 ∧ ¬ k0_cond3 i = 1#1) ∨ (¬ k0_cond2 i = 1#1 ∧ k0_cond3 i = 1#1))
    (arg2 : Memref sig .tc .smem S2 .f32) (harg2 : arg2.IsWhole)
    (arg3 : Memref sig .tc .vmem S128x14336 .bf16) (harg3 : arg3.IsWhole) (arg4 : Memref sig .tc .vmem S14336x512 .fp8e4m3)
    (harg4 : arg4.IsWhole) (arg5 : Memref sig .tc .vmem S1024x512 .bf16) (harg5 : arg5.IsWhole)
    (arg6 : Memref sig .tc .vmem S128x14336 .fp8e5m2) (harg6 : arg6.IsWhole) (arg7 : Memref sig .tc .vmem S1x1 .f32) (harg7 : arg7.IsWhole)
    (arg8 : Memref sig .tc .vmem S2x1024x14336 .fp8e5m2) (harg8 : arg8.IsWhole)
    (arg9 : Memref sig .tc .vmem S8x128 .f32) (harg9 : arg9.IsWhole)
    (x2 : Vec F S2 .f32) (x3 : Vec F S128x14336 .bf16) (x4 : Vec F S14336x512 .fp8e4m3) (x5 : Vec F S1024x512 .bf16)
    (x6 : Vec F S128x14336 .fp8e5m2) (x7 : Vec F S1x1 .f32) (x8 : Vec F S2x1024x14336 .fp8e5m2)
    (x9 : Vec F S8x128 .f32) (E : Set ℕ) (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare x6 ∗ owns (c : Thread nD τ) arg7 fullShare x7
        ∗ owns (c : Thread nD τ) arg8 fullShare x8 ∗ owns (c : Thread nD τ) arg9 fullShare x9
        ∗ (iprop(owns (c : Thread nD τ) arg2 fullShare x2 ∗ owns (c : Thread nD τ) arg3 fullShare x3 ∗ owns (c : Thread nD τ) arg4 fullShare x4
            ∗ owns (c : Thread nD τ) arg5 fullShare
                (if h : k0_cond3 i = 1#1 then k0_pay2 (k0_pay677 (otherPanel i h x8) x4) (broadcast S1024x512 (scal1 x2)) else x5)
            ∗ owns (c : Thread nD τ) arg6 fullShare (codesOf x3 (scal0 x2) units x6)
            ∗ owns (c : Thread nD τ) arg7 fullShare
                (if k0_cond4 i = 1#1 then k0_pay3 (maxOf x3 units (if cond1 i = 1#1 then k0_pay1 else x9)) else x7)
            ∗ owns (c : Thread nD τ) arg8 fullShare (panelOf i x3 (scal0 x2) units x8)
            ∗ owns (c : Thread nD τ) arg9 fullShare (maxOf x3 units (if cond1 i = 1#1 then k0_pay1 else x9)))
          -∗ K ⟨⟩))
      ⊢ wp frame (wpE (defs₀ (F := F)) Variants.none c none) E
          (rolled i arg2 arg3 arg4 arg5 harg5 arg6 harg6 arg7 arg8 harg8 arg9) K := by
  unfold rolled
  rw [wp_bind]
  iintro ⟨H2, H3, H4, H5, H6, H7, H8, H9, Hk⟩
  iapply (stage_reset c i arg9 harg9 x9 E _)
  isplitl [H9]; · iexact H9
  iintro H9
  generalize (if cond1 i = 1#1 then k0_pay1 else x9) = m9
  rw [wp_bind]
  rcases hx with ⟨h2, h3⟩ | ⟨h2, h3⟩
  · rw [dif_pos h2]
    iapply (run_quantiseOver units c i arg2 harg2 arg3 harg3 arg6 harg6 arg8 harg8 arg9 harg9 x2 x3 x6 x8 m9 E _)
    isplitl [H2]; · iexact H2
    isplitl [H3]; · iexact H3
    isplitl [H6]; · iexact H6
    isplitl [H8]; · iexact H8
    isplitl [H9]; · iexact H9
    iintro ⟨H2, H3, H6, H8, H9⟩
    rw [wp_bind, dif_neg h3, dif_neg h3]
    sl_step
    rw [wp_bind]
    iapply (stage_reduce c i arg7 harg7 arg9 harg9 x7 _ E _)
    isplitl [H7]; · iexact H7
    isplitl [H9]; · iexact H9
    iintro ⟨H7, H9⟩
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [dif_neg h2]
    sl_step
    rw [wp_bind, dif_pos h3, dif_pos h3]
    unfold product
    rw [wp_bind]
    iapply (run_loadPanel c i h3 arg8 harg8 x8 E _)
    isplitl [H8]; · iexact H8
    iintro H8
    rw [wp_bind]
    iapply (run_loadWeights c arg4 harg4 x4 E _)
    isplitl [H4]; · iexact H4
    iintro H4
    rw [wp_bind]
    iapply (run_quantiseOver units c i arg2 harg2 arg3 harg3 arg6 harg6 arg8 harg8 arg9 harg9 x2 x3 x6 x8 m9 E _)
    isplitl [H2]; · iexact H2
    isplitl [H3]; · iexact H3
    isplitl [H6]; · iexact H6
    isplitl [H8]; · iexact H8
    isplitl [H9]; · iexact H9
    iintro ⟨H2, H3, H6, H8, H9⟩
    iapply (run_storeProduct c arg2 harg2 arg5 harg5 x2 x5 _ E _)
    isplitl [H2]; · iexact H2
    isplitl [H5]; · iexact H5
    iintro ⟨H2, H5⟩
    rw [wp_bind]
    iapply (stage_reduce c i arg7 harg7 arg9 harg9 x7 _ E _)
    isplitl [H7]; · iexact H7
    isplitl [H9]; · iexact H9
    iintro ⟨H7, H9⟩
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.KernelIdeal.Hand
end
-- ==== Proof.DgradFoldIdeal.lean ====
/-
  The quantiser's loop as a whole: after all units the output block is the codes of the chunk, and the scratch holds them in the
  rows of the point.
-/
module

public import proofs.«01_k».proof.Proof.DgradBodyIdeal
public import Idealize.ShloMosaic.Lib.ValueLayout
public import Idealize.ShloMosaic.Lib.Pointwise.Index
public import Idealize.ShloMosaic.Lib.WritesUnit
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The codes of a whole chunk under the scale `s`. -/
def codeBlock (x : Vec F S128x14336 .bf16) (s : Elt F .f32) : FVec F S128x14336 .fp8e5m2 :=
  truncf .fp8e5m2 (minimumf (broadcast S128x14336 (Scalar.ofBits .f32 0x47600000#32 : F .f32))
    (maximumf (broadcast S128x14336 (Scalar.ofBits .f32 0xC7600000#32 : F .f32))
      (mulf (extf .f32 (x : FVec F S128x14336 .bf16) bitsLt_bf16_f32) (broadcast S128x14336 s)))) bitsLt_fp8e5m2_f32

/-- The codes of a tile are those of the chunk there. -/
theorem codeTile_apply (x : Vec F S128x14336 .bf16) (s : Elt F .f32) (rc : Fin 4 × Fin 28) (k : S32x512.Idx) :
    codeTile (tileAt x rc) s k
      = codeBlock x s ((Rect.unit (s := S128x14336) (offC rc.1 rc.2) S32x512.size (offC_inb rc.1 rc.2)).emb k) := by
  unfold codeTile wide
  rw [shapeCast_self]
  rfl

/-- The unit that covers an index of the chunk. -/
def unitOf (a : Fin 128) (b : Fin 14336) : Fin 4 × Fin 28 :=
  (⟨a.val / 32, by have := a.isLt; omega⟩, ⟨b.val / 512, by have := b.isLt; omega⟩)

/-- When an element of the chunk lies in a tile. -/
theorem covers_iff (rc : Fin 4 × Fin 28) (y : S128x14336.Idx) :
    (∀ a, offC rc.1 rc.2 a ≤ (y a).val ∧ (y a).val < offC rc.1 rc.2 a + S32x512.size a) ↔ rc = unitOf (y 0) (y 1) := by
  constructor
  · intro h
    have h0 : 32 * rc.1.val ≤ (y 0).val ∧ (y 0).val < 32 * rc.1.val + 32 := h 0
    have h1 : 512 * rc.2.val ≤ (y 1).val ∧ (y 1).val < 512 * rc.2.val + 512 := h 1
    refine Prod.ext (Fin.ext ?_) (Fin.ext ?_)
    · show rc.1.val = (y 0).val / 32; omega
    · show rc.2.val = (y 1).val / 512; omega
  · intro h
    have e0 : rc.1.val = (y 0).val / 32 := congrArg (fun z => z.1.val) h
    have e1 : rc.2.val = (y 1).val / 512 := congrArg (fun z => z.2.val) h
    intro a
    fin_cases a
    · show 32 * rc.1.val ≤ (y 0).val ∧ (y 0).val < 32 * rc.1.val + 32; omega
    · show 512 * rc.2.val ≤ (y 1).val ∧ (y 1).val < 512 * rc.2.val + 512; omega

/-- The output block after the units of a list: codes where a unit of the list covers the index, what was there elsewhere. -/
theorem codesOf_apply (x3 : Vec F S128x14336 .bf16) (s : Elt F .f32) (l : List (Fin 4 × Fin 28)) :
    ∀ (x : Vec F S128x14336 .fp8e5m2) (y : S128x14336.Idx),
      codesOf x3 s l x y = if unitOf (y 0) (y 1) ∈ l then codeBlock x3 s y else x y := by
  induction l with
  | nil => intro x y; simp [codesOf]
  | cons rc l ih =>
    intro x y
    show codesOf x3 s l (putC rc x (codeTile (tileAt x3 rc) s)) y = _
    rw [ih]
    by_cases hl : unitOf (y 0) (y 1) ∈ l
    · rw [if_pos hl, if_pos (List.mem_cons_of_mem _ hl)]
    · rw [if_neg hl]
      unfold putC
      by_cases hr : rc = unitOf (y 0) (y 1)
      · have hy := (covers_iff rc y).mpr hr
        rw [dif_pos hy, if_pos (by rw [← hr]; exact List.mem_cons_self), codeTile_apply]
        refine congrArg (codeBlock x3 s) (funext fun a => Fin.ext ?_)
        rw [Rect.emb_apply]
        have := (hy a).1
        simp [Rect.unitLocal_val]
        omega
      · rw [dif_neg (fun hy => hr ((covers_iff rc y).mp hy)), if_neg]
        intro h
        rcases List.mem_cons.mp h with h | h
        · exact hr h.symm
        · exact hl h

/-- The list of tiles has every tile. -/
theorem mem_units : ∀ rc : Fin 4 × Fin 28, rc ∈ units := by decide +kernel

/-- After all units the output block is the codes of the chunk. -/
theorem codesOf_units (x3 : Vec F S128x14336 .bf16) (s : Elt F .f32) (x : Vec F S128x14336 .fp8e5m2) :
    codesOf x3 s units x = codeBlock x3 s := by
  funext y
  rw [codesOf_apply, if_pos (mem_units _)]

/-- The row of a chunk that a row of the scratch's panel holds. -/
def chunkRow (a : Fin 1024) : Fin 128 := ⟨a.val % 128, Nat.mod_lt _ (by decide)⟩

/-- When an element of the panel lies in a tile's place. -/
theorem coversQ_iff (i : grid0.Coords) (rc : Fin 4 × Fin 28) (y : S2x1024x14336.Idx) :
    (∀ a, offQ i rc.1 rc.2 a ≤ (y a).val ∧ (y a).val < offQ i rc.1 rc.2 a + S1x32x512.size a)
      ↔ ((y 0).val = (i 0).val % 2 ∧ (y 1).val / 128 = (i 1).val) ∧ rc = unitOf (chunkRow (y 1)) (y 2) := by
  rw [offQ_eq]
  have hr := rc.1.isLt
  have hc := rc.2.isLt
  constructor
  · intro h
    have h0 : (i 0).val % 2 ≤ (y 0).val ∧ (y 0).val < (i 0).val % 2 + 1 := h 0
    have h1 : 128 * (i 1).val + 32 * rc.1.val ≤ (y 1).val ∧ (y 1).val < 128 * (i 1).val + 32 * rc.1.val + 32 := h 1
    have h2 : 512 * rc.2.val ≤ (y 2).val ∧ (y 2).val < 512 * rc.2.val + 512 := h 2
    refine ⟨⟨by omega, by omega⟩, Prod.ext (Fin.ext ?_) (Fin.ext ?_)⟩
    · show rc.1.val = (y 1).val % 128 / 32; omega
    · show rc.2.val = (y 2).val / 512; omega
  · rintro ⟨⟨h0, h1⟩, h⟩
    have e0 : rc.1.val = (y 1).val % 128 / 32 := congrArg (fun z => z.1.val) h
    have e1 : rc.2.val = (y 2).val / 512 := congrArg (fun z => z.2.val) h
    intro a
    fin_cases a
    · show (i 0).val % 2 ≤ (y 0).val ∧ (y 0).val < (i 0).val % 2 + 1; omega
    · show 128 * (i 1).val + 32 * rc.1.val ≤ (y 1).val ∧ (y 1).val < 128 * (i 1).val + 32 * rc.1.val + 32; omega
    · show 512 * rc.2.val ≤ (y 2).val ∧ (y 2).val < 512 * rc.2.val + 512; omega

/-- The scratch after the units of a list: codes of the chunk where a unit of the list covers the index, what was there
elsewhere. -/
theorem panelOf_apply (i : grid0.Coords) (x3 : Vec F S128x14336 .bf16) (s : Elt F .f32) (l : List (Fin 4 × Fin 28)) :
    ∀ (x : Vec F S2x1024x14336 .fp8e5m2) (y : S2x1024x14336.Idx),
      panelOf i x3 s l x y
        = if ((y 0).val = (i 0).val % 2 ∧ (y 1).val / 128 = (i 1).val) ∧ unitOf (chunkRow (y 1)) (y 2) ∈ l
          then codeBlock x3 s (ix2 (chunkRow (y 1)) (y 2)) else x y := by
  induction l with
  | nil => intro x y; simp [panelOf]
  | cons rc l ih =>
    intro x y
    show panelOf i x3 s l (putQ i rc x (shapeCast S1x32x512 (codeTile (tileAt x3 rc) s) shapeCasts_S32x512_S1x32x512)) y = _
    rw [ih]
    by_cases hp : (y 0).val = (i 0).val % 2 ∧ (y 1).val / 128 = (i 1).val
    · by_cases hl : unitOf (chunkRow (y 1)) (y 2) ∈ l
      · rw [if_pos ⟨hp, hl⟩, if_pos ⟨hp, List.mem_cons_of_mem _ hl⟩]
      · rw [if_neg (fun h => hl h.2)]
        unfold putQ
        by_cases hr : rc = unitOf (chunkRow (y 1)) (y 2)
        · have hy := (coversQ_iff i rc y).mpr ⟨hp, hr⟩
          rw [dif_pos hy, if_pos ⟨hp, by rw [← hr]; exact List.mem_cons_self⟩]
          have e := offQ_eq i rc.1 rc.2
          have hy1 : 128 * (i 1).val + 32 * rc.1.val ≤ (y 1).val := by have := (hy 1).1; rw [e] at this; exact this
          have hy2 : 512 * rc.2.val ≤ (y 2).val := by have := (hy 2).1; rw [e] at this; exact this
          have v1 : ((Rect.unitLocal (s := S2x1024x14336) (off := offQ i rc.1 rc.2) (size := S1x32x512.size) y hy) 1).val
              = (y 1).val - (128 * (i 1).val + 32 * rc.1.val) := by rw [Rect.unitLocal_val, e]; rfl
          have v2 : ((Rect.unitLocal (s := S2x1024x14336) (off := offQ i rc.1 rc.2) (size := S1x32x512.size) y hy) 2).val
              = (y 2).val - 512 * rc.2.val := by rw [Rect.unitLocal_val, e]; rfl
          generalize Rect.unitLocal (s := S2x1024x14336) (off := offQ i rc.1 rc.2) (size := S1x32x512.size) y hy = z at v1 v2
          rw [show z = ix3 (0 : Fin 1) (z 1 : Fin 32) (z 2 : Fin 512) from by
            funext a; fin_cases a
            · exact Subsingleton.elim (α := Fin 1) _ _
            · rfl
            · rfl]
          refine (ValueIdx.shapeCast_ab_1ab_apply _ _ _ _ _).trans ?_
          rw [codeTile_apply]
          refine congrArg (codeBlock x3 s) (funext fun a => Fin.ext ?_)
          rw [Rect.emb_apply]
          fin_cases a
          · show 32 * rc.1.val + 1 * (z 1).val = (y 1).val % 128; rw [v1]; omega
          · show 512 * rc.2.val + 1 * (z 2).val = (y 2).val; rw [v2]; omega
        · rw [dif_neg (fun hy => hr ((coversQ_iff i rc y).mp hy).2), if_neg]
          rintro ⟨-, h⟩
          rcases List.mem_cons.mp h with h | h
          · exact hr h.symm
          · exact hl h
    · rw [if_neg (fun h => hp h.1), if_neg (fun h => hp h.1)]
      unfold putQ
      rw [dif_neg (fun hy => hp ((coversQ_iff i rc y).mp hy).1)]

/-- After all units the point's rows of the point's panel are the codes of the chunk. -/
theorem panelOf_units (i : grid0.Coords) (x3 : Vec F S128x14336 .bf16) (s : Elt F .f32) (x : Vec F S2x1024x14336 .fp8e5m2)
    (y : S2x1024x14336.Idx) :
    panelOf i x3 s units x y
      = if (y 0).val = (i 0).val % 2 ∧ (y 1).val / 128 = (i 1).val then codeBlock x3 s (ix2 (chunkRow (y 1)) (y 2)) else x y := by
  rw [panelOf_apply]
  by_cases hp : (y 0).val = (i 0).val % 2 ∧ (y 1).val / 128 = (i 1).val
  · rw [if_pos ⟨hp, mem_units _⟩, if_pos hp]
  · rw [if_neg (fun h => hp h.1), if_neg hp]

end Cert.KernelIdeal.Hand
end
-- ==== Proof.DgradRollIdeal.lean ====
/-
  The quantiser of the input-gradient kernel is printed unrolled: 112 units, one for each of the four groups of 32 rows and each
  of the 28 groups of 512 columns of the chunk. Here one unit is a program, the quantiser is a loop of it over the units, and the
  printed program is that loop, by unfolding.
-/
module

public import proofs.«01_k».proof.Proof.DgradUnitIdeal
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The printed body is the body with the loop. -/
theorem dgrad_eq_do (i : grid0.Coords) (arg2 : Memref sig .tc .smem S2 .f32) (harg2 : arg2.IsWhole) (arg3 : Memref sig .tc .vmem S128x14336 .bf16) (harg3 : arg3.IsWhole) (arg4 : Memref sig .tc .vmem S14336x512 .fp8e4m3) (harg4 : arg4.IsWhole) (arg5 : Memref sig .tc .vmem S1024x512 .bf16) (harg5 : arg5.IsWhole) (arg6 : Memref sig .tc .vmem S128x14336 .fp8e5m2) (harg6 : arg6.IsWhole) (arg7 : Memref sig .tc .vmem S1x1 .f32) (harg7 : arg7.IsWhole) (arg8 : Memref sig .tc .vmem S2x1024x14336 .fp8e5m2) (harg8 : arg8.IsWhole) (arg9 : Memref sig .tc .vmem S8x128 .f32) (harg9 : arg9.IsWhole) :
    cc0_dgrad (F := F) i arg2 harg2 arg3 harg3 arg4 harg4 arg5 harg5 arg6 harg6 arg7 harg7 arg8 harg8 arg9 harg9
      = rolledDo i arg2 arg3 arg4 arg5 harg5 arg6 harg6 arg7 arg8 harg8 arg9 := by
  sl_kernel_rfl

/-- The branches one after the other are a chain. -/
theorem rolledDo_eq (i : grid0.Coords) (arg2 : Memref sig .tc .smem S2 .f32) (harg2 : arg2.IsWhole) (arg3 : Memref sig .tc .vmem S128x14336 .bf16) (harg3 : arg3.IsWhole) (arg4 : Memref sig .tc .vmem S14336x512 .fp8e4m3) (harg4 : arg4.IsWhole) (arg5 : Memref sig .tc .vmem S1024x512 .bf16) (harg5 : arg5.IsWhole) (arg6 : Memref sig .tc .vmem S128x14336 .fp8e5m2) (harg6 : arg6.IsWhole) (arg7 : Memref sig .tc .vmem S1x1 .f32) (harg7 : arg7.IsWhole) (arg8 : Memref sig .tc .vmem S2x1024x14336 .fp8e5m2) (harg8 : arg8.IsWhole) (arg9 : Memref sig .tc .vmem S8x128 .f32) (harg9 : arg9.IsWhole) :
    rolledDo (F := F) i arg2 arg3 arg4 arg5 harg5 arg6 harg6 arg7 arg8 harg8 arg9
      = rolled i arg2 arg3 arg4 arg5 harg5 arg6 harg6 arg7 arg8 harg8 arg9 := by
  unfold rolledDo rolled
  by_cases h1 : cond1 i = 1#1 <;> by_cases h2 : k0_cond2 i = 1#1 <;> by_cases h3 : k0_cond3 i = 1#1 <;>
    by_cases h4 : k0_cond4 i = 1#1 <;> simp only [h1, h2, h3, h4, dif_pos, dif_neg, not_false_eq_true, reduceDIte] <;> rfl

/-- The printed body is the body with the loop. -/
theorem dgrad_eq (i : grid0.Coords) (arg2 : Memref sig .tc .smem S2 .f32) (harg2 : arg2.IsWhole) (arg3 : Memref sig .tc .vmem S128x14336 .bf16) (harg3 : arg3.IsWhole) (arg4 : Memref sig .tc .vmem S14336x512 .fp8e4m3) (harg4 : arg4.IsWhole) (arg5 : Memref sig .tc .vmem S1024x512 .bf16) (harg5 : arg5.IsWhole) (arg6 : Memref sig .tc .vmem S128x14336 .fp8e5m2) (harg6 : arg6.IsWhole) (arg7 : Memref sig .tc .vmem S1x1 .f32) (harg7 : arg7.IsWhole) (arg8 : Memref sig .tc .vmem S2x1024x14336 .fp8e5m2) (harg8 : arg8.IsWhole) (arg9 : Memref sig .tc .vmem S8x128 .f32) (harg9 : arg9.IsWhole) :
    cc0_dgrad (F := F) i arg2 harg2 arg3 harg3 arg4 harg4 arg5 harg5 arg6 harg6 arg7 harg7 arg8 harg8 arg9 harg9
      = rolled i arg2 arg3 arg4 arg5 harg5 arg6 harg6 arg7 arg8 harg8 arg9 :=
  (dgrad_eq_do i arg2 harg2 arg3 harg3 arg4 harg4 arg5 harg5 arg6 harg6 arg7 harg7 arg8 harg8 arg9 harg9).trans
    (rolledDo_eq i arg2 harg2 arg3 harg3 arg4 harg4 arg5 harg5 arg6 harg6 arg7 harg7 arg8 harg8 arg9 harg9)

end Cert.KernelIdeal.Hand
end
-- ==== Proof.WgradDataIdeal.lean ====
/-
  The weight-gradient call at any entry contents: the scratch's invariant from point to point, what each point leaves in the
  result's block, and the body obligation of its pipeline.
-/
module

public import proofs.«01_k».proof.Proof.WgradBodyIdeal
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

/-- The first branch is taken in the first row of blocks only. -/
theorem wcond1_iff : ∀ t : Fin grid1.N, k1_cond1 (grid1.coords t) = 1#1 ↔ t.val / 8 = 0 := by decide +kernel
/-- The second branch is taken in every later row. -/
theorem wcond2_iff : ∀ t : Fin grid1.N, k1_cond2 (grid1.coords t) = 1#1 ↔ ¬ t.val / 8 = 0 := by decide +kernel
/-- The chunk is stored in the slot of the row's parity, at the chunk's columns. -/
theorem woff1_eq : ∀ t : Fin grid1.N, k1_off1 (grid1.coords t) = ![t.val / 8 % 2, 0, t.val % 8 * 2048] := by decide +kernel
/-- Where a point puts its transposed chunk. -/
theorem woff3_eq : ∀ t : Fin grid1.N, k1_off3 (grid1.coords t) = ![t.val / 8 % 2, 0, t.val % 8 * 2048] := by decide +kernel
/-- The panel is read from the other slot. -/
theorem woff2_eq : ∀ t : Fin grid1.N, ¬ t.val / 8 = 0 → k1_off2 (grid1.coords t) = ![(t.val / 8 + 1) % 2, 0, 0] := by decide +kernel
/-- Nothing is written back in the first row. -/
theorem wflush4_first : ∀ t : Fin grid1.N, t.val / 8 = 0 → win1_4.flush t = false := by decide +kernel

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- Grid point number `n`. -/
def wpt (n : ℕ) : Fin cfg1.N := ⟨n % 136, Nat.mod_lt _ (by decide)⟩

/-- A point is the one at its own number. -/
theorem wpt_val (t : Fin cfg1.N) : wpt t.val = t := Fin.ext (Nat.mod_eq_of_lt (t.isLt.trans_eq N_1))

/-- Row `r`, token `k` of the transposed codes of row of blocks `i`. -/
def wCell (c : Dev nD) (i : ℕ) (r : Fin 896) (k : Fin 16384) : Elt F .fp8e5m2 :=
  k1_pay1 (iblk1 V c 1 (wpt (8 * i + k.val / 2048))) (ix3 (0 : Fin 1) r (⟨k.val % 2048, Nat.mod_lt _ (by decide)⟩ : Fin 2048))

/-- The whole wPanel of transposed codes of row of blocks `i`. -/
def wPanel (c : Dev nD) (i : ℕ) : Vec F S1x896x16384 .fp8e5m2 := fun x => wCell V c i (x 1) (x 2)

/-- What the scratch holds before point `n`: in the slot of the row's parity the chunks transposed so far, in the other slot
    the whole wPanel of the row before. -/
def wInv (c : Dev nD) (n : ℕ) (s : Vec F S2x896x16384 .fp8e5m2) : Prop :=
  (∀ y : S2x896x16384.Idx, (y 0).val = n / 8 % 2 → (y 2).val < n % 8 * 2048 → s y = wCell V c (n / 8) (y 1) (y 2))
  ∧ (0 < n / 8 → ∀ y : S2x896x16384.Idx, ¬ (y 0).val = n / 8 % 2 → s y = wCell V c (n / 8 - 1) (y 1) (y 2))

/-- Before the first point the scratch may hold anything. -/
theorem wInv_zero (c : Dev nD) (s : Vec F S2x896x16384 .fp8e5m2) : wInv V c 0 s :=
  ⟨fun _ _ h => absurd h (by simp), fun h => absurd h (by simp)⟩

/-- Storing the point's transposed chunk takes the invariant one point on. -/
theorem wInv_step (c : Dev nD) (t : Fin cfg1.N) {off : Fin 3 → ℕ} (h : ∀ a, off a + S1x896x2048.size a ≤ S2x896x16384.size a)
    (hoff : off = ![t.val / 8 % 2, 0, t.val % 8 * 2048]) {s : Vec F S2x896x16384 .fp8e5m2} (hs : wInv V c t.val s) :
    wInv V c (t.val + 1) (putAt h s (k1_pay1 (iblk1 V c 1 t))) := by
  subst hoff
  have key : ∀ y : S2x896x16384.Idx, (y 0).val = t.val / 8 % 2 → (y 2).val < (t.val % 8 + 1) * 2048 →
      putAt h s (k1_pay1 (iblk1 V c 1 t)) y = wCell V c (t.val / 8) (y 1) (y 2) := by
    intro y h0 h2
    have hy1 : (y 1).val < 896 := (y 1).isLt
    by_cases hlt : (y 2).val < t.val % 8 * 2048
    · unfold putAt
      rw [dif_neg (fun hy => by have := (hy 2).1; simp at this; omega)]
      exact hs.1 y h0 hlt
    · unfold putAt
      rw [dif_pos (by
        intro a; fin_cases a
        · simp [S1x896x2048]; omega
        · simp [S1x896x2048]; omega
        · simp [S1x896x2048]; omega)]
      unfold wCell
      have e : 8 * (t.val / 8) + (y 2).val / 2048 = t.val := by omega
      rw [e, wpt_val]
      refine congrArg _ (funext fun a => Fin.ext ?_)
      rw [Rect.unitLocal_val]
      fin_cases a
      · simp; omega
      · simp
      · simp; omega
  have other : ∀ y : S2x896x16384.Idx, ¬ (y 0).val = t.val / 8 % 2 → putAt h s (k1_pay1 (iblk1 V c 1 t)) y = s y := by
    intro y h0
    unfold putAt
    rw [dif_neg (fun hy => by have := hy 0; simp [S1x896x2048] at this; omega)]
  by_cases h8 : t.val % 8 = 7
  · have e1 : (t.val + 1) / 8 = t.val / 8 + 1 := by omega
    have e2 : (t.val + 1) % 8 = 0 := by omega
    refine ⟨fun y h0 h2 => absurd h2 (by rw [e2]; simp), fun _ y h0 => ?_⟩
    rw [e1] at h0 ⊢
    have hy0 : (y 0).val < 2 := (y 0).isLt
    have hy2 : (y 2).val < 16384 := (y 2).isLt
    exact key y (by omega) (by omega)
  · have e1 : (t.val + 1) / 8 = t.val / 8 := by omega
    have e2 : (t.val + 1) % 8 = t.val % 8 + 1 := by omega
    refine ⟨fun y h0 h2 => ?_, fun hp y h0 => ?_⟩
    · rw [e1] at h0 ⊢; rw [e2] at h2; exact key y h0 h2
    · rw [e1] at h0 hp ⊢; rw [other y h0]; exact hs.2 hp y h0

/-- The wPanel read at a later point is the whole wPanel of the row before. -/
theorem wGetAt_eq (c : Dev nD) (t : Fin cfg1.N) (ht : ¬ t.val / 8 = 0) {off : Fin 3 → ℕ} (h : ∀ a, off a + S1x896x16384.size a ≤ S2x896x16384.size a)
    (hoff : off = ![(t.val / 8 + 1) % 2, 0, 0]) {s : Vec F S2x896x16384 .fp8e5m2} (hs : wInv V c t.val s) :
    getAt h s = wPanel V c (t.val / 8 - 1) := by
  subst hoff
  funext x
  unfold getAt wPanel
  have hx0 : (x 0).val < 1 := (x 0).isLt
  refine (hs.2 (by omega) _ ?_).trans ?_
  · rw [Rect.emb_apply]; simp; omega
  · refine congrArg₂ (wCell V c _) (Fin.ext ?_) (Fin.ext ?_)
    · rw [Rect.emb_apply]; simp
    · rw [Rect.emb_apply]; simp

/-- What a later point leaves in the output's block. -/
def wOutAt (c : Dev nD) (t : Fin cfg1.N) : Vec F S896x512 .f32 :=
  k1_pay2 (k1_pay3 (wPanel V c (t.val / 8 - 1)) (iblk1 V c 2 t)) (iblk1 V c 3 t) ((iblk1 V c 0 t : Vec F S1 .f32) at0)

/-! ## The proof data -/

/-- A scoped buffer at any contents. -/
abbrev anyBuf (c : Dev nD) (r : Ref sig .tc) : sProp 𝕄 := iprop(∃ f : Buf (Elt F) ((c : Thread nD τ).loc r), ((c : Thread nD τ).loc r) ↦{fullShare} f)

/-- The scoped buffers that are not this call's, each at any contents. -/
def rest1 (c : Dev nD) : sProp 𝕄 :=
  iprop(anyBuf (F := F) c cc0_stg1_0 ∗ anyBuf (F := F) c cc0_stg1_1 ∗ anyBuf (F := F) c cc0_stg2_0 ∗ anyBuf (F := F) c cc0_stg2_1 ∗ anyBuf (F := F) c cc0_stg3_0 ∗ anyBuf (F := F) c cc0_stg3_1 ∗ anyBuf (F := F) c cc0_stg4_0 ∗ anyBuf (F := F) c cc0_stg4_1 ∗ anyBuf (F := F) c cc0_stg5_0 ∗ anyBuf (F := F) c cc0_scratch0 ∗ anyBuf (F := F) c cc0_scratch1 ∗ anyBuf (F := F) c cc0_stg0_0)

/-- The scratch at contents that satisfy the invariant before point `n`, and the generator register. -/
def wPhiS (c : Dev nD) (n : ℕ) : sProp 𝕄 :=
  iprop((∃ s, ⌜wInv V c n s⌝ ∗ owns (c : Thread nD τ) (Memref.whole cc1_scratch0) fullShare s) ∗ (rest1 c ∗ ∃ r, prngReg c r))

/-- The second call's proof data: what each window's buffer holds before and after each point, and the scratch's invariant. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => wOutAt V c t
  Φ t := wPhiS V c t.val
  q _ := fullShare
  owed _ := 0

/-- A window's array at entry is what memory holds. -/
theorem A_eq1 (c : Dev nD) (w : Fin cfg1.W) : (dat1 V c).A w = V c (Pipeline.arrRef spec1 w) := by dsimp only [dat1]
/-- What window 0's buffer holds after a point. -/
theorem after1_0 (c : Dev nD) (t : Fin cfg1.N) : (dat1 V c).after 0 t = iblk1 V c 0 t := by dsimp only [dat1]
/-- What window 1's buffer holds after a point. -/
theorem after1_1 (c : Dev nD) (t : Fin cfg1.N) : (dat1 V c).after 1 t = iblk1 V c 1 t := by dsimp only [dat1]
/-- What window 2's buffer holds after a point. -/
theorem after1_2 (c : Dev nD) (t : Fin cfg1.N) : (dat1 V c).after 2 t = iblk1 V c 2 t := by dsimp only [dat1]
/-- What window 3's buffer holds after a point. -/
theorem after1_3 (c : Dev nD) (t : Fin cfg1.N) : (dat1 V c).after 3 t = iblk1 V c 3 t := by dsimp only [dat1]
/-- What window 4's buffer holds after a point. -/
theorem after1_4 (c : Dev nD) (t : Fin cfg1.N) : (dat1 V c).after 4 t = wOutAt V c t := by dsimp only [dat1]
/-- What window 0's buffer holds before a point. -/
theorem before1_0 (c : Dev nD) (t : Fin cfg1.N) (d) : (dat1 V c).before 0 t d = iblk1 V c 0 t := before1_0_of V (dat1 V c) (A_eq1 V c 0) (after1_0 V c) t d
/-- What window 1's buffer holds before a point. -/
theorem before1_1 (c : Dev nD) (t : Fin cfg1.N) (d) : (dat1 V c).before 1 t d = iblk1 V c 1 t := before1_1_of V (dat1 V c) (A_eq1 V c 1) (after1_1 V c) t d
/-- What window 2's buffer holds before a point. -/
theorem before1_2 (c : Dev nD) (t : Fin cfg1.N) (d) : (dat1 V c).before 2 t d = iblk1 V c 2 t := before1_2_of V (dat1 V c) (A_eq1 V c 2) (after1_2 V c) t d
/-- What window 3's buffer holds before a point. -/
theorem before1_3 (c : Dev nD) (t : Fin cfg1.N) (d) : (dat1 V c).before 3 t d = iblk1 V c 3 t := before1_3_of V (dat1 V c) (A_eq1 V c 3) (after1_3 V c) t d

/-! ## The body obligation -/

/-- What the body starts from at a point. -/
def bodyPre1 (c : Dev nD) (t : Fin cfg1.N) : sProp 𝕄 :=
  iprop(wPhiS V c t.val ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- What the body ends with at a point. -/
def bodyPost1 (c : Dev nD) (t : Fin cfg1.N) : sProp 𝕄 :=
  iprop(wPhiS V c (t.val + 1) ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ (dat1 V c).leavesExact 4 t)

/-- The body takes a point's start to its end. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1 wPhiS
  simp only [before1_0, before1_1, before1_2, before1_3]
  rw [show (dat1 V c).owesAt () t.succ = (dat1 V c).owesAt () t.castSucc from rfl, after1_0, after1_1, after1_2, after1_3]
  by_cases ht : t.val / 8 = 0
  · have h1 := (wcond1_iff t).mpr ht
    have h2 : ¬ k1_cond2 (grid1.coords t) = 1#1 := fun h => (wcond2_iff t).mp h ht
    rw [(dat1 V c).leavesExact_idle 4 t (by
      show (!(k1_cond2 (grid1.coords t) == 1#1)) = true
      simp [h2]) (wflush4_first t ht)]
    iintro ⟨⟨⟨%s, %hs, Hs⟩, Hr⟩, Ho, ⟨%d0, H0⟩, ⟨%d1, H1⟩, ⟨%d2, H2⟩, ⟨%d3, H3⟩, ⟨%d4, H4⟩⟩
    iapply run_first c (grid1.coords t) h1 h2 _ _ _ _ _ _ _ _ _ _ _ _ (iblk1 V c 1 t) s Set.univ _
    isplitl [H1]; · iexact H1
    isplitl [Hs]; · iexact Hs
    iintro ⟨H1, Hs⟩
    isplitl [Hs Hr]
    · isplitl [Hs]
      · iexists _; isplitr; · ipureintro; exact wInv_step V c t (k1_off1_inb _ h1) (woff1_eq t) hs
        iexact Hs
      iexact Hr
    isplitl [Ho]; · iexact Ho
    isplitl [H0]; · iexact H0
    isplitl [H1]; · iexact H1
    isplitl [H2]; · iexact H2
    isplitl [H3]; · iexact H3
    iexists d4; iexact H4
  · have h1 : ¬ k1_cond1 (grid1.coords t) = 1#1 := fun h => ht ((wcond1_iff t).mp h)
    have h2 := (wcond2_iff t).mpr ht
    have hl : (dat1 V c).leavesExact 4 t = owns (c : Thread nD τ) (st1_4 t) fullShare (wOutAt V c t) := by
      unfold Dat.leavesExact
      rw [show cfg1.idle 4 (cfg1.grid.coords t) = false from by
        show (!(k1_cond2 (grid1.coords t) == 1#1)) = false
        simp [h2]]
      rfl
    rw [hl]
    iintro ⟨⟨⟨%s, %hs, Hs⟩, Hr⟩, Ho, ⟨%d0, H0⟩, ⟨%d1, H1⟩, ⟨%d2, H2⟩, ⟨%d3, H3⟩, ⟨%d4, H4⟩⟩
    iapply run_later c (grid1.coords t) h1 h2 _ _ _ _ _ _ _ _ _ _ _ _ (iblk1 V c 0 t) (iblk1 V c 1 t) (iblk1 V c 2 t) (iblk1 V c 3 t) s Set.univ _
    isplitl [H0]; · iexact H0
    isplitl [H1]; · iexact H1
    isplitl [H2]; · iexact H2
    isplitl [H3]; · iexact H3
    isplitl [H4]; · iexists _; iexact H4
    isplitl [Hs]; · iexact Hs
    rw [wGetAt_eq V c t ht (k1_off2_inb _ h2) (woff2_eq t ht) hs]
    iintro ⟨H0, H1, H2, H3, H4, Hs⟩
    isplitl [Hs Hr]
    · isplitl [Hs]
      · iexists _; isplitr; · ipureintro; exact wInv_step V c t (k1_off3_inb _ h2) (woff3_eq t) hs
        iexact Hs
      iexact Hr
    isplitl [Ho]; · iexact Ho
    isplitl [H0]; · iexact H0
    isplitl [H1]; · iexact H1
    isplitl [H2]; · iexact H2
    isplitl [H3]; · iexact H3
    iexact H4

/-- The second call's row of the definitions is its body. -/
theorem defs₀_row1 (t : Fin cfg1.N) : defs₀ (F := F) .tc cfg1.body (cfg1.bodyArgs t (cfg1.slots t)) = bodyAt1 t := by
  unfold defs₀; rw [Defs.onTc_tc]

/-- The body meets the pipeline's obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The pipeline's scoped buffers and the generator register start the invariant. -/
theorem phi_in1 (c : Dev nD) : Pipeline.ΦA spec1 c ⊢ (dat1 V c).Φ 0 := by
  show Pipeline.ΦA spec1 c ⊢ wPhiS V c 0
  unfold Pipeline.ΦA wPhiS rest1
  rw [scopedRest1_eq]
  simp only [owns_whole]
  iintro ⟨⟨A0, A1, A2, A3, A4, A5, A6, A7, A8, A9, A10, ⟨%f, Hs⟩, A11⟩, Hr⟩
  isplitl [Hs]
  · iexists f; isplitr; · ipureintro; exact wInv_zero V c f
    iexact Hs
  isplitl [A0 A1 A2 A3 A4 A5 A6 A7 A8 A9 A10 A11]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    iexact A11
  iexact Hr

/-- The invariant gives the scoped buffers and the generator register back. -/
theorem phi_out1 (c : Dev nD) : (dat1 V c).Φ (Fin.last cfg1.N) ⊢ Pipeline.ΦA spec1 c := by
  show wPhiS V c cfg1.N ⊢ Pipeline.ΦA spec1 c
  unfold Pipeline.ΦA wPhiS rest1
  rw [scopedRest1_eq]
  simp only [owns_whole]
  iintro ⟨⟨%f, %hs, Hs⟩, ⟨A0, A1, A2, A3, A4, A5, A6, A7, A8, A9, A10, A11⟩, Hr⟩
  isplitr [Hr]
  swap; · iexact Hr
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [Hs]; · iexists f; iexact Hs
  iexact A11

end Cert.KernelIdeal.Hand
end
-- ==== Proof.DgradDataIdeal.lean ====
/-
  The input-gradient call at any entry contents: what its scratch and its running maximum hold from point to point, what each
  point leaves in the three results' blocks, and the body obligation of its pipeline.
-/
module

public import proofs.«01_k».proof.Proof.DgradFoldIdeal
public import proofs.«01_k».proof.Proof.DgradRollIdeal
public import proofs.«01_k».proof.Proof.WgradDataIdeal
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.Pointwise.Index

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid in closed form -/

/-- The second branch is taken in the first row of panels only. -/
theorem qcond2_iff : ∀ t : Fin grid0.N, k0_cond2 (grid0.coords t) = 1#1 ↔ t.val / 8 = 0 := by decide +kernel
/-- The third branch is taken in every later row. -/
theorem qcond3_iff : ∀ t : Fin grid0.N, k0_cond3 (grid0.coords t) = 1#1 ↔ ¬ t.val / 8 = 0 := by decide +kernel
/-- The first branch is taken at the first point only. -/
theorem qcond1_iff : ∀ t : Fin grid0.N, cond1 (grid0.coords t) = 1#1 ↔ t.val = 0 := by decide +kernel
/-- The last branch is taken at the last point only. -/
theorem qcond4_iff : ∀ t : Fin grid0.N, k0_cond4 (grid0.coords t) = 1#1 ↔ t.val = 135 := by decide +kernel
/-- A point's first coordinate: the block of rows. -/
theorem qcoord0 : ∀ t : Fin grid0.N, (grid0.coords t 0).val = t.val / 8 := by decide +kernel
/-- A point's second coordinate: the panel of columns. -/
theorem qcoord1 : ∀ t : Fin grid0.N, (grid0.coords t 1).val = t.val % 8 := by decide +kernel
/-- The panel is read from the other slot. -/
theorem qoff29_eq : ∀ t : Fin grid0.N, ¬ t.val / 8 = 0 → k0_off29 (grid0.coords t) = ![(t.val / 8 + 1) % 2, 0, 0] := by decide +kernel
/-- No product is written back in the first row. -/
theorem qflush3_first : ∀ t : Fin grid0.N, t.val / 8 = 0 → win0_3.flush t = false := by decide +kernel
/-- The maximum is written back at the last point only. -/
theorem qflush5 : ∀ t : Fin grid0.N, ¬ t.val = 135 → win0_5.flush t = false := by decide +kernel

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Grid point number `n`. -/
def qpt (n : ℕ) : Fin cfg0.N := ⟨n % 136, Nat.mod_lt _ (by decide)⟩

/-- A point is the one at its own number. -/
theorem qpt_val (t : Fin cfg0.N) : qpt t.val = t := Fin.ext (Nat.mod_eq_of_lt (t.isLt.trans_eq N_0))

/-- The codes of point `t`'s chunk. -/
def qCodes (c : Dev nD) (t : Fin cfg0.N) : Vec F S128x14336 .fp8e5m2 :=
  codeBlock (iblk0 V c 1 t) (scal0 (iblk0 V c 0 t))

/-- Row `r`, column `k` of panel `i` of the codes. -/
def qCell (c : Dev nD) (i : ℕ) (r : Fin 1024) (k : Fin 14336) : Elt F .fp8e5m2 :=
  qCodes V c (qpt (8 * i + r.val / 128)) (ix2 (chunkRow r) k)

/-- The whole panel `i` of the codes. -/
def qPanel (c : Dev nD) (i : ℕ) : Vec F S1x1024x14336 .fp8e5m2 := fun x => qCell V c i (x 1) (x 2)

/-- What the scratch holds before point `n`: in the slot of the row's parity the chunks quantised so far, in the other slot the
    whole panel of the row before. -/
def qInv (c : Dev nD) (n : ℕ) (s : Vec F S2x1024x14336 .fp8e5m2) : Prop :=
  (∀ y : S2x1024x14336.Idx, (y 0).val = n / 8 % 2 → (y 1).val < n % 8 * 128 → s y = qCell V c (n / 8) (y 1) (y 2))
  ∧ (0 < n / 8 → ∀ y : S2x1024x14336.Idx, ¬ (y 0).val = n / 8 % 2 → s y = qCell V c (n / 8 - 1) (y 1) (y 2))

/-- Before the first point the scratch may hold anything. -/
theorem qInv_zero (c : Dev nD) (s : Vec F S2x1024x14336 .fp8e5m2) : qInv V c 0 s :=
  ⟨fun _ _ h => absurd h (by simp), fun h => absurd h (by simp)⟩

/-- Storing the point's codes takes the invariant one point on. -/
theorem qInv_step (c : Dev nD) (t : Fin cfg0.N) {s : Vec F S2x1024x14336 .fp8e5m2} (hs : qInv V c t.val s) :
    qInv V c (t.val + 1) (panelOf (grid0.coords t) (iblk0 V c 1 t) (scal0 (iblk0 V c 0 t)) units s) := by
  have hp : ∀ y : S2x1024x14336.Idx, panelOf (grid0.coords t) (iblk0 V c 1 t) (scal0 (iblk0 V c 0 t)) units s y
      = if (y 0).val = t.val / 8 % 2 ∧ (y 1).val / 128 = t.val % 8 then qCodes V c t (ix2 (chunkRow (y 1)) (y 2)) else s y := by
    intro y
    rw [panelOf_units, qcoord0, qcoord1]; rfl
  generalize panelOf (grid0.coords t) (iblk0 V c 1 t) (scal0 (iblk0 V c 0 t)) units s = s' at hp ⊢
  have key : ∀ y : S2x1024x14336.Idx, (y 0).val = t.val / 8 % 2 → (y 1).val < (t.val % 8 + 1) * 128 →
      s' y = qCell V c (t.val / 8) (y 1) (y 2) := by
    intro y h0 h1
    rw [hp]
    by_cases h : (y 1).val / 128 = t.val % 8
    · rw [if_pos ⟨h0, h⟩]
      unfold qCell
      rw [show 8 * (t.val / 8) + (y 1).val / 128 = t.val from by omega, qpt_val]
    · rw [if_neg (fun hh => h hh.2)]
      exact hs.1 y h0 (by omega)
  have other : ∀ y : S2x1024x14336.Idx, ¬ (y 0).val = t.val / 8 % 2 → s' y = s y := by
    intro y h0
    rw [hp, if_neg (fun hh => h0 hh.1)]
  by_cases h8 : t.val % 8 = 7
  · have e1 : (t.val + 1) / 8 = t.val / 8 + 1 := by omega
    have e2 : (t.val + 1) % 8 = 0 := by omega
    refine ⟨fun y _ h => absurd h (by rw [e2]; omega), fun _ y h0 => ?_⟩
    rw [e1] at h0 ⊢
    have hy0 : (y 0).val < 2 := (y 0).isLt
    have hy1 : (y 1).val < 1024 := (y 1).isLt
    rw [show t.val / 8 + 1 - 1 = t.val / 8 from by omega]
    exact key y (by omega) (by omega)
  · have e1 : (t.val + 1) / 8 = t.val / 8 := by omega
    have e2 : (t.val + 1) % 8 = t.val % 8 + 1 := by omega
    refine ⟨fun y h0 h1 => ?_, fun h y h0 => ?_⟩
    · rw [e1] at h0 ⊢; rw [e2] at h1; exact key y h0 h1
    · rw [e1] at h h0 ⊢; rw [other y h0]; exact hs.2 h y h0

/-- In a later row the other slot is the whole panel of the row before. -/
theorem otherPanel_eq (c : Dev nD) (t : Fin cfg0.N) (ht : ¬ t.val / 8 = 0) (h : k0_cond3 (grid0.coords t) = 1#1)
    {s : Vec F S2x1024x14336 .fp8e5m2} (hs : qInv V c t.val s) :
    otherPanel (grid0.coords t) h s = qPanel V c (t.val / 8 - 1) := by
  have e := qoff29_eq t ht
  funext x
  unfold otherPanel qPanel
  have hx0 : (x 0).val < 1 := (x 0).isLt
  have v0 : ((Rect.unit (s := S2x1024x14336) (k0_off29 (grid0.coords t)) S1x1024x14336.size (k0_off29_inb (grid0.coords t) h)).emb x 0).val
      = (t.val / 8 + 1) % 2 + 1 * (x 0).val := by rw [Rect.emb_apply]; show k0_off29 (grid0.coords t) 0 + 1 * (x 0).val = _; rw [e]; rfl
  have v1 : ((Rect.unit (s := S2x1024x14336) (k0_off29 (grid0.coords t)) S1x1024x14336.size (k0_off29_inb (grid0.coords t) h)).emb x 1).val
      = 0 + 1 * (x 1).val := by rw [Rect.emb_apply]; show k0_off29 (grid0.coords t) 1 + 1 * (x 1).val = _; rw [e]; rfl
  have v2 : ((Rect.unit (s := S2x1024x14336) (k0_off29 (grid0.coords t)) S1x1024x14336.size (k0_off29_inb (grid0.coords t) h)).emb x 2).val
      = 0 + 1 * (x 2).val := by rw [Rect.emb_apply]; show k0_off29 (grid0.coords t) 2 + 1 * (x 2).val = _; rw [e]; rfl
  rw [hs.2 (by omega) _ (by rw [v0]; omega)]
  exact congrArg₂ (qCell V c _) (Fin.ext (by rw [v1]; omega)) (Fin.ext (by rw [v2]; omega))

/-- The running maximum before point `n`. -/
def qMax (c : Dev nD) : ℕ → FVec F S8x128 .f32
  | 0 => k0_pay1
  | n + 1 => maxOf (iblk0 V c 1 (qpt n)) units (qMax c n)

/-- Taking the point's chunk into the maximum. -/
theorem qMax_step (c : Dev nD) (t : Fin cfg0.N) {m : Vec F S8x128 .f32} (hm : 0 < t.val → m = qMax V c t.val) :
    maxOf (iblk0 V c 1 t) units (if cond1 (grid0.coords t) = 1#1 then k0_pay1 else m) = qMax V c (t.val + 1) := by
  show _ = maxOf (iblk0 V c 1 (qpt t.val)) units (qMax V c t.val)
  rw [qpt_val]
  refine congrArg (maxOf (iblk0 V c 1 t) units) ?_
  by_cases h : t.val = 0
  · rw [if_pos ((qcond1_iff t).mpr h), h]; rfl
  · rw [if_neg (fun hc => h ((qcond1_iff t).mp hc))]; exact hm (by omega)

/-- What a later point leaves in the product's block. -/
def qOutAt (c : Dev nD) (t : Fin cfg0.N) : Vec F S1024x512 .bf16 :=
  k0_pay2 (k0_pay677 (qPanel V c (t.val / 8 - 1)) (iblk0 V c 2 t)) (broadcast S1024x512 (scal1 (iblk0 V c 0 t)))

/-! ## The proof data -/

/-- The scoped buffers that are not this call's, each at any contents. -/
def rest0 (c : Dev nD) : sProp 𝕄 :=
  iprop(anyBuf (F := F) c cc1_stg1_0 ∗ anyBuf (F := F) c cc1_stg1_1 ∗ anyBuf (F := F) c cc1_stg2_0 ∗ anyBuf (F := F) c cc1_stg2_1 ∗ anyBuf (F := F) c cc1_stg3_0 ∗ anyBuf (F := F) c cc1_stg3_1 ∗ anyBuf (F := F) c cc1_stg4_0 ∗ anyBuf (F := F) c cc1_stg4_1 ∗ anyBuf (F := F) c cc1_scratch0 ∗ anyBuf (F := F) c cc1_stg0_0)

/-- The scratch and the running maximum at contents that satisfy the invariants, and everything else at any contents. -/
def qPhiS (c : Dev nD) (n : ℕ) : sProp 𝕄 :=
  iprop((∃ s, ⌜qInv V c n s⌝ ∗ owns (c : Thread nD τ) (Memref.whole cc0_scratch0) fullShare s)
    ∗ (∃ m, ⌜0 < n → m = qMax V c n⌝ ∗ owns (c : Thread nD τ) (Memref.whole cc0_scratch1) fullShare m)
    ∗ (rest0 c ∗ ∃ r, prngReg c r))

/-- The proof data of the call. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => qOutAt V c t
    | ⟨4, _⟩ => qCodes V c t
    | ⟨5, _⟩ => k0_pay3 (qMax V c (t.val + 1))
  Φ t := qPhiS V c t.val
  q _ := fullShare
  owed _ := 0

/-- A window's array at entry is what memory holds. -/
theorem A_eq0 (c : Dev nD) (w : Fin cfg0.W) : (dat0 V c).A w = V c (Pipeline.arrRef spec0 w) := by dsimp only [dat0]
/-- What window 0's buffer holds after a point. -/
theorem after0_0 (c : Dev nD) (t : Fin cfg0.N) : (dat0 V c).after 0 t = iblk0 V c 0 t := by dsimp only [dat0]
/-- What window 1's buffer holds after a point. -/
theorem after0_1 (c : Dev nD) (t : Fin cfg0.N) : (dat0 V c).after 1 t = iblk0 V c 1 t := by dsimp only [dat0]
/-- What window 2's buffer holds after a point. -/
theorem after0_2 (c : Dev nD) (t : Fin cfg0.N) : (dat0 V c).after 2 t = iblk0 V c 2 t := by dsimp only [dat0]
/-- What window 3's buffer holds after a point. -/
theorem after0_3 (c : Dev nD) (t : Fin cfg0.N) : (dat0 V c).after 3 t = qOutAt V c t := by dsimp only [dat0]
/-- What window 4's buffer holds after a point. -/
theorem after0_4 (c : Dev nD) (t : Fin cfg0.N) : (dat0 V c).after 4 t = qCodes V c t := by dsimp only [dat0]
/-- What window 5's buffer holds after a point. -/
theorem after0_5 (c : Dev nD) (t : Fin cfg0.N) : (dat0 V c).after 5 t = k0_pay3 (qMax V c (t.val + 1)) := by dsimp only [dat0]
/-- What window 0's buffer holds before a point. -/
theorem before0_0 (c : Dev nD) (t : Fin cfg0.N) (d) : (dat0 V c).before 0 t d = iblk0 V c 0 t := before0_0_of V (dat0 V c) (A_eq0 V c 0) (after0_0 V c) t d
/-- What window 1's buffer holds before a point. -/
theorem before0_1 (c : Dev nD) (t : Fin cfg0.N) (d) : (dat0 V c).before 1 t d = iblk0 V c 1 t := before0_1_of V (dat0 V c) (A_eq0 V c 1) (after0_1 V c) t d
/-- What window 2's buffer holds before a point. -/
theorem before0_2 (c : Dev nD) (t : Fin cfg0.N) (d) : (dat0 V c).before 2 t d = iblk0 V c 2 t := before0_2_of V (dat0 V c) (A_eq0 V c 2) (after0_2 V c) t d

/-! ## The body obligation -/

/-- What the body is given at point `t`. -/
def bodyPre0 (c : Dev nD) (t : Fin cfg0.N) : sProp 𝕄 :=
  iprop(qPhiS V c t.val ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What the body gives back. -/
def bodyPost0 (c : Dev nD) (t : Fin cfg0.N) : sProp 𝕄 :=
  iprop(qPhiS V c (t.val + 1) ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ (dat0 V c).leavesExact 3 t
    ∗ (dat0 V c).leavesExact 4 t
    ∗ (dat0 V c).leavesExact 5 t)

/-- The product's block: stored in a later row, untouched in the first. -/
theorem leaves3 (c : Dev nD) (t : Fin cfg0.N) (d) {s : Vec F S2x1024x14336 .fp8e5m2} (hs : qInv V c t.val s) :
    owns (c : Thread nD τ) (st0_3 t) fullShare
        (if h : k0_cond3 (grid0.coords t) = 1#1 then
          k0_pay2 (k0_pay677 (otherPanel (grid0.coords t) h s) (iblk0 V c 2 t)) (broadcast S1024x512 (scal1 (iblk0 V c 0 t)))
        else (dat0 V c).before 3 t d)
      ⊢ (dat0 V c).leavesExact 3 t := by
  by_cases h : k0_cond3 (grid0.coords t) = 1#1
  · have ht := (qcond3_iff t).mp h
    rw [dif_pos h, otherPanel_eq V c t ht h hs]
    unfold Dat.leavesExact
    rw [show cfg0.idle 3 (cfg0.grid.coords t) = false from by
      show (!(k0_cond3 (grid0.coords t) == 1#1)) = false
      simp [h]]
    exact .rfl
  · have ht : t.val / 8 = 0 := by
      by_contra hh; exact h ((qcond3_iff t).mpr hh)
    rw [dif_neg h, (dat0 V c).leavesExact_idle 3 t (by
      show (!(k0_cond3 (grid0.coords t) == 1#1)) = true
      simp [h]) (qflush3_first t ht)]
    iintro H
    iexists d
    iexact H

/-- The codes' block: stored at every point. -/
theorem leaves4 (c : Dev nD) (t : Fin cfg0.N) :
    owns (c : Thread nD τ) (st0_4 t) fullShare (qCodes V c t) ⊢ (dat0 V c).leavesExact 4 t := by
  unfold Dat.leavesExact
  rw [show cfg0.idle 4 (cfg0.grid.coords t) = false from by
    show (!(k0_cond2 (grid0.coords t) == 1#1) && !(k0_cond3 (grid0.coords t) == 1#1)) = false
    by_cases h : t.val / 8 = 0
    · simp [(qcond2_iff t).mpr h]
    · simp [(qcond3_iff t).mpr h]]
  exact .rfl

/-- The maximum's block: stored at the last point, untouched before it. -/
theorem leaves5 (c : Dev nD) (t : Fin cfg0.N) (d) :
    owns (c : Thread nD τ) (st0_5 t) fullShare
        (if k0_cond4 (grid0.coords t) = 1#1 then k0_pay3 (qMax V c (t.val + 1)) else (dat0 V c).before 5 t d)
      ⊢ (dat0 V c).leavesExact 5 t := by
  by_cases h : k0_cond4 (grid0.coords t) = 1#1
  · rw [if_pos h]
    unfold Dat.leavesExact
    rw [show cfg0.idle 5 (cfg0.grid.coords t) = false from by
      show (!(k0_cond4 (grid0.coords t) == 1#1)) = false
      simp [h]]
    exact .rfl
  · rw [if_neg h, (dat0 V c).leavesExact_idle 5 t (by
      show (!(k0_cond4 (grid0.coords t) == 1#1)) = true
      simp [h]) (qflush5 t (fun hh => h ((qcond4_iff t).mpr hh)))]
    iintro H
    iexists d
    iexact H

/-- The body at point `t` takes the invariant one point on and leaves the blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0 qPhiS
  rw [dgrad_eq]
  simp only [before0_0, before0_1, before0_2]
  rw [show (dat0 V c).owesAt () t.succ = (dat0 V c).owesAt () t.castSucc from rfl, after0_0, after0_1, after0_2]
  have hx : (k0_cond2 (grid0.coords t) = 1#1 ∧ ¬ k0_cond3 (grid0.coords t) = 1#1)
      ∨ (¬ k0_cond2 (grid0.coords t) = 1#1 ∧ k0_cond3 (grid0.coords t) = 1#1) := by
    by_cases h : t.val / 8 = 0
    · exact .inl ⟨(qcond2_iff t).mpr h, fun hh => (qcond3_iff t).mp hh h⟩
    · exact .inr ⟨fun hh => h ((qcond2_iff t).mp hh), (qcond3_iff t).mpr h⟩
  iintro ⟨⟨⟨%s, %hs, Hs⟩, ⟨%m, %hm, Hm⟩, Hr⟩, Ho, ⟨%d0, H0⟩, ⟨%d1, H1⟩, ⟨%d2, H2⟩, ⟨%d3, H3⟩, ⟨%d4, H4⟩, ⟨%d5, H5⟩⟩
  iapply (run_rolled c (grid0.coords t) hx _ (hstage0_0 _) _ (hstage0_1 _) _ (hstage0_2 _) _ (hstage0_3 _) _ (hstage0_4 _) _ (hstage0_5 _) _ (Memref.isWhole_whole _) _ (Memref.isWhole_whole _)
    (iblk0 V c 0 t) (iblk0 V c 1 t) (iblk0 V c 2 t) ((dat0 V c).before 3 t d3) ((dat0 V c).before 4 t d4) ((dat0 V c).before 5 t d5) s m Set.univ _)
  isplitl [H0]; · iexact H0
  isplitl [H1]; · iexact H1
  isplitl [H2]; · iexact H2
  isplitl [H3]; · iexact H3
  isplitl [H4]; · iexact H4
  isplitl [H5]; · iexact H5
  isplitl [Hs]; · iexact Hs
  isplitl [Hm]; · iexact Hm
  rw [qMax_step V c t hm, codesOf_units]
  iintro ⟨H0, H1, H2, H3, H4, H5, Hs, Hm⟩
  isplitl [Hs Hm Hr]
  · isplitl [Hs]
    · iexists _; isplitr; · ipureintro; exact qInv_step V c t hs
      iexact Hs
    isplitl [Hm]
    · iexists _; isplitr; · ipureintro; exact fun _ => rfl
      iexact Hm
    iexact Hr
  isplitl [Ho]; · iexact Ho
  isplitl [H0]; · iexact H0
  isplitl [H1]; · iexact H1
  isplitl [H2]; · iexact H2
  isplitl [H3]
  · iapply (leaves3 V c t d3 hs); iexact H3
  isplitl [H4]
  · iapply (leaves4 V c t); iexact H4
  iapply (leaves5 V c t d5); iexact H5

/-- The first call's row of the definitions is its body. -/
theorem defs₀_row0 (t : Fin cfg0.N) : defs₀ (F := F) .tc cfg0.body (cfg0.bodyArgs t (cfg0.slots t)) = bodyAt0 t := by
  unfold defs₀; rw [Defs.onTc_tc]

/-- The body obligation of the call's pipeline. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The pipeline's scoped buffers and the generator register start the invariant. -/
theorem phi_in0 (c : Dev nD) : Pipeline.ΦA spec0 c ⊢ (dat0 V c).Φ 0 := by
  show Pipeline.ΦA spec0 c ⊢ qPhiS V c 0
  unfold Pipeline.ΦA qPhiS rest0
  rw [scopedRest0_eq]
  simp only [owns_whole]
  iintro ⟨⟨⟨%f, Hs⟩, ⟨%g, Hm⟩, A0, A1, A2, A3, A4, A5, A6, A7, A8, A9⟩, Hr⟩
  isplitl [Hs]
  · iexists f; isplitr; · ipureintro; exact qInv_zero V c f
    iexact Hs
  isplitl [Hm]
  · iexists g; isplitr; · ipureintro; exact fun h => absurd h (lt_irrefl 0)
    iexact Hm
  isplitl [A0 A1 A2 A3 A4 A5 A6 A7 A8 A9]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact A9
  iexact Hr

/-- The invariant gives the scoped buffers and the generator register back. -/
theorem phi_out0 (c : Dev nD) : (dat0 V c).Φ (Fin.last cfg0.N) ⊢ Pipeline.ΦA spec0 c := by
  show qPhiS V c cfg0.N ⊢ Pipeline.ΦA spec0 c
  unfold Pipeline.ΦA qPhiS rest0
  rw [scopedRest0_eq]
  simp only [owns_whole]
  iintro ⟨⟨%f, %hs, Hs⟩, ⟨%g, %hm, Hm⟩, ⟨A0, A1, A2, A3, A4, A5, A6, A7, A8, A9⟩, Hr⟩
  isplitr [Hr]
  swap; · iexact Hr
  isplitl [Hs]; · iexists f; iexact Hs
  isplitl [Hm]; · iexists g; iexact Hm
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  iexact A9

end Cert.KernelIdeal.Hand
end
-- ==== Proof.WholeRunIdeal.lean ====
/-
  The whole program from launch to return: the host's stretches and the two calls one after the other, what each leaves in every
  buffer, and the frame.
-/
module

public import proofs.«01_k».proof.Proof.DgradDataIdeal
public import proofs.«01_k».proof.Proof.WgradDataIdeal
public import proofs.«01_k».proof.Proof.Gen.KernelIdeal.Points
public import proofs.«01_k».proof.Proof.Gen.KernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Tactic
public import Idealize.ShloMosaic.Lib.Pointwise.Index
public import Idealize.ShloMosaic.Lib.Ring
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_v1, main_v2, main_v3, main_v4, main_v5]
/-- `hostOps0` writes only the listed references. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_v9]
/-- `hostOps1` writes only the listed references. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments are as launched at this boundary. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at this boundary. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- At the region's exit each of its arrays holds what the pipeline leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A reference that is none of the region's arrays keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at this boundary. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- Every other buffer keeps what it held at the region's entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments are as launched at this boundary. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- At the region's exit each of its arrays holds what the pipeline leaves. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A reference that is none of the region's arrays keeps its contents. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at this boundary. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- Every other buffer keeps what it held at the region's entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched: no host stretch writes one and no region may change one (a region reads it
    through an input window or bypasses it) -/

/-- Argument 0 ends as launched. -/
theorem W4_main_arg0 (c : Dev nD) : W4 m ρ c (Proc.devRef .tc main_arg0) = m ((c : Thread nD τ).loc main_arg0) :=
  W4_args m ρ c main_arg0 (by decide)
/-- Argument 1 ends as launched. -/
theorem W4_main_arg1 (c : Dev nD) : W4 m ρ c (Proc.devRef .tc main_arg1) = m ((c : Thread nD τ).loc main_arg1) :=
  W4_args m ρ c main_arg1 (by decide)
/-- Argument 2 ends as launched. -/
theorem W4_main_arg2 (c : Dev nD) : W4 m ρ c (Proc.devRef .tc main_arg2) = m ((c : Thread nD τ).loc main_arg2) :=
  W4_args m ρ c main_arg2 (by decide)
/-- Argument 3 ends as launched. -/
theorem W4_main_arg3 (c : Dev nD) : W4 m ρ c (Proc.devRef .tc main_arg3) = m ((c : Thread nD τ).loc main_arg3) :=
  W4_args m ρ c main_arg3 (by decide)
/-- Argument 4 ends as launched. -/
theorem W4_main_arg4 (c : Dev nD) : W4 m ρ c (Proc.devRef .tc main_arg4) = m ((c : Thread nD τ).loc main_arg4) :=
  W4_args m ρ c main_arg4 (by decide)
/-- Argument 5 ends as launched. -/
theorem W4_main_arg5 (c : Dev nD) : W4 m ρ c (Proc.devRef .tc main_arg5) = m ((c : Thread nD τ).loc main_arg5) :=
  W4_args m ρ c main_arg5 (by decide)
/-- Argument 6 ends as launched. -/
theorem W4_main_arg6 (c : Dev nD) : W4 m ρ c (Proc.devRef .tc main_arg6) = m ((c : Thread nD τ).loc main_arg6) :=
  W4_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in0 (V1 m ρ) c)
    unfold Pipeline.ΦA
    iintro ⟨Hp, -, Hr⟩
    isplitl [Hr]; · iexact Hr
    iexact Hp
  hout c := by
    rw [Pipeline.ownSems0_none]
    refine BIBase.Entails.trans (phi_out0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi_in1 (V3 m ρ) c)
    unfold Pipeline.ΦA
    iintro ⟨Hp, -, Hr⟩
    isplitl [Hr]; · iexact Hr
    iexact Hp
  hout c := by
    rw [Pipeline.ownSems0_none]
    refine BIBase.Entails.trans (phi_out1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: every weakly fair execution terminates, nothing faulting, with every unscoped buffer at the last boundary's contents
    and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- The frame: every execution terminates with the argument arrays as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c =>
    ⟨(h.1 c _ (mem_uc main_arg0 (by decide))).trans (W4_main_arg0 m ρ c),
     (h.1 c _ (mem_uc main_arg1 (by decide))).trans (W4_main_arg1 m ρ c),
     (h.1 c _ (mem_uc main_arg2 (by decide))).trans (W4_main_arg2 m ρ c),
     (h.1 c _ (mem_uc main_arg3 (by decide))).trans (W4_main_arg3 m ρ c),
     (h.1 c _ (mem_uc main_arg4 (by decide))).trans (W4_main_arg4 m ρ c),
     (h.1 c _ (mem_uc main_arg5 (by decide))).trans (W4_main_arg5 m ρ c),
     (h.1 c _ (mem_uc main_arg6 (by decide))).trans (W4_main_arg6 m ρ c)⟩, h.2⟩) (run m ρ)

end Cert.KernelIdeal.Hand
end
-- ==== Proof.WgradValue.lean ====
/-
  What the result array of the weight-gradient call holds at the end, at the extended reals: element `(o, d)` is the old gradient
  plus the scaled sum over all tokens of codes times activations.
-/
module

public import proofs.«01_k».proof.Proof.WgradDataIdeal
public import Idealize.ShloMosaic.Lib.Pipeline.Value
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- Element `(o, d)` of the weight gradient: the old gradient plus the scale times the sum over the tokens of codes times activations. -/
def wgradAt (codes : (⟨2, ![16384, 14336]⟩ : Shape).Idx → EReal) (x : (⟨2, ![16384, 4096]⟩ : Shape).Idx → EReal)
    (mg : (⟨2, ![14336, 4096]⟩ : Shape).Idx → EReal) (s : EReal) (o : Fin 14336) (d : Fin 4096) : EReal :=
  mg (ix2 o d) + (∑ k : Fin 16384, codes (ix2 k o) * x (ix2 k d)) * s

/-! ## Which block a point's windows hold -/

/-- The chunk of codes a point holds. -/
theorem windex1 : ∀ t : Fin grid1.N, t.val < 128 → win1_1.index t = ![t.val % 8, t.val / 8] := by decide +kernel
/-- The panel of activations a point holds, after the first block. -/
theorem windex2 : ∀ t : Fin grid1.N, ¬ t.val / 8 = 0 → win1_2.index t = ![0, t.val % 8] := by decide +kernel
/-- The block of the old gradient a point holds, after the first block. -/
theorem windex3 : ∀ t : Fin grid1.N, ¬ t.val / 8 = 0 → win1_3.index t = ![t.val / 8 - 1, t.val % 8] := by decide +kernel
/-- The block of the result a point holds, after the first block. -/
theorem windex4 : ∀ t : Fin grid1.N, ¬ t.val / 8 = 0 → win1_4.index t = ![t.val / 8 - 1, t.val % 8] := by decide +kernel
/-- The result's block is written back at every point after the first block. -/
theorem wflush4 : ∀ t : Fin grid1.N, win1_4.flush t = true ↔ ¬ t.val / 8 = 0 := by decide +kernel

variable (V : (c : Dev nD) → (b : Ref sig .tc) → Buf (Elt Ideal) ((c : Thread nD τ).loc b))

/-- An element of the codes' chunk. -/
theorem wblk1_apply (c : Dev nD) (t : Fin cfg1.N) (ht : t.val < 128) (y : S2048x896.Idx) (k : Fin 16384) (o : Fin 14336)
    (hk : k.val = t.val % 8 * 2048 + (y 0).val) (ho : o.val = t.val / 8 * 896 + (y 1).val) :
    (iblk1 V c 1 t : Vec Ideal S2048x896 .fp8e5m2) y = V c main_v6_1 (ix2 k o) := by
  unfold iblk1
  rw [View.read_apply]
  show V c main_v6_1 _ = _
  refine congrArg (V c main_v6_1) (funext fun a => Fin.ext ?_)
  refine (win1_1.rect_emb_val t y a).trans ?_
  rw [congrFun (windex1 t ht) a]
  match a with
  | ⟨0, _⟩ => exact hk.symm
  | ⟨1, _⟩ => exact ho.symm

/-- An element of the activations' panel. -/
theorem wblk2_apply (c : Dev nD) (t : Fin cfg1.N) (ht : ¬ t.val / 8 = 0) (y : S16384x512.Idx) (d : Fin 4096)
    (hd : d.val = t.val % 8 * 512 + (y 1).val) :
    (iblk1 V c 2 t : Vec Ideal S16384x512 .fp8e4m3) y = V c main_v9 (ix2 (y 0 : Fin 16384) d) := by
  unfold iblk1
  rw [View.read_apply]
  show V c main_v9 _ = _
  refine congrArg (V c main_v9) (funext fun a => Fin.ext ?_)
  refine (win1_2.rect_emb_val t y a).trans ?_
  rw [congrFun (windex2 t ht) a]
  match a with
  | ⟨0, _⟩ => exact (Nat.zero_mul _).symm ▸ Nat.zero_add _
  | ⟨1, _⟩ => exact hd.symm

/-- An element of the old gradient's block. -/
theorem wblk3_apply (c : Dev nD) (t : Fin cfg1.N) (ht : ¬ t.val / 8 = 0) (y : S896x512.Idx) (o : Fin 14336) (d : Fin 4096)
    (ho : o.val = (t.val / 8 - 1) * 896 + (y 0).val) (hd : d.val = t.val % 8 * 512 + (y 1).val) :
    (iblk1 V c 3 t : Vec Ideal S896x512 .f32) y = V c main_arg6 (ix2 o d) := by
  unfold iblk1
  rw [View.read_apply]
  show V c main_arg6 _ = _
  refine congrArg (V c main_arg6) (funext fun a => Fin.ext ?_)
  refine (win1_3.rect_emb_val t y a).trans ?_
  rw [congrFun (windex3 t ht) a]
  match a with
  | ⟨0, _⟩ => exact ho.symm
  | ⟨1, _⟩ => exact hd.symm

/-- The scale's block is its array. -/
theorem wblk0_apply (c : Dev nD) (t : Fin cfg1.N) : (iblk1 V c 0 t : Vec Ideal S1 .f32) at0 = V c main_v8 at0 := by
  unfold iblk1
  rw [View.read_apply]
  show V c main_v8 _ = _
  exact congrArg (V c main_v8) (at0_unique _)

/-- The transposed codes of row of blocks `i`: row `r`, token `k` is the code of token `k` at output feature `896 i + r`. -/
theorem wCell_eq (c : Dev nD) (i : ℕ) (hi : i < 16) (r : Fin 896) (k : Fin 16384) (o : Fin 14336) (ho : o.val = i * 896 + r.val) :
    wCell V c i r k = V c main_v6_1 (ix2 k o) := by
  have hp : (wpt (8 * i + k.val / 2048)).val = 8 * i + k.val / 2048 := Nat.mod_eq_of_lt (by omega)
  unfold wCell
  pointwise [k1_pay1]
  refine wblk1_apply V c _ (by rw [hp]; omega) _ k o ?_ ?_
  · rw [hp]; simp; omega
  · rw [hp]; simp; omega

/-- What a later point leaves in its block is the block of the weight gradient. -/
theorem wOutAt_apply (c : Dev nD) (t : Fin cfg1.N) (ht : ¬ t.val / 8 = 0) (y : S896x512.Idx) (o : Fin 14336) (d : Fin 4096)
    (ho : o.val = (t.val / 8 - 1) * 896 + (y 0).val) (hd : d.val = t.val % 8 * 512 + (y 1).val) :
    wOutAt V c t y = wgradAt (V c main_v6_1) (V c main_v9) (V c main_arg6) (V c main_v8 at0) o d := by
  have hN : t.val < 136 := t.isLt.trans_eq N_1
  obtain ⟨a, b, rfl⟩ : ∃ (a : Fin 896) (b : Fin 512), y = ix2 a b := ⟨y 0, y 1, eq_ix2 y⟩
  unfold wOutAt wgradAt
  rw [wblk0_apply]
  pointwise [k1_pay2, k1_pay3]
  rw [wblk3_apply V c t ht _ o d ho hd]
  refine congrArg₂ (· + ·) rfl (congrArg₂ (· * ·) (Finset.sum_congr rfl fun k _ => congrArg₂ (· * ·) ?_ ?_) rfl)
  · exact wCell_eq V c _ (by omega) _ _ o ho
  · exact wblk2_apply V c t ht _ d hd

/-- The whole weight gradient, as contents of the result array. -/
def wgrad (c : Dev nD) : Buf (Elt Ideal) ((c : Thread nD τ).loc main_v10) := fun i =>
  wgradAt (V c main_v6_1) (V c main_v9) (V c main_arg6) (V c main_v8 at0) (i 0) (i 1)

/-- Every write-back writes its block of the weight gradient. -/
theorem wflushed4 (c : Dev nD) (t : Fin cfg1.N) (hf : (cfg1.win 4).flush t = true) :
    (dat1 V c).flushed 4 t = ((cfg1.win 4).blk t).view.read (Elt Ideal) (wgrad V c) := by
  have ht := (wflush4 t).mp hf
  show (cfg1.win 4).cut (grid1.coords t) ((dat1 V c).after 4 t) = _
  rw [after1_4]
  funext y
  rw [View.read_apply]
  have e0 := (win1_4.rect_emb_val t y 0)
  have e1 := (win1_4.rect_emb_val t y 1)
  rw [windex4 t ht] at e0 e1
  exact wOutAt_apply V c t ht y _ _ e0 e1

/-- The result array ends at the weight gradient: the later points' blocks cover it. -/
theorem wfinal4 (c : Dev nD) : (dat1 V c).arrAt 4 cfg1.N = wgrad V c :=
  (dat1 V c).arrAt_eq_of_cover 4 (wgrad V c) (wflushed4 V c) fun i => by
    have h0 : (i 0 : ℕ) < 14336 := (i 0).isLt
    have h1 : (i 1 : ℕ) < 4096 := (i 1).isLt
    obtain ⟨t, ht⟩ : ∃ t : Fin cfg1.N, t.val = 8 + (i 0 : ℕ) / 896 * 8 + (i 1 : ℕ) / 512 :=
      ⟨⟨_, by rw [show cfg1.N = 136 from N_1]; omega⟩, rfl⟩
    have hn : ¬ t.val / 8 = 0 := by omega
    refine ⟨t, (wflush4 t).mpr hn, ?_⟩
    show i ∈ ((View.whole main_v10).slice (win1_4.rect t)).set
    rw [View.set_slice_whole, Rect.mem_set_unit]
    intro a
    show win1_4.index t a * win1_4.size a ≤ (i a : ℕ) ∧ (i a : ℕ) < win1_4.index t a * win1_4.size a + win1_4.size a
    rw [windex4 t hn]
    match a with
    | ⟨0, _⟩ =>
      show (t.val / 8 - 1) * 896 ≤ (i 0 : ℕ) ∧ (i 0 : ℕ) < (t.val / 8 - 1) * 896 + 896
      omega
    | ⟨1, _⟩ =>
      show t.val % 8 * 512 ≤ (i 1 : ℕ) ∧ (i 1 : ℕ) < t.val % 8 * 512 + 512
      omega

end Cert.KernelIdeal.Hand
end
-- ==== Proof.DgradValue.lean ====
/-
  What the input-gradient call leaves in the codes' array and in the product's array, at the extended reals.
-/
module

public import proofs.«01_k».proof.Proof.DgradDataIdeal
public import Idealize.ShloMosaic.Lib.Pipeline.Value
public import Idealize.ShloMosaic.Lib.Pointwise
public import Idealize.ShloMosaic.PureOps.Ideal

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-- The code of a value under a scale: the scaled value, clipped. -/
def codeOf (v s : EReal) : EReal :=
  min (Scalar.ofBits .f32 0x47600000#32 : Ideal .f32) (max (Scalar.ofBits .f32 0xC7600000#32 : Ideal .f32) (v * s))

/-- Element `(r, d)` of the input gradient: the scale times the sum over the output features of codes times weights. -/
def dgradAt (codes : (⟨2, ![16384, 14336]⟩ : Shape).Idx → EReal) (w : (⟨2, ![14336, 4096]⟩ : Shape).Idx → EReal)
    (s : EReal) (r : Fin 16384) (d : Fin 4096) : EReal :=
  (∑ k : Fin 14336, codes (ix2 r k) * w (ix2 k d)) * s

/-! ## Which block a point's windows hold -/

/-- The scalars' window is always its whole array. -/
theorem qindex0 : ∀ (t : Fin grid0.N) (a : Fin 1), win0_0.index t a = 0 := by decide +kernel
/-- The gradient's and the codes' windows move together. -/
theorem qindex14 : ∀ t : Fin grid0.N, win0_1.index t = win0_4.index t := by decide +kernel
/-- The chunk of rows a point holds. -/
theorem qindex4 : ∀ t : Fin grid0.N, win0_4.index t = ![min t.val 127, 0] := by decide +kernel
/-- The panel of weights a point holds, after the first block of rows. -/
theorem qindex2 : ∀ t : Fin grid0.N, ¬ t.val / 8 = 0 → win0_2.index t = ![0, t.val % 8] := by decide +kernel
/-- The block of the input gradient a point holds, after the first block of rows. -/
theorem qindex3 : ∀ t : Fin grid0.N, ¬ t.val / 8 = 0 → win0_3.index t = ![t.val / 8 - 1, t.val % 8] := by decide +kernel
/-- The input gradient's block is written back at every point after the first block of rows. -/
theorem qflush3 : ∀ t : Fin grid0.N, win0_3.flush t = true ↔ ¬ t.val / 8 = 0 := by decide +kernel
/-- The codes' chunk is written back at the first 128 points. -/
theorem qflush4 : ∀ t : Fin grid0.N, win0_4.flush t = true ↔ t.val < 127 ∨ t.val = 135 := by decide +kernel

variable (V : (c : Dev nD) → (b : Ref sig .tc) → Buf (Elt Ideal) ((c : Thread nD τ).loc b))

/-- The scalars' block is their array. -/
theorem qblk0 (c : Dev nD) (t : Fin cfg0.N) : (iblk0 V c 0 t : Vec Ideal S2 .f32) = V c main_v4 := by
  funext y; unfold iblk0; rw [View.read_apply]
  exact congrArg (V c main_v4) (funext fun a => Fin.ext ((win0_0.rect_emb_val_of_index_zero t a (qindex0 t a) y)))

/-- An element of the gradient's chunk. -/
theorem qblk1_apply (c : Dev nD) (t : Fin cfg0.N) (y : S128x14336.Idx) (r : Fin 16384) (k : Fin 14336)
    (hr : r.val = min t.val 127 * 128 + (y 0).val) (hk : k.val = (y 1).val) :
    (iblk0 V c 1 t : Vec Ideal S128x14336 .bf16) y = V c main_v5 (ix2 r k) := by
  unfold iblk0
  rw [View.read_apply]
  show V c main_v5 _ = _
  refine congrArg (V c main_v5) (funext fun a => Fin.ext ?_)
  refine (win0_1.rect_emb_val t y a).trans ?_
  rw [congrFun (qindex14 t) a, congrFun (qindex4 t) a]
  match a with
  | ⟨0, _⟩ => exact hr.symm
  | ⟨1, _⟩ => exact ((Nat.zero_mul _).symm ▸ Nat.zero_add _ : 0 * 14336 + (y 1).val = (y 1).val).trans hk.symm

/-- An element of the weights' panel. -/
theorem qblk2_apply (c : Dev nD) (t : Fin cfg0.N) (ht : ¬ t.val / 8 = 0) (y : S14336x512.Idx) (d : Fin 4096)
    (hd : d.val = t.val % 8 * 512 + (y 1).val) :
    (iblk0 V c 2 t : Vec Ideal S14336x512 .fp8e4m3) y = V c main_arg4 (ix2 (y 0 : Fin 14336) d) := by
  unfold iblk0
  rw [View.read_apply]
  show V c main_arg4 _ = _
  refine congrArg (V c main_arg4) (funext fun a => Fin.ext ?_)
  refine (win0_2.rect_emb_val t y a).trans ?_
  rw [congrFun (qindex2 t ht) a]
  match a with
  | ⟨0, _⟩ => exact (Nat.zero_mul _).symm ▸ Nat.zero_add _
  | ⟨1, _⟩ => exact hd.symm

/-! ## The codes -/

/-- All codes, as contents of the codes' array. -/
def codesArr (c : Dev nD) : Buf (Elt Ideal) ((c : Thread nD τ).loc main_v6_1) := fun i =>
  codeOf (V c main_v5 i) (scal0 (V c main_v4))

/-- The codes of a point's chunk are the codes of the rows it covers. -/
theorem qCodes_apply (c : Dev nD) (t : Fin cfg0.N) (y : S128x14336.Idx) (r : Fin 16384) (k : Fin 14336)
    (hr : r.val = min t.val 127 * 128 + (y 0).val) (hk : k.val = (y 1).val) :
    qCodes V c t y = codesArr V c (ix2 r k) := by
  unfold qCodes codesArr codeOf
  rw [qblk0]
  rw [← qblk1_apply V c t y r k hr hk]
  rfl

/-- Every write-back of codes writes its block of the codes. -/
theorem qflushed4 (c : Dev nD) (t : Fin cfg0.N) :
    (dat0 V c).flushed 4 t = ((cfg0.win 4).blk t).view.read (Elt Ideal) (codesArr V c) := by
  show (cfg0.win 4).cut (grid0.coords t) ((dat0 V c).after 4 t) = _
  rw [after0_4]
  funext y
  rw [View.read_apply]
  have e0 := (win0_4.rect_emb_val t y 0)
  have e1 := (win0_4.rect_emb_val t y 1)
  rw [qindex4 t] at e0 e1
  refine (qCodes_apply V c t y _ _ e0 (e1.trans ?_)).trans (congrArg (codesArr V c) (eq_ix2 _).symm)
  exact ((Nat.zero_mul _).symm ▸ Nat.zero_add _ : 0 * 14336 + (y 1).val = (y 1).val)

/-- The codes' array ends at the codes: the blocks written back cover it. -/
theorem qfinal4 (c : Dev nD) : (dat0 V c).arrAt 4 cfg0.N = codesArr V c :=
  (dat0 V c).arrAt_eq_of_cover 4 (codesArr V c) (fun t _ => qflushed4 V c t) fun i => by
    have h0 : (i 0 : ℕ) < 16384 := (i 0).isLt
    have h1 : (i 1 : ℕ) < 14336 := (i 1).isLt
    obtain ⟨t, ht, hf⟩ : ∃ t : Fin cfg0.N, min t.val 127 = (i 0 : ℕ) / 128 ∧ (t.val < 127 ∨ t.val = 135) := by
      by_cases h : (i 0 : ℕ) / 128 < 127
      · exact ⟨⟨(i 0 : ℕ) / 128, by rw [show cfg0.N = 136 from N_0]; omega⟩, by show min ((i 0 : ℕ) / 128) 127 = _; omega, .inl h⟩
      · exact ⟨⟨135, by rw [show cfg0.N = 136 from N_0]; omega⟩, by show min 135 127 = _; omega, .inr rfl⟩
    refine ⟨t, (qflush4 t).mpr hf, ?_⟩
    show i ∈ ((View.whole main_v6_1).slice (win0_4.rect t)).set
    rw [View.set_slice_whole, Rect.mem_set_unit]
    intro a
    show win0_4.index t a * win0_4.size a ≤ (i a : ℕ) ∧ (i a : ℕ) < win0_4.index t a * win0_4.size a + win0_4.size a
    rw [qindex4 t]
    match a with
    | ⟨0, _⟩ =>
      show min t.val 127 * 128 ≤ (i 0 : ℕ) ∧ (i 0 : ℕ) < min t.val 127 * 128 + 128
      omega
    | ⟨1, _⟩ =>
      show 0 * 14336 ≤ (i 1 : ℕ) ∧ (i 1 : ℕ) < 0 * 14336 + 14336
      rw [Nat.zero_mul, Nat.zero_add]
      exact ⟨Nat.zero_le _, h1⟩

/-! ## The product -/

/-- Row `r`, column `k` of panel `i` of the codes is the code of row `1024 i + r`. -/
theorem qCell_eq (c : Dev nD) (i : ℕ) (hi : i < 16) (r : Fin 1024) (k : Fin 14336) (q : Fin 16384) (hq : q.val = i * 1024 + r.val) :
    qCell V c i r k = codesArr V c (ix2 q k) := by
  have hr := r.isLt
  have hp : (qpt (8 * i + r.val / 128)).val = 8 * i + r.val / 128 := Nat.mod_eq_of_lt (by omega)
  unfold qCell
  refine qCodes_apply V c _ _ q k ?_ rfl
  rw [hp]
  show q.val = min (8 * i + r.val / 128) 127 * 128 + r.val % 128
  omega

/-- What a later point leaves in its block is the block of the input gradient. -/
theorem qOutAt_apply (c : Dev nD) (t : Fin cfg0.N) (ht : ¬ t.val / 8 = 0) (y : S1024x512.Idx) (r : Fin 16384) (d : Fin 4096)
    (hr : r.val = (t.val / 8 - 1) * 1024 + (y 0).val) (hd : d.val = t.val % 8 * 512 + (y 1).val) :
    qOutAt V c t y = dgradAt (codesArr V c) (V c main_arg4) (scal1 (V c main_v4)) r d := by
  have hN : t.val < 136 := t.isLt.trans_eq N_0
  obtain ⟨a, b, rfl⟩ : ∃ (a : Fin 1024) (b : Fin 512), y = ix2 a b := ⟨y 0, y 1, eq_ix2 y⟩
  unfold qOutAt dgradAt
  rw [qblk0]
  pointwise [k0_pay2, k0_pay677]
  refine congrArg₂ (· * ·) (Finset.sum_congr rfl fun k _ => congrArg₂ (· * ·) ?_ ?_) rfl
  · exact qCell_eq V c _ (by omega) _ _ r hr
  · exact qblk2_apply V c t ht _ d hd

/-- The whole input gradient, as contents of the result array. -/
def dgrad (c : Dev nD) : Buf (Elt Ideal) ((c : Thread nD τ).loc main_v6_0) := fun i =>
  dgradAt (codesArr V c) (V c main_arg4) (scal1 (V c main_v4)) (i 0) (i 1)

/-- Every write-back of the product writes its block of the input gradient. -/
theorem qflushed3 (c : Dev nD) (t : Fin cfg0.N) (hf : (cfg0.win 3).flush t = true) :
    (dat0 V c).flushed 3 t = ((cfg0.win 3).blk t).view.read (Elt Ideal) (dgrad V c) := by
  have ht := (qflush3 t).mp hf
  show (cfg0.win 3).cut (grid0.coords t) ((dat0 V c).after 3 t) = _
  rw [after0_3]
  funext y
  rw [View.read_apply]
  have e0 := (win0_3.rect_emb_val t y 0)
  have e1 := (win0_3.rect_emb_val t y 1)
  rw [qindex3 t ht] at e0 e1
  exact qOutAt_apply V c t ht y _ _ e0 e1

/-- The product's array ends at the input gradient: the later points' blocks cover it. -/
theorem qfinal3 (c : Dev nD) : (dat0 V c).arrAt 3 cfg0.N = dgrad V c :=
  (dat0 V c).arrAt_eq_of_cover 3 (dgrad V c) (qflushed3 V c) fun i => by
    have h0 : (i 0 : ℕ) < 16384 := (i 0).isLt
    have h1 : (i 1 : ℕ) < 4096 := (i 1).isLt
    obtain ⟨t, ht⟩ : ∃ t : Fin cfg0.N, t.val = 8 + (i 0 : ℕ) / 1024 * 8 + (i 1 : ℕ) / 512 :=
      ⟨⟨_, by rw [show cfg0.N = 136 from N_0]; omega⟩, rfl⟩
    have hn : ¬ t.val / 8 = 0 := by omega
    refine ⟨t, (qflush3 t).mpr hn, ?_⟩
    show i ∈ ((View.whole main_v6_0).slice (win0_3.rect t)).set
    rw [View.set_slice_whole, Rect.mem_set_unit]
    intro a
    show win0_3.index t a * win0_3.size a ≤ (i a : ℕ) ∧ (i a : ℕ) < win0_3.index t a * win0_3.size a + win0_3.size a
    rw [qindex3 t hn]
    match a with
    | ⟨0, _⟩ =>
      show (t.val / 8 - 1) * 1024 ≤ (i 0 : ℕ) ∧ (i 0 : ℕ) < (t.val / 8 - 1) * 1024 + 1024
      omega
    | ⟨1, _⟩ =>
      show t.val % 8 * 512 ≤ (i 1 : ℕ) ∧ (i 1 : ℕ) < t.val % 8 * 512 + 512
      omega

end Cert.KernelIdeal.Hand
end
-- ==== Proof.MaxAll.lean ====
/-
  The maximum of a whole two-axis array at the extended reals, read through its upper bounds, and magnitudes.
-/
module

public import Idealize.ShloMosaic.Lib.Pipeline.Value
public import Idealize.ShloMosaic.Lib.ValueLayout
public import Idealize.ShloMosaic.Lib.Pointwise
public import Idealize.ShloMosaic.Lib.Pointwise.Index
public import Idealize.ShloMosaic.PureOps.Reduce
public import Idealize.ShloMosaic.PureOps.Ideal
public import Idealize.ShloMosaic.PureOps.Ideal.Laws

@[expose] public section

noncomputable section

namespace Cert

open Idealize.ShloMosaic

/-- The magnitude of an extended real. -/
def mag (v : EReal) : EReal := max v (-v)

/-- A magnitude is never negative. -/
theorem mag_nonneg (v : EReal) : 0 ≤ mag v := by
  unfold mag
  rcases le_total 0 v with h | h
  · exact le_max_of_le_left h
  · exact le_max_of_le_right (by rw [EReal.le_neg]; simpa using h)

/-- A pointwise maximum is under a bound just when both operands are. -/
theorem maximumf_le_iff {s : Shape} (a b : FVec Ideal s .f32) (y : s.Idx) (B : EReal) :
    (maximumf a b y : EReal) ≤ B ↔ (a y : EReal) ≤ B ∧ (b y : EReal) ≤ B :=
  max_le_iff

/-- The maximum over both axes of an array is under a bound just when every element is. -/
theorem maxAll_le_iff {p q : ℕ} (v : FVec Ideal ⟨2, ![p, q]⟩ .f32)
    (hs : Shape.ShapeCasts ⟨2, ![p, q]⟩ ⟨3, ![1, p, q]⟩) (h : Shape.Reduces ⟨3, ![1, p, q]⟩ [1, 2] ⟨1, ![1]⟩) (hφ : FKind.Formats .f32)
    (hacc : (0xFF800000#32 : BitVec 32) = FKind.maximumf.neutral .f32 hφ) (j : (⟨1, ![1]⟩ : Shape).Idx) (B : EReal) :
    (multiReduction .maximumf [1, 2] ⟨1, ![1]⟩ (shapeCast ⟨3, ![1, p, q]⟩ v hs) 0xFF800000#32 h hφ hacc j : EReal) ≤ B
      ↔ ∀ y, (v y : EReal) ≤ B := by
  rw [multiReduction_maximumf_eq_fold]
  refine (Finset.fold_max_le B).trans ?_
  constructor
  · rintro ⟨-, hB⟩ y
    have := hB (ix3 (0 : Fin 1) (y 0 : Fin p) (y 1 : Fin q)) (Finset.mem_filter.mpr ⟨Finset.mem_univ _, funext fun a => by
      match a with
      | ⟨0, _⟩ => exact Subsingleton.elim (α := Fin 1) _ _⟩)
    refine le_trans (le_of_eq ?_) this
    exact ((ValueIdx.shapeCast_ab_1ab_apply _ _ _ _ _).trans (congrArg v (eq_ix2 y).symm)).symm
  · intro hB
    refine ⟨?_, fun i _ => ?_⟩
    · show (⊥ : EReal) ≤ B
      exact bot_le
    · exact hB _

/-- The same of the maximum taken out to a scalar and written to an array. -/
theorem maxOut_le_iff {p q : ℕ} {t : Shape} (v : FVec Ideal ⟨2, ![p, q]⟩ .f32)
    (hs : Shape.ShapeCasts ⟨2, ![p, q]⟩ ⟨3, ![1, p, q]⟩) (h : Shape.Reduces ⟨3, ![1, p, q]⟩ [1, 2] ⟨1, ![1]⟩) (hφ : FKind.Formats .f32)
    (hacc : (0xFF800000#32 : BitVec 32) = FKind.maximumf.neutral .f32 hφ) (hc : Shape.ShapeCasts ⟨1, ![1]⟩ ⟨3, ![1, 1, 1]⟩)
    (hp : ∀ a, (![0, 0, 0] : Fin 3 → ℕ) a < (⟨3, ![1, 1, 1]⟩ : Shape).size a) (y : t.Idx) (B : EReal) :
    (broadcast t (extractAt ![0, 0, 0] (shapeCast ⟨3, ![1, 1, 1]⟩
      (multiReduction .maximumf [1, 2] ⟨1, ![1]⟩ (shapeCast ⟨3, ![1, p, q]⟩ v hs) 0xFF800000#32 h hφ hacc) hc) hp) y : EReal) ≤ B
      ↔ ∀ y, (v y : EReal) ≤ B :=
  maxAll_le_iff v hs h hφ hacc _ B

end Cert
end
-- ==== Proof.AmaxValue.lean ====
/-
  What the input-gradient call leaves in the maximum's array, at the extended reals: the greatest magnitude of the whole array.
  The running maximum takes the elements tile by tile, so it is read through its upper bounds.
-/
module

public import proofs.«01_k».proof.Proof.DgradValue
public import proofs.«01_k».proof.Proof.MaxAll

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

/-! ## One tile -/

/-- Each 8×128 piece lies in the 32×512 tile. -/
theorem piece_slices : ∀ n : Fin 16, S32x512.Slices ![8 * (n.val / 4), 128 * (n.val % 4)] S8x128 := by decide +kernel

/-- The `n`-th 8 × 128 piece of a tile. -/
def piece (a : FVec Ideal S32x512 .f32) (n : Fin 16) : FVec Ideal S8x128 .f32 :=
  extractStridedSlice S8x128 ![8 * (n.val / 4), 128 * (n.val % 4)] a (piece_slices n)

/-- A tile is taken into the maximum piece by piece. -/
theorem maxTile_eq (m : FVec Ideal S8x128 .f32) (a : FVec Ideal S32x512 .f32) :
    maxTile m a = ([0, 1, 2, 3, 4, 5, 6, 7, 8, 9, 10, 11, 12, 13, 14, 15] : List (Fin 16)).foldl (fun m n => maximumf m (piece a n)) m := rfl

/-- A running maximum over a list of pieces is under a bound just when its start and every piece are. -/
theorem foldPieces_le (a : FVec Ideal S32x512 .f32) (B : EReal) (y : S8x128.Idx) (l : List (Fin 16)) :
    ∀ m : FVec Ideal S8x128 .f32, (l.foldl (fun m n => maximumf m (piece a n)) m y : EReal) ≤ B
      ↔ (m y : EReal) ≤ B ∧ ∀ n ∈ l, (piece a n y : EReal) ≤ B := by
  induction l with
  | nil => intro m; simp
  | cons n l ih =>
    intro m
    rw [List.foldl_cons, ih, maximumf_le_iff, List.forall_mem_cons, and_assoc]

/-- The maximum with a tile is under a bound just when the maximum before it and every element of the tile are. -/
theorem maxTile_le (m : FVec Ideal S8x128 .f32) (a : FVec Ideal S32x512 .f32) (B : EReal) :
    (∀ y, (maxTile m a y : EReal) ≤ B) ↔ (∀ y, (m y : EReal) ≤ B) ∧ ∀ z, (a z : EReal) ≤ B := by
  simp only [maxTile_eq, foldPieces_le]
  constructor
  · intro h
    refine ⟨fun y => (h y).1, fun z => ?_⟩
    have h0 : (z 0).val < 32 := (z 0).isLt
    have h1 : (z 1).val < 512 := (z 1).isLt
    have hn : (z 0).val / 8 * 4 + (z 1).val / 128 < 16 := by omega
    have := (h (ix2 (⟨(z 0).val % 8, by omega⟩ : Fin 8) (⟨(z 1).val % 128, by omega⟩ : Fin 128))).2
      ⟨(z 0).val / 8 * 4 + (z 1).val / 128, hn⟩ (by
        generalize (⟨(z 0).val / 8 * 4 + (z 1).val / 128, hn⟩ : Fin 16) = n
        revert n; decide)
    refine le_trans (le_of_eq ?_) this
    unfold piece
    refine (extractStridedSlice_apply _ _ _ _ z fun b => ?_).symm
    fin_cases b
    · show (z 0).val = 8 * (((z 0).val / 8 * 4 + (z 1).val / 128) / 4) + (z 0).val % 8
      omega
    · show (z 1).val = 128 * (((z 0).val / 8 * 4 + (z 1).val / 128) % 4) + (z 1).val % 128
      omega
  · rintro ⟨hm, ha⟩ y
    exact ⟨hm y, fun n _ => ha _⟩

/-! ## One chunk -/

/-- The magnitudes of a widened tile, element by element. -/
theorem absf_wide (v : Vec Ideal S32x512 .bf16) (z : S32x512.Idx) : (absf (wide v) z : EReal) = mag (v z) := by
  unfold wide
  rw [shapeCast_self]
  rfl

/-- The running maximum over a list of tiles is under a bound just when its start and every magnitude of those tiles are. -/
theorem maxOf_le (x : Vec Ideal S128x14336 .bf16) (B : EReal) (l : List (Fin 4 × Fin 28)) :
    ∀ m : FVec Ideal S8x128 .f32, (∀ y, (maxOf x l m y : EReal) ≤ B)
      ↔ (∀ y, (m y : EReal) ≤ B) ∧ ∀ rc ∈ l, ∀ z, mag (tileAt x rc z) ≤ B := by
  induction l with
  | nil => intro m; simp [maxOf]
  | cons rc l ih =>
    intro m
    show (∀ y, (maxOf x l (maxTile m (absf (wide (tileAt x rc)))) y : EReal) ≤ B) ↔ _
    rw [ih, maxTile_le, List.forall_mem_cons, and_assoc]
    simp only [absf_wide]

/-- The maximum with a chunk is under a bound just when the maximum before it and every magnitude of the chunk are. -/
theorem maxOf_units_le (x : Vec Ideal S128x14336 .bf16) (B : EReal) (m : FVec Ideal S8x128 .f32) :
    (∀ y, (maxOf x units m y : EReal) ≤ B) ↔ (∀ y, (m y : EReal) ≤ B) ∧ ∀ z, mag (x z) ≤ B := by
  rw [maxOf_le]
  refine and_congr_right fun _ => ⟨fun h z => ?_, fun h rc _ z => h _⟩
  have hy := (covers_iff (unitOf (z 0) (z 1)) z).mpr rfl
  have := h _ (mem_units (unitOf (z 0) (z 1)))
    (Rect.unitLocal (s := S128x14336) (off := offC (unitOf (z 0) (z 1)).1 (unitOf (z 0) (z 1)).2) (size := S32x512.size) z hy)
  refine le_trans (le_of_eq ?_) this
  unfold tileAt
  refine congrArg (fun i => mag (x i)) (funext fun a => Fin.ext ?_)
  rw [Rect.emb_apply]
  have := (hy a).1
  simp [Rect.unitLocal_val]
  omega

/-! ## All points -/

variable (V : (c : Dev nD) → (b : Ref sig .tc) → Buf (Elt Ideal) ((c : Thread nD τ).loc b))

/-- The running maximum starts at zero. -/
theorem pay1_zero (y : S8x128.Idx) : (k0_pay1 (F := Ideal) y : EReal) = 0 := by
  unfold k0_pay1
  rw [shapeCast_self]
  show Ideal.ofBits .f32 0x00000000#32 = 0
  simp

/-- The running maximum before point `n` is under a bound just when zero and every magnitude of the chunks before are. -/
theorem qMax_le (c : Dev nD) (B : EReal) (n : ℕ) : (∀ y, (qMax V c n y : EReal) ≤ B)
    ↔ 0 ≤ B ∧ ∀ k < n, ∀ z : S128x14336.Idx, mag ((iblk0 V c 1 (qpt k) : Vec Ideal S128x14336 .bf16) z) ≤ B := by
  induction n with
  | zero =>
    constructor
    · intro h
      refine ⟨?_, fun k hk => absurd hk (Nat.not_lt_zero k)⟩
      have := h (ix2 (0 : Fin 8) (0 : Fin 128))
      rwa [show (qMax V c 0 (ix2 (0 : Fin 8) (0 : Fin 128)) : EReal) = 0 from pay1_zero _] at this
    · rintro ⟨h, -⟩ y
      exact (pay1_zero y).trans_le h
  | succ n ih =>
    show (∀ y, (maxOf (iblk0 V c 1 (qpt n)) units (qMax V c n) y : EReal) ≤ B) ↔ _
    rw [maxOf_units_le, ih]
    constructor
    · rintro ⟨⟨h0, h⟩, hn⟩
      refine ⟨h0, fun k hk z => ?_⟩
      rcases Nat.lt_succ_iff_lt_or_eq.mp hk with hk | rfl
      · exact h k hk z
      · exact hn z
    · rintro ⟨h0, h⟩
      exact ⟨⟨h0, fun k hk => h k (Nat.lt_succ_of_lt hk)⟩, h n (Nat.lt_succ_self n)⟩

/-- The greatest magnitude of an array. -/
def amaxOf (x : (⟨2, ![16384, 14336]⟩ : Shape).Idx → EReal) : EReal := ⨆ i, mag (x i)

/-- The maximum over the running maximum is under a bound just when every element of it is. -/
theorem pay3_le (m : Vec Ideal S8x128 .f32) (y : S1x1.Idx) (B : EReal) :
    (k0_pay3 (F := Ideal) m y : EReal) ≤ B ↔ ∀ y, (m y : EReal) ≤ B := by
  unfold k0_pay3
  exact maxOut_le_iff (p := 8) (q := 128) m _ _ _ _ _ _ _ B

/-- After the last point the maximum over the running maximum is the greatest magnitude. -/
theorem qMax_final (c : Dev nD) (y : S1x1.Idx) : (k0_pay3 (F := Ideal) (qMax V c 136) y : EReal) = amaxOf (V c main_v5) := by
  have key : ∀ B : EReal, (k0_pay3 (F := Ideal) (qMax V c 136) y : EReal) ≤ B ↔ amaxOf (V c main_v5) ≤ B := by
    intro B
    rw [pay3_le, qMax_le]
    unfold amaxOf
    rw [iSup_le_iff]
    constructor
    · rintro ⟨-, h⟩ i
      have h0 : (i 0 : ℕ) < 16384 := (i 0).isLt
      have h1 : (i 1 : ℕ) < 14336 := (i 1).isLt
      have hp : (qpt ((i 0 : ℕ) / 128)).val = (i 0 : ℕ) / 128 := Nat.mod_eq_of_lt (by omega)
      have := h ((i 0 : ℕ) / 128) (by omega) (ix2 (⟨(i 0 : ℕ) % 128, by omega⟩ : Fin 128) (i 1 : Fin 14336))
      rw [qblk1_apply V c _ _ (i 0) (i 1) (by
        rw [hp]
        show (i 0 : ℕ) = min ((i 0 : ℕ) / 128) 127 * 128 + (i 0 : ℕ) % 128
        omega) rfl] at this
      rwa [← eq_ix2 i] at this
    · intro h
      refine ⟨le_trans (mag_nonneg _) (h (ix2 (0 : Fin 16384) (0 : Fin 14336))), fun k hk z => ?_⟩
      have hp : (qpt k).val = k := Nat.mod_eq_of_lt (by omega)
      have hz : (z 0).val < 128 := (z 0).isLt
      rw [qblk1_apply V c _ z (⟨min k 127 * 128 + (z 0).val, by omega⟩ : Fin 16384) (z 1) (by rw [hp]) rfl]
      exact h _
  exact le_antisymm ((key _).mpr le_rfl) ((key _).mp le_rfl)

/-- The maximum, as contents of its array. -/
def amax (c : Dev nD) : Buf (Elt Ideal) ((c : Thread nD τ).loc main_v6_2) := fun _ => amaxOf (V c main_v5)

/-- The last point writes the maximum back. -/
theorem qflush5_last : ∀ t : Fin grid0.N, t.val = 135 → win0_5.flush t = true := by decide +kernel
/-- The maximum's window is always its array's one block. -/
theorem qindex5 : ∀ (t : Fin grid0.N) (a : Fin 2), win0_5.index t a = 0 := by decide +kernel

/-- The one write-back of the maximum writes the greatest magnitude. -/
theorem qflushed5 (c : Dev nD) (t : Fin cfg0.N) (hf : (cfg0.win 5).flush t = true) :
    (dat0 V c).flushed 5 t = ((cfg0.win 5).blk t).view.read (Elt Ideal) (amax V c) := by
  have ht : t.val = 135 := by
    by_contra h
    exact absurd (qflush5 t h) (by rw [show win0_5.flush t = true from hf]; decide)
  show (cfg0.win 5).cut (grid0.coords t) ((dat0 V c).after 5 t) = _
  rw [after0_5, ht]
  funext y
  rw [View.read_apply]
  exact qMax_final V c y

/-- The maximum's array ends at the greatest magnitude. -/
theorem qfinal5 (c : Dev nD) : (dat0 V c).arrAt 5 cfg0.N = amax V c :=
  (dat0 V c).arrAt_eq_of_cover 5 (amax V c) (qflushed5 V c) fun i => by
    obtain ⟨t, ht⟩ : ∃ t : Fin cfg0.N, t.val = 135 := ⟨⟨135, by rw [show cfg0.N = 136 from N_0]; omega⟩, rfl⟩
    refine ⟨t, qflush5_last t ht, ?_⟩
    show i ∈ ((View.whole main_v6_2).slice (win0_5.rect t)).set
    rw [View.set_slice_whole, Rect.mem_set_unit]
    intro a
    have e : win0_5.index t a = 0 := qindex5 t a
    show win0_5.index t a * win0_5.size a ≤ (i a : ℕ) ∧ (i a : ℕ) < win0_5.index t a * win0_5.size a + win0_5.size a
    rw [e, Nat.zero_mul, Nat.zero_add]
    exact ⟨Nat.zero_le _, (i a).isLt⟩

end Cert.KernelIdeal.Hand
end
-- ==== Proof.RefValue.lean ====
/-
  What the reference's four arrays hold at the end: each its one payload of the whole argument arrays.
-/
module

public import proofs.«01_k».proof.Proof.Gen.ReferenceIdeal.Value
public import Idealize.ShloMosaic.Lib.Pointwise
public import Idealize.ShloMosaic.PureOps.Ideal

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The offsets of a whole array. -/
theorem hz : (![0, 0] : Fin 2 → Nat) = fun _ => 0 := funext fun a => by fin_cases a <;> rfl

/-- A one-element array has one index. -/
def at0 : S1.Idx := ix1 (0 : Fin 1)
/-- A one-element array has no other index. -/
theorem at0_unique (i : S1.Idx) : i = at0 := funext fun a => by
  match a with
  | ⟨0, _⟩ => exact Subsingleton.elim (α := Fin 1) _ _

/-- The one element of a whole one-element array, loaded. -/
theorem scalar_at (a : Memref sig .tc .smem S1 .f32) (h : a.IsWhole) (x : Vec F S1 .f32) (i : S1.Idx) :
    a.view.read (Elt F) (h.unread x) i = x at0 := (congrFun (h.read_unread x) _).trans (congrArg x (at0_unique _))

/-! ## The body's four stores -/

/-- What the body leaves in the input gradient's buffer. -/
theorem out_7 (c : Dev nD) (a0 : Memref sig .tc .vmem S16384x14336 .bf16) (h0 : a0.IsWhole) (a1 : Memref sig .tc .smem S1 .f32) (h1 : a1.IsWhole) (a2 : Memref sig .tc .vmem S16384x4096 .fp8e4m3) (h2 : a2.IsWhole) (a3 : Memref sig .tc .smem S1 .f32) (h3 : a3.IsWhole) (a4 : Memref sig .tc .vmem S14336x4096 .fp8e4m3) (h4 : a4.IsWhole) (a5 : Memref sig .tc .smem S1 .f32) (h5 : a5.IsWhole) (a6 : Memref sig .tc .vmem S14336x4096 .f32) (h6 : a6.IsWhole) (a7 : Memref sig .tc .vmem S16384x4096 .bf16) (h7 : a7.IsWhole) (a8 : Memref sig .tc .vmem S14336x4096 .f32) (h8 : a8.IsWhole) (a9 : Memref sig .tc .vmem S1x1 .f32) (h9 : a9.IsWhole) (a10 : Memref sig .tc .vmem S16384x14336 .fp8e5m2) (h10 : a10.IsWhole)
    (x0 : Vec F S16384x14336 .bf16) (x1 : Vec F S1 .f32) (x2 : Vec F S16384x4096 .fp8e4m3) (x3 : Vec F S1 .f32) (x4 : Vec F S14336x4096 .fp8e4m3) (x5 : Vec F S1 .f32) (x6 : Vec F S14336x4096 .f32) :
    out0_A_7 c a0 h0 a1 h1 a2 h2 a3 h3 a4 h4 a5 h5 a6 h6 a7 h7 a8 h8 a9 h9 a10 h10 x0 x1 x2 x3 x4 x5 x6 = k0_pay5 x0 (x1 at0) x4 (x5 at0) := by
  unfold out0_A_7
  rw [View.read_writes_eq_canon _ _ _ (cover0_A_7 c a0 h0 a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz]
  simp only [View.readAt_eq_ld, h0.read_unread, h4.read_unread, View.ld_unit_zero (S := S16384x14336) hz, View.ld_unit_zero (S := S14336x4096) hz]
  exact congrArg₂ (fun s s' => k0_pay5 x0 s x4 s') (scalar_at a1 h1 x1 _) (scalar_at a5 h5 x5 _)

/-- What the body leaves in the weight gradient's buffer. -/
theorem out_8 (c : Dev nD) (a0 : Memref sig .tc .vmem S16384x14336 .bf16) (h0 : a0.IsWhole) (a1 : Memref sig .tc .smem S1 .f32) (h1 : a1.IsWhole) (a2 : Memref sig .tc .vmem S16384x4096 .fp8e4m3) (h2 : a2.IsWhole) (a3 : Memref sig .tc .smem S1 .f32) (h3 : a3.IsWhole) (a4 : Memref sig .tc .vmem S14336x4096 .fp8e4m3) (h4 : a4.IsWhole) (a5 : Memref sig .tc .smem S1 .f32) (h5 : a5.IsWhole) (a6 : Memref sig .tc .vmem S14336x4096 .f32) (h6 : a6.IsWhole) (a7 : Memref sig .tc .vmem S16384x4096 .bf16) (h7 : a7.IsWhole) (a8 : Memref sig .tc .vmem S14336x4096 .f32) (h8 : a8.IsWhole) (a9 : Memref sig .tc .vmem S1x1 .f32) (h9 : a9.IsWhole) (a10 : Memref sig .tc .vmem S16384x14336 .fp8e5m2) (h10 : a10.IsWhole)
    (x0 : Vec F S16384x14336 .bf16) (x1 : Vec F S1 .f32) (x2 : Vec F S16384x4096 .fp8e4m3) (x3 : Vec F S1 .f32) (x4 : Vec F S14336x4096 .fp8e4m3) (x5 : Vec F S1 .f32) (x6 : Vec F S14336x4096 .f32) :
    out0_A_8 c a0 h0 a1 h1 a2 h2 a3 h3 a4 h4 a5 h5 a6 h6 a7 h7 a8 h8 a9 h9 a10 h10 x0 x1 x2 x3 x4 x5 x6 = k0_pay6 x0 (x1 at0) x2 x6 (x3 at0) := by
  unfold out0_A_8
  rw [View.read_writes_eq_canon _ _ _ (cover0_A_8 c a0 h0 a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz]
  simp only [View.readAt_eq_ld, h0.read_unread, h2.read_unread, h6.read_unread, View.ld_unit_zero (S := S16384x14336) hz, View.ld_unit_zero (S := S16384x4096) hz, View.ld_unit_zero (S := S14336x4096) hz]
  exact congrArg₂ (fun s s' => k0_pay6 x0 s x2 x6 s') (scalar_at a1 h1 x1 _) (scalar_at a3 h3 x3 _)

/-- What the body leaves in the maximum's buffer. -/
theorem out_9 (c : Dev nD) (a0 : Memref sig .tc .vmem S16384x14336 .bf16) (h0 : a0.IsWhole) (a1 : Memref sig .tc .smem S1 .f32) (h1 : a1.IsWhole) (a2 : Memref sig .tc .vmem S16384x4096 .fp8e4m3) (h2 : a2.IsWhole) (a3 : Memref sig .tc .smem S1 .f32) (h3 : a3.IsWhole) (a4 : Memref sig .tc .vmem S14336x4096 .fp8e4m3) (h4 : a4.IsWhole) (a5 : Memref sig .tc .smem S1 .f32) (h5 : a5.IsWhole) (a6 : Memref sig .tc .vmem S14336x4096 .f32) (h6 : a6.IsWhole) (a7 : Memref sig .tc .vmem S16384x4096 .bf16) (h7 : a7.IsWhole) (a8 : Memref sig .tc .vmem S14336x4096 .f32) (h8 : a8.IsWhole) (a9 : Memref sig .tc .vmem S1x1 .f32) (h9 : a9.IsWhole) (a10 : Memref sig .tc .vmem S16384x14336 .fp8e5m2) (h10 : a10.IsWhole)
    (x0 : Vec F S16384x14336 .bf16) (x1 : Vec F S1 .f32) (x2 : Vec F S16384x4096 .fp8e4m3) (x3 : Vec F S1 .f32) (x4 : Vec F S14336x4096 .fp8e4m3) (x5 : Vec F S1 .f32) (x6 : Vec F S14336x4096 .f32) :
    out0_A_9 c a0 h0 a1 h1 a2 h2 a3 h3 a4 h4 a5 h5 a6 h6 a7 h7 a8 h8 a9 h9 a10 h10 x0 x1 x2 x3 x4 x5 x6 = k0_pay1 (k0_pay7 x0) := by
  unfold out0_A_9
  rw [View.read_writes_eq_canon _ _ _ (cover0_A_9 c a0 h0 a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz]
  simp only [View.readAt_eq_ld, h0.read_unread, View.ld_unit_zero (S := S16384x14336) hz]

/-- What the body leaves in the codes's buffer. -/
theorem out_10 (c : Dev nD) (a0 : Memref sig .tc .vmem S16384x14336 .bf16) (h0 : a0.IsWhole) (a1 : Memref sig .tc .smem S1 .f32) (h1 : a1.IsWhole) (a2 : Memref sig .tc .vmem S16384x4096 .fp8e4m3) (h2 : a2.IsWhole) (a3 : Memref sig .tc .smem S1 .f32) (h3 : a3.IsWhole) (a4 : Memref sig .tc .vmem S14336x4096 .fp8e4m3) (h4 : a4.IsWhole) (a5 : Memref sig .tc .smem S1 .f32) (h5 : a5.IsWhole) (a6 : Memref sig .tc .vmem S14336x4096 .f32) (h6 : a6.IsWhole) (a7 : Memref sig .tc .vmem S16384x4096 .bf16) (h7 : a7.IsWhole) (a8 : Memref sig .tc .vmem S14336x4096 .f32) (h8 : a8.IsWhole) (a9 : Memref sig .tc .vmem S1x1 .f32) (h9 : a9.IsWhole) (a10 : Memref sig .tc .vmem S16384x14336 .fp8e5m2) (h10 : a10.IsWhole)
    (x0 : Vec F S16384x14336 .bf16) (x1 : Vec F S1 .f32) (x2 : Vec F S16384x4096 .fp8e4m3) (x3 : Vec F S1 .f32) (x4 : Vec F S14336x4096 .fp8e4m3) (x5 : Vec F S1 .f32) (x6 : Vec F S14336x4096 .f32) :
    out0_A_10 c a0 h0 a1 h1 a2 h2 a3 h3 a4 h4 a5 h5 a6 h6 a7 h7 a8 h8 a9 h9 a10 h10 x0 x1 x2 x3 x4 x5 x6 = k0_pay3 x0 (x1 at0) := by
  unfold out0_A_10
  rw [View.read_writes_eq_canon _ _ _ (cover0_A_10 c a0 h0 a1 h1 a2 h2 a3 h3 a4 h4 a5 h5 a6 h6 a7 h7 a8 h8 a9 h9 a10 h10 x0 x1 x2 x3 x4 x5 x6)]
  unfold kernelRun0_A
  dsimp only
  sl_unfold_words
  rw [View.canon_unit_zero hz]
  simp only [View.readAt_eq_ld, h0.read_unread, View.ld_unit_zero (S := S16384x14336) hz]
  exact congrArg (k0_pay3 x0) (scalar_at a1 h1 x1 _)

/-! ## The one point's windows are the whole arrays -/

/-- Window 0's block is its whole array. -/
theorem iblk0_eq (c : Dev nD) (t : Fin cfg0.N) : (iblk m c 0 t : Vec F S16384x14336 .bf16) = V m c main_v0 := by
  funext y; unfold iblk; rw [View.read_apply]
  exact congrArg (V m c main_v0) (funext fun a => Fin.ext ((win0_0.rect_emb_val_of_index_zero t a rfl y)))
/-- Window 1's block is its whole array. -/
theorem iblk1_eq (c : Dev nD) (t : Fin cfg0.N) : (iblk m c 1 t : Vec F S1 .f32) = V m c main_v1 := by
  funext y; unfold iblk; rw [View.read_apply]
  exact congrArg (V m c main_v1) (funext fun a => Fin.ext ((win0_1.rect_emb_val_of_index_zero t a rfl y)))
/-- Window 2's block is its whole array. -/
theorem iblk2_eq (c : Dev nD) (t : Fin cfg0.N) : (iblk m c 2 t : Vec F S16384x4096 .fp8e4m3) = V m c main_v2 := by
  funext y; unfold iblk; rw [View.read_apply]
  exact congrArg (V m c main_v2) (funext fun a => Fin.ext ((win0_2.rect_emb_val_of_index_zero t a rfl y)))
/-- Window 3's block is its whole array. -/
theorem iblk3_eq (c : Dev nD) (t : Fin cfg0.N) : (iblk m c 3 t : Vec F S1 .f32) = V m c main_v3 := by
  funext y; unfold iblk; rw [View.read_apply]
  exact congrArg (V m c main_v3) (funext fun a => Fin.ext ((win0_3.rect_emb_val_of_index_zero t a rfl y)))
/-- Window 4's block is its whole array. -/
theorem iblk4_eq (c : Dev nD) (t : Fin cfg0.N) : (iblk m c 4 t : Vec F S14336x4096 .fp8e4m3) = V m c main_arg4 := by
  funext y; unfold iblk; rw [View.read_apply]
  exact congrArg (V m c main_arg4) (funext fun a => Fin.ext ((win0_4.rect_emb_val_of_index_zero t a rfl y)))
/-- Window 5's block is its whole array. -/
theorem iblk5_eq (c : Dev nD) (t : Fin cfg0.N) : (iblk m c 5 t : Vec F S1 .f32) = V m c main_v4 := by
  funext y; unfold iblk; rw [View.read_apply]
  exact congrArg (V m c main_v4) (funext fun a => Fin.ext ((win0_5.rect_emb_val_of_index_zero t a rfl y)))
/-- Window 6's block is its whole array. -/
theorem iblk6_eq (c : Dev nD) (t : Fin cfg0.N) : (iblk m c 6 t : Vec F S14336x4096 .f32) = V m c main_arg6 := by
  funext y; unfold iblk; rw [View.read_apply]
  exact congrArg (V m c main_arg6) (funext fun a => Fin.ext ((win0_6.rect_emb_val_of_index_zero t a rfl y)))

/-- The reference's input gradient, as contents of its array. -/
def dx (c : Dev nD) : Buf (Elt F) ((c : Thread nD τ).loc main_v5_0) :=
  (k0_pay5 (V m c main_v0) (V m c main_v1 at0) (V m c main_arg4) (V m c main_v4 at0) : Vec F S16384x4096 .bf16)

/-- The one point writes the input gradient back. -/
theorem flushed7_eq (c : Dev nD) (t : Fin cfg0.N) : (dats m 0 c).flushed 7 t = ((cfg0.win 7).blk t).view.read (Elt F) (dx m c) := by
  rw [Value.flushed7_A, out_7, iblk0_eq, iblk1_eq, iblk4_eq, iblk5_eq]
  funext y
  rw [View.read_apply]
  exact congrArg (dx m c) (funext fun a => Fin.ext (win0_7.rect_emb_val_of_index_zero t a rfl y).symm)

/-- The one block covers the array, so the array ends at the input gradient. -/
theorem final7 (c : Dev nD) : (dats m 0 c).arrAt 7 cfg0.N = dx m c :=
  (dats m 0 c).arrAt_eq_of_cover 7 (dx m c) (fun t _ => flushed7_eq m c t) fun i => by
    have t : Fin cfg0.N := ⟨0, by decide⟩
    refine ⟨t, by revert t; decide +kernel, ?_⟩
    show i ∈ ((View.whole main_v5_0).slice (win0_7.rect t)).set
    rw [View.set_slice_whole, Rect.mem_set_unit]
    intro a
    have e : win0_7.index t a = 0 := rfl
    show win0_7.index t a * win0_7.size a ≤ (i a : ℕ) ∧ (i a : ℕ) < win0_7.index t a * win0_7.size a + win0_7.size a
    rw [e, Nat.zero_mul, Nat.zero_add]
    exact ⟨Nat.zero_le _, (i a).isLt⟩

/-- The reference's weight gradient, as contents of its array. -/
def mainGrad (c : Dev nD) : Buf (Elt F) ((c : Thread nD τ).loc main_v5_1) :=
  (k0_pay6 (V m c main_v0) (V m c main_v1 at0) (V m c main_v2) (V m c main_arg6) (V m c main_v3 at0) : Vec F S14336x4096 .f32)

/-- The one point writes the weight gradient back. -/
theorem flushed8_eq (c : Dev nD) (t : Fin cfg0.N) : (dats m 0 c).flushed 8 t = ((cfg0.win 8).blk t).view.read (Elt F) (mainGrad m c) := by
  rw [Value.flushed8_A, out_8, iblk0_eq, iblk1_eq, iblk2_eq, iblk3_eq, iblk6_eq]
  funext y
  rw [View.read_apply]
  exact congrArg (mainGrad m c) (funext fun a => Fin.ext (win0_8.rect_emb_val_of_index_zero t a rfl y).symm)

/-- The one block covers the array, so the array ends at the weight gradient. -/
theorem final8 (c : Dev nD) : (dats m 0 c).arrAt 8 cfg0.N = mainGrad m c :=
  (dats m 0 c).arrAt_eq_of_cover 8 (mainGrad m c) (fun t _ => flushed8_eq m c t) fun i => by
    have t : Fin cfg0.N := ⟨0, by decide⟩
    refine ⟨t, by revert t; decide +kernel, ?_⟩
    show i ∈ ((View.whole main_v5_1).slice (win0_8.rect t)).set
    rw [View.set_slice_whole, Rect.mem_set_unit]
    intro a
    have e : win0_8.index t a = 0 := rfl
    show win0_8.index t a * win0_8.size a ≤ (i a : ℕ) ∧ (i a : ℕ) < win0_8.index t a * win0_8.size a + win0_8.size a
    rw [e, Nat.zero_mul, Nat.zero_add]
    exact ⟨Nat.zero_le _, (i a).isLt⟩

/-- The reference's maximum, as contents of its array. -/
def amax (c : Dev nD) : Buf (Elt F) ((c : Thread nD τ).loc main_v5_2) :=
  (k0_pay1 (k0_pay7 (V m c main_v0)) : Vec F S1x1 .f32)

/-- The maximum's one block is its whole array. -/
theorem read9 (c : Dev nD) (g : Buf (Elt F) ((c : Thread nD τ).loc main_v5_2)) (t : Fin cfg0.N) :
    (((cfg0.win 9).blk t).view.read (Elt F) g : Vec F S1x1 .f32) = g := by
  funext y
  rw [View.read_apply]
  exact congrArg g (funext fun a => Fin.ext (win0_9.rect_emb_val_of_index_zero t a rfl y))

/-- What the one point writes back of the maximum's buffer is the whole buffer. -/
theorem cut9 (t : Fin cfg0.N) (g : Vec F S1x1 .f32) : ((cfg0.win 9).cut (grid0.coords t) g : Vec F S1x1 .f32) = g := rfl

/-- The reference's maximum, written out. -/
theorem amax_def (c : Dev nD) : amax m c = (k0_pay1 (k0_pay7 (V m c main_v0)) : Vec F S1x1 .f32) := rfl

/-- What the one point writes back of the maximum. -/
theorem flushed9_amax (c : Dev nD) (t : Fin cfg0.N) : ((dats m 0 c).flushed 9 t : Vec F S1x1 .f32) = amax m c := by
  rw [amax_def, Value.flushed9_A, out_9, iblk0_eq, cut9]

/-- The one point writes the maximum back. -/
theorem flushed9_eq (c : Dev nD) (t : Fin cfg0.N) : (dats m 0 c).flushed 9 t = ((cfg0.win 9).blk t).view.read (Elt F) (amax m c) :=
  (flushed9_amax m c t).trans (read9 c (amax m c) t).symm

/-- The one block covers the array, so the array ends at the maximum. -/
theorem final9 (c : Dev nD) : (dats m 0 c).arrAt 9 cfg0.N = amax m c :=
  (dats m 0 c).arrAt_eq_of_cover 9 (amax m c) (fun t _ => flushed9_eq m c t) fun i => by
    have t : Fin cfg0.N := ⟨0, by decide⟩
    refine ⟨t, by revert t; decide +kernel, ?_⟩
    show i ∈ ((View.whole main_v5_2).slice (win0_9.rect t)).set
    rw [View.set_slice_whole, Rect.mem_set_unit]
    intro a
    have e : win0_9.index t a = 0 := rfl
    show win0_9.index t a * win0_9.size a ≤ (i a : ℕ) ∧ (i a : ℕ) < win0_9.index t a * win0_9.size a + win0_9.size a
    rw [e, Nat.zero_mul, Nat.zero_add]
    exact ⟨Nat.zero_le _, (i a).isLt⟩

/-- The reference's codes, as contents of its array. -/
def codes (c : Dev nD) : Buf (Elt F) ((c : Thread nD τ).loc main_v5_3) :=
  (k0_pay3 (V m c main_v0) (V m c main_v1 at0) : Vec F S16384x14336 .fp8e5m2)

/-- The one point writes the codes back. -/
theorem flushed10_eq (c : Dev nD) (t : Fin cfg0.N) : (dats m 0 c).flushed 10 t = ((cfg0.win 10).blk t).view.read (Elt F) (codes m c) := by
  rw [Value.flushed10_A, out_10, iblk0_eq, iblk1_eq]
  funext y
  rw [View.read_apply]
  exact congrArg (codes m c) (funext fun a => Fin.ext (win0_10.rect_emb_val_of_index_zero t a rfl y).symm)

/-- The one block covers the array, so the array ends at the codes. -/
theorem final10 (c : Dev nD) : (dats m 0 c).arrAt 10 cfg0.N = codes m c :=
  (dats m 0 c).arrAt_eq_of_cover 10 (codes m c) (fun t _ => flushed10_eq m c t) fun i => by
    have t : Fin cfg0.N := ⟨0, by decide⟩
    refine ⟨t, by revert t; decide +kernel, ?_⟩
    show i ∈ ((View.whole main_v5_3).slice (win0_10.rect t)).set
    rw [View.set_slice_whole, Rect.mem_set_unit]
    intro a
    have e : win0_10.index t a = 0 := rfl
    show win0_10.index t a * win0_10.size a ≤ (i a : ℕ) ∧ (i a : ℕ) < win0_10.index t a * win0_10.size a + win0_10.size a
    rw [e, Nat.zero_mul, Nat.zero_add]
    exact ⟨Nat.zero_le _, (i a).isLt⟩

end Cert.ReferenceIdeal.Hand
end
-- ==== Proof.WholeHost.lean ====
/-
  The kernel's four arrays and the reference's are the same over the extended reals.
-/
module

public import proofs.«01_k».proof.Defs
public import proofs.«01_k».proof.Proof.WholeRunIdeal
public import proofs.«01_k».proof.Proof.WgradValue
public import proofs.«01_k».proof.Proof.DgradValue
public import proofs.«01_k».proof.Proof.AmaxValue
public import proofs.«01_k».proof.Proof.RefValue
public import Idealize.ShloMosaic.Lib.StableHlo.Run
public import Idealize.ShloMosaic.Lib.Pipeline.ValueKit.Tiles
public import Idealize.ShloMosaic.Lib.Tactic

@[expose] public section

set_option maxRecDepth 16384

noncomputable section

open Idealize.ShloMosaic Idealize.ShloMosaic.TcCoe Idealize.SL.Sem Idealize.ShloMosaic.StableHlo Idealize.ShloMosaic.Tactic

/-! ## The kernel's host operations and where its arrays come from -/

namespace Cert.KernelIdeal.Hand
open Cert.KernelIdeal Cert.KernelIdeal.Gen
variable (m : (ℓ : Loc nD τ sig) → Buf (Elt Ideal) ℓ) (ρ : Dev nD → PrngReg)

/-- The reciprocal of the gradient's scale. -/
def recip (s : EReal) : EReal := (Scalar.divf (Scalar.ofBits .f32 0x3F800000#32 : Ideal .f32) (s : Ideal .f32) : Ideal .f32)

/-- The one index of a scalar. -/
def nil : S_.Idx := fun a => a.elim0
/-- The one element of a scalar. -/
def one (x : FVec Ideal S_ .f32) : EReal := x nil
/-- A scalar has no other index. -/
theorem nil_unique (i : S_.Idx) : i = nil := funext fun a => a.elim0

/-- The first call's scalars: the reciprocal of the gradient's scale, and the product of the gradient's scale and the weights'. -/
theorem V1_scalars (c : Dev nD) : (V1 m ρ c main_v4 : Vec Ideal S2 .f32)
    = concatenate S2 0 [⟨S1, (broadcastInDim S1 ![] bcast_S_S1 (Host.divf (constant S_ .f32 0x3F800000#32 : FVec Ideal S_ .f32) (m ((c : Thread nD τ).loc main_arg1) : FVec Ideal S_ .f32)) : Vec Ideal S1 .f32)⟩,
        ⟨S1, (broadcastInDim S1 ![] bcast_S_S1 (mulf (m ((c : Thread nD τ).loc main_arg1) : FVec Ideal S_ .f32) (m ((c : Thread nD τ).loc main_arg5) : FVec Ideal S_ .f32) : FVec Ideal S_ .f32) : Vec Ideal S1 .f32)⟩] concatenates_S1_S1_S2_d0 := by
  unfold_abbrev_sides
  after_results

/-- The first element of two joined one-element arrays. -/
theorem scal0_join (a b : Vec Ideal S1 .f32) : scal0 (concatenate S2 0 [⟨S1, a⟩, ⟨S1, b⟩] concatenates_S1_S1_S2_d0) = a at0 := by
  unfold scal0
  exact concatenate_unit_eq 0 _ _ _ _ rfl ⟨fun _ _ i _ _ => congrArg a (at0_unique i), fun hk => absurd hk (by decide), trivial⟩

/-- The second element of two joined one-element arrays. -/
theorem scal1_join (a b : Vec Ideal S1 .f32) : scal1 (concatenate S2 0 [⟨S1, a⟩, ⟨S1, b⟩] concatenates_S1_S1_S2_d0) = b at0 := by
  unfold scal1
  exact concatenate_unit_eq 0 _ _ _ _ rfl ⟨fun hk => absurd hk (by decide), fun _ _ i _ _ => congrArg b (at0_unique i), trivial⟩

/-- The first call's first scalar is the reciprocal of the gradient's scale. -/
theorem V1_recip (c : Dev nD) : (scal0 (V1 m ρ c main_v4) : EReal) = recip (one (m ((c : Thread nD τ).loc main_arg1))) := by
  rw [V1_scalars, scal0_join]
  exact congrArg (fun i => recip (m ((c : Thread nD τ).loc main_arg1) i)) (nil_unique _)

/-- The first call's second scalar is the product of the gradient's and the weights' scales. -/
theorem V1_product (c : Dev nD) : (scal1 (V1 m ρ c main_v4) : EReal)
    = one (m ((c : Thread nD τ).loc main_arg1)) * one (m ((c : Thread nD τ).loc main_arg5)) := by
  rw [V1_scalars, scal1_join]
  exact congrArg (fun i => one (fun _ => m ((c : Thread nD τ).loc main_arg1) i) * one (fun _ => m ((c : Thread nD τ).loc main_arg5) i)) (nil_unique _)

/-- The first call's gradient is the argument's, one row per token. -/
theorem V1_dy (c : Dev nD) : (V1 m ρ c main_v5 : Vec Ideal S16384x14336 .bf16)
    = shapeCast S16384x14336 (m ((c : Thread nD τ).loc main_arg0) : Vec Ideal S8x2048x14336 .bf16) shapeCasts_S8x2048x14336_S16384x14336 := by
  unfold_abbrev_sides
  after_results
  rfl

/-- The first call's weights are the argument's. -/
theorem V1_w (c : Dev nD) : V1 m ρ c main_arg4 = m ((c : Thread nD τ).loc main_arg4) := W1_args m ρ c main_arg4 (by decide)

/-- The second call's scale is the product of the gradient's scale and the activations'. -/
theorem V3_scale (c : Dev nD) : (V3 m ρ c main_v8 : Vec Ideal S1 .f32)
    = shapeCast S1 (mulf (W2 m ρ c (Proc.devRef .tc main_arg1) : FVec Ideal S_ .f32) (W2 m ρ c (Proc.devRef .tc main_arg3) : FVec Ideal S_ .f32) : FVec Ideal S_ .f32) shapeCasts_S_S1 := by
  unfold_abbrev_sides
  after_results
  rfl

/-- The second call's scalar is the product of the gradient's and the activations' scales. -/
theorem V3_product (c : Dev nD) : (V3 m ρ c main_v8 at0 : EReal)
    = one (m ((c : Thread nD τ).loc main_arg1)) * one (m ((c : Thread nD τ).loc main_arg3)) := by
  rw [V3_scale, W2_args m ρ c main_arg1 (by decide), W2_args m ρ c main_arg3 (by decide)]
  exact congrArg (fun i => one (fun _ => m ((c : Thread nD τ).loc main_arg1) i) * one (fun _ => m ((c : Thread nD τ).loc main_arg3) i)) (nil_unique _)

/-- The second call's activations are the argument's, one row per token. -/
theorem V3_x (c : Dev nD) : (V3 m ρ c main_v9 : Vec Ideal S16384x4096 .fp8e4m3)
    = shapeCast S16384x4096 (W2 m ρ c (Proc.devRef .tc main_arg2) : Vec Ideal S8x2048x4096 .fp8e4m3) shapeCasts_S8x2048x4096_S16384x4096 := by
  unfold_abbrev_sides
  after_results
  rfl

/-- The second call's old gradient is the argument's. -/
theorem V3_mg (c : Dev nD) : V3 m ρ c main_arg6 = m ((c : Thread nD τ).loc main_arg6) := W3_args m ρ c main_arg6 (by decide)

/-- The second call's codes are the ones the first call left. -/
theorem V3_codes (c : Dev nD) : V3 m ρ c main_v6_1 = codesArr (V1 m ρ) c :=
  (W3_of m ρ c main_v6_1 (by decide)).trans ((W2_arr m ρ c 4).trans (qfinal4 (V1 m ρ) c))

/-- At the end the input gradient's array holds the input gradient. -/
theorem W4_dx (c : Dev nD) : W4 m ρ c (Proc.devRef .tc main_v6_0) = dgrad (V1 m ρ) c :=
  (W4_of m ρ c main_v6_0 (by decide)).trans ((W3_of m ρ c main_v6_0 (by decide)).trans ((W2_arr m ρ c 3).trans (qfinal3 (V1 m ρ) c)))

/-- At the end the codes' array holds the codes. -/
theorem W4_codes (c : Dev nD) : W4 m ρ c (Proc.devRef .tc main_v6_1) = codesArr (V1 m ρ) c :=
  (W4_of m ρ c main_v6_1 (by decide)).trans (V3_codes m ρ c)

/-- At the end the maximum's array holds the greatest magnitude. -/
theorem W4_amax (c : Dev nD) : W4 m ρ c (Proc.devRef .tc main_v6_2) = amax (V1 m ρ) c :=
  (W4_of m ρ c main_v6_2 (by decide)).trans ((W3_of m ρ c main_v6_2 (by decide)).trans ((W2_arr m ρ c 5).trans (qfinal5 (V1 m ρ) c)))

/-- At the end the weight gradient's array holds the weight gradient. -/
theorem W4_mg (c : Dev nD) : W4 m ρ c (Proc.devRef .tc main_v10) = wgrad (V3 m ρ) c :=
  (W4_arr m ρ c 4).trans (wfinal4 (V3 m ρ) c)

end Cert.KernelIdeal.Hand

/-! ## The reference's host operations and its four payloads, element by element -/

namespace Cert.ReferenceIdeal.Hand
open Cert.ReferenceIdeal Cert.ReferenceIdeal.Gen
open Cert.KernelIdeal.Hand (codeOf dgradAt wgradAt amaxOf recip one nil nil_unique)
variable (m : (ℓ : Loc nD τ sig) → Buf (Elt Ideal) ℓ)

/-- The reference's gradient is the argument's, one row per token. -/
theorem V_dy (c : Dev nD) : (V m c main_v0 : Vec Ideal S16384x14336 .bf16)
    = shapeCast S16384x14336 (m ((c : Thread nD τ).loc main_arg0) : Vec Ideal S8x2048x14336 .bf16) shapeCasts_S8x2048x14336_S16384x14336 := by
  unfold_abbrev_sides
  after_results
  rfl

/-- The reference's activations are the argument's, one row per token. -/
theorem V_x (c : Dev nD) : (V m c main_v2 : Vec Ideal S16384x4096 .fp8e4m3)
    = shapeCast S16384x4096 (m ((c : Thread nD τ).loc main_arg2) : Vec Ideal S8x2048x4096 .fp8e4m3) shapeCasts_S8x2048x4096_S16384x4096 := by
  unfold_abbrev_sides
  after_results
  rfl

/-- The reference's scale operand is the argument, as a one-element array. -/
theorem V_sdy' (c : Dev nD) : (V m c main_v1 : Vec Ideal S1 .f32)
    = shapeCast S1 (m ((c : Thread nD τ).loc main_arg1) : Vec Ideal S_ .f32) shapeCasts_S_S1 := by
  unfold_abbrev_sides
  after_results
  rfl

/-- The gradient's scale, as the reference reads it. -/
theorem V_sdy (c : Dev nD) : (V m c main_v1 at0 : EReal) = one (m ((c : Thread nD τ).loc main_arg1)) := by
  rw [V_sdy']
  exact congrArg (m ((c : Thread nD τ).loc main_arg1)) (nil_unique _)

/-- The reference's scale operand is the argument, as a one-element array. -/
theorem V_sx' (c : Dev nD) : (V m c main_v3 : Vec Ideal S1 .f32)
    = shapeCast S1 (m ((c : Thread nD τ).loc main_arg3) : Vec Ideal S_ .f32) shapeCasts_S_S1 := by
  unfold_abbrev_sides
  after_results
  rfl

/-- The activations' scale, as the reference reads it. -/
theorem V_sx (c : Dev nD) : (V m c main_v3 at0 : EReal) = one (m ((c : Thread nD τ).loc main_arg3)) := by
  rw [V_sx']
  exact congrArg (m ((c : Thread nD τ).loc main_arg3)) (nil_unique _)

/-- The reference's scale operand is the argument, as a one-element array. -/
theorem V_sw' (c : Dev nD) : (V m c main_v4 : Vec Ideal S1 .f32)
    = shapeCast S1 (m ((c : Thread nD τ).loc main_arg5) : Vec Ideal S_ .f32) shapeCasts_S_S1 := by
  unfold_abbrev_sides
  after_results
  rfl

/-- The weights' scale, as the reference reads it. -/
theorem V_sw (c : Dev nD) : (V m c main_v4 at0 : EReal) = one (m ((c : Thread nD τ).loc main_arg5)) := by
  rw [V_sw']
  exact congrArg (m ((c : Thread nD τ).loc main_arg5)) (nil_unique _)

/-- A code of the reference. -/
theorem pay3_apply (x0 : Vec Ideal S16384x14336 .bf16) (s : EReal) (i : S16384x14336.Idx) :
    (k0_pay3 (F := Ideal) x0 s i : EReal) = codeOf (x0 i) (recip s) := by
  unfold k0_pay3 k0_pay2
  rw [shapeCast_self]
  rfl

/-- An element of the reference's input gradient. -/
theorem pay5_apply (x0 : Vec Ideal S16384x14336 .bf16) (w : Vec Ideal S14336x4096 .fp8e4m3) (s s' : EReal) (r : Fin 16384) (d : Fin 4096) :
    (k0_pay5 (F := Ideal) x0 s w s' (ix2 r d) : EReal) = dgradAt (fun i => codeOf (x0 i) (recip s)) w (s * s') r d := by
  unfold dgradAt
  have e : (k0_pay4 (F := Ideal) x0 s : S16384x14336.Idx → EReal) = fun i => codeOf (x0 i) (recip s) := funext fun i => pay3_apply x0 s i
  rw [← e]
  pointwise [k0_pay5]

/-- An element of the reference's weight gradient. -/
theorem pay6_apply (x0 : Vec Ideal S16384x14336 .bf16) (x : Vec Ideal S16384x4096 .fp8e4m3) (mg : Vec Ideal S14336x4096 .f32) (s s' : EReal)
    (o : Fin 14336) (d : Fin 4096) :
    (k0_pay6 (F := Ideal) x0 s x mg s' (ix2 o d) : EReal) = wgradAt (fun i => codeOf (x0 i) (recip s)) x mg (s * s') o d := by
  unfold wgradAt
  have e : (k0_pay4 (F := Ideal) x0 s : S16384x14336.Idx → EReal) = fun i => codeOf (x0 i) (recip s) := funext fun i => pay3_apply x0 s i
  rw [← e]
  unfold k0_pay6
  rw [shapeCast_self]
  pointwise

/-- The reference's maximum is the greatest magnitude. -/
theorem pay7_apply (x0 : Vec Ideal S16384x14336 .bf16) (y : S1x1.Idx) : (k0_pay1 (k0_pay7 (F := Ideal) x0) y : EReal) = amaxOf x0 := by
  have key : ∀ B : EReal, (k0_pay1 (k0_pay7 (F := Ideal) x0) y : EReal) ≤ B ↔ amaxOf x0 ≤ B := by
    intro B
    unfold k0_pay1 k0_pay7 k0_pay2 amaxOf
    rw [shapeCast_self, iSup_le_iff]
    exact Cert.maxOut_le_iff (p := 16384) (q := 14336) _ _ _ _ _ _ _ y B
  exact le_antisymm ((key _).mpr le_rfl) ((key _).mp le_rfl)

end Cert.ReferenceIdeal.Hand

end
-- ==== Proof.WholeEq.lean ====
/-
  Where the arguments agree, each of the kernel's four arrays is the reference's.
-/
module

public import proofs.«01_k».proof.Proof.WholeHost

@[expose] public section

set_option maxRecDepth 16384

noncomputable section

namespace Cert

open Idealize.ShloMosaic Idealize.ShloMosaic.TcCoe Idealize.SL.Sem Idealize.ShloMosaic.StableHlo
open Cert.KernelIdeal.Hand (codeOf dgradAt wgradAt amaxOf recip one V1 V3)

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The two programs' seven arguments agree. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The gradient the two calls read is one array. -/
theorem dy_eq (h : Agree m m' c) : (Cert.ReferenceIdeal.Gen.V m' c Cert.ReferenceIdeal.main_v0 : Vec Ideal Cert.ReferenceIdeal.S16384x14336 .bf16)
    = V1 m ρ c Cert.KernelIdeal.main_v5 :=
  (Cert.ReferenceIdeal.Hand.V_dy m' c).trans ((congrArg (fun x : Vec Ideal Cert.ReferenceIdeal.S8x2048x14336 .bf16 =>
    shapeCast Cert.ReferenceIdeal.S16384x14336 x Cert.ReferenceIdeal.Gen.shapeCasts_S8x2048x14336_S16384x14336) h.1).trans (Cert.KernelIdeal.Hand.V1_dy m ρ c).symm)

/-- The activations the two calls read are one array. -/
theorem x_eq (h : Agree m m' c) : (Cert.ReferenceIdeal.Gen.V m' c Cert.ReferenceIdeal.main_v2 : Vec Ideal Cert.ReferenceIdeal.S16384x4096 .fp8e4m3)
    = V3 m ρ c Cert.KernelIdeal.main_v9 :=
  (Cert.ReferenceIdeal.Hand.V_x m' c).trans ((congrArg (fun x : Vec Ideal Cert.ReferenceIdeal.S8x2048x4096 .fp8e4m3 =>
    shapeCast Cert.ReferenceIdeal.S16384x4096 x Cert.ReferenceIdeal.Gen.shapeCasts_S8x2048x4096_S16384x4096)
    (h.2.2.1.trans (Cert.KernelIdeal.Hand.W2_args m ρ c Cert.KernelIdeal.main_arg2 (by decide)).symm)).trans (Cert.KernelIdeal.Hand.V3_x m ρ c).symm)

/-- The weights the two calls read are one array. -/
theorem w_eq (h : Agree m m' c) : (Cert.ReferenceIdeal.Gen.V m' c Cert.ReferenceIdeal.main_arg4 : Vec Ideal Cert.ReferenceIdeal.S14336x4096 .fp8e4m3)
    = V1 m ρ c Cert.KernelIdeal.main_arg4 :=
  (Cert.ReferenceIdeal.Gen.V_main_arg4 m' c).trans (h.2.2.2.2.1.trans (Cert.KernelIdeal.Hand.V1_w m ρ c).symm)

/-- The old weight gradient the two calls read is one array. -/
theorem mg_eq (h : Agree m m' c) : (Cert.ReferenceIdeal.Gen.V m' c Cert.ReferenceIdeal.main_arg6 : Vec Ideal Cert.ReferenceIdeal.S14336x4096 .f32)
    = V3 m ρ c Cert.KernelIdeal.main_arg6 :=
  (Cert.ReferenceIdeal.Gen.V_main_arg6 m' c).trans (h.2.2.2.2.2.2.trans (Cert.KernelIdeal.Hand.V3_mg m ρ c).symm)

/-- The gradient's scale is one number. -/
theorem sdy_eq (h : Agree m m' c) : (Cert.ReferenceIdeal.Gen.V m' c Cert.ReferenceIdeal.main_v1 Cert.ReferenceIdeal.Hand.at0 : EReal)
    = one (m ((c.tc : Thread Cert.KernelIdeal.nD Cert.KernelIdeal.τ).loc Cert.KernelIdeal.main_arg1)) :=
  (Cert.ReferenceIdeal.Hand.V_sdy m' c).trans (congrArg one h.2.1)

/-- The activations' scale is one number. -/
theorem sx_eq (h : Agree m m' c) : (Cert.ReferenceIdeal.Gen.V m' c Cert.ReferenceIdeal.main_v3 Cert.ReferenceIdeal.Hand.at0 : EReal)
    = one (m ((c.tc : Thread Cert.KernelIdeal.nD Cert.KernelIdeal.τ).loc Cert.KernelIdeal.main_arg3)) :=
  (Cert.ReferenceIdeal.Hand.V_sx m' c).trans (congrArg one h.2.2.2.1)

/-- The weights' scale is one number. -/
theorem sw_eq (h : Agree m m' c) : (Cert.ReferenceIdeal.Gen.V m' c Cert.ReferenceIdeal.main_v4 Cert.ReferenceIdeal.Hand.at0 : EReal)
    = one (m ((c.tc : Thread Cert.KernelIdeal.nD Cert.KernelIdeal.τ).loc Cert.KernelIdeal.main_arg5)) :=
  (Cert.ReferenceIdeal.Hand.V_sw m' c).trans (congrArg one h.2.2.2.2.2.1)

/-- The codes, as a function of the gradient and its scale, are the ones the kernel's array holds. -/
theorem codesFn_eq : (fun i : Cert.KernelIdeal.S16384x14336.Idx => codeOf (V1 m ρ c Cert.KernelIdeal.main_v5 i) (recip (one (m ((c.tc : Thread Cert.KernelIdeal.nD Cert.KernelIdeal.τ).loc Cert.KernelIdeal.main_arg1)))))
    = Cert.KernelIdeal.Hand.codesArr (V1 m ρ) c :=
  funext fun i => congrArg (codeOf (V1 m ρ c Cert.KernelIdeal.main_v5 i)) (Cert.KernelIdeal.Hand.V1_recip m ρ c).symm

/-- The codes agree. -/
theorem codes_eq (h : Agree m m' c) : Cert.ReferenceIdeal.Hand.codes m' c = Cert.KernelIdeal.Hand.codesArr (V1 m ρ) c := by
  unfold Cert.ReferenceIdeal.Hand.codes
  rw [dy_eq m ρ m' c h, sdy_eq m m' c h, ← codesFn_eq]
  exact funext fun i => Cert.ReferenceIdeal.Hand.pay3_apply _ _ i

/-- The greatest magnitudes agree. -/
theorem amax_eq (h : Agree m m' c) : Cert.ReferenceIdeal.Hand.amax m' c = Cert.KernelIdeal.Hand.amax (V1 m ρ) c := by
  rw [Cert.ReferenceIdeal.Hand.amax_def, dy_eq m ρ m' c h]
  exact funext fun y => Cert.ReferenceIdeal.Hand.pay7_apply _ y

/-- The input gradients agree. -/
theorem dx_eq (h : Agree m m' c) : Cert.ReferenceIdeal.Hand.dx m' c = Cert.KernelIdeal.Hand.dgrad (V1 m ρ) c := by
  unfold Cert.ReferenceIdeal.Hand.dx Cert.KernelIdeal.Hand.dgrad
  rw [dy_eq m ρ m' c h, sdy_eq m m' c h, w_eq m ρ m' c h, sw_eq m m' c h, Cert.KernelIdeal.Hand.V1_product, ← codesFn_eq]
  funext i
  obtain ⟨a, b, rfl⟩ : ∃ (a : Fin 16384) (b : Fin 4096), i = ix2 a b := ⟨i 0, i 1, eq_ix2 i⟩
  exact Cert.ReferenceIdeal.Hand.pay5_apply _ _ _ _ a b

/-- The weight gradients agree. -/
theorem mainGrad_eq (h : Agree m m' c) : Cert.ReferenceIdeal.Hand.mainGrad m' c = Cert.KernelIdeal.Hand.wgrad (V3 m ρ) c := by
  unfold Cert.ReferenceIdeal.Hand.mainGrad Cert.KernelIdeal.Hand.wgrad
  rw [dy_eq m ρ m' c h, sdy_eq m m' c h, x_eq m ρ m' c h, mg_eq m ρ m' c h, sx_eq m m' c h, Cert.KernelIdeal.Hand.V3_product,
    Cert.KernelIdeal.Hand.V3_codes, ← codesFn_eq]
  funext i
  obtain ⟨a, b, rfl⟩ : ∃ (a : Fin 14336) (b : Fin 4096), i = ix2 a b := ⟨i 0, i 1, eq_ix2 i⟩
  exact Cert.ReferenceIdeal.Hand.pay6_apply _ _ _ _ _ a b

end Cert
end
-- ==== Proof.lean ====
module

public import proofs.«01_k».proof.Defs
public import proofs.«01_k».proof.Proof.Gen.Kernel
public import proofs.«01_k».proof.Proof.Gen.Kernel.Regions
public import proofs.«01_k».proof.Proof.Gen.KernelIdeal
public import proofs.«01_k».proof.Proof.Gen.KernelIdeal.Regions
public import proofs.«01_k».proof.Proof.Gen.ReferenceIdeal
public import proofs.«01_k».proof.Proof.Gen.ReferenceIdeal.Value
public import proofs.«01_k».proof.Proof.WholeRun
public import proofs.«01_k».proof.Proof.WholeRunIdeal
public import proofs.«01_k».proof.Proof.WholeEq

@[expose] public section

noncomputable section

namespace Cert.Proof

open Idealize.ShloMosaic Idealize.ShloMosaic.TcCoe Idealize.SL.Sem

/-- The ideal kernel and the ideal reference end with the same four result arrays, from any memories that agree on the arguments. -/
theorem algebraic : Cert.algebraic_KernelIdeal_ReferenceIdeal (hKernelIdeal := Cert.KernelIdeal.Gen.facts) (hReferenceIdeal := Cert.ReferenceIdeal.Gen.facts) :=
  fun m g m' g' _ hm => ⟨Cert.KernelIdeal.Hand.dgrad (Cert.KernelIdeal.Hand.V1 m g), Cert.KernelIdeal.Hand.wgrad (Cert.KernelIdeal.Hand.V3 m g),
    Cert.KernelIdeal.Hand.amax (Cert.KernelIdeal.Hand.V1 m g), Cert.KernelIdeal.Hand.codesArr (Cert.KernelIdeal.Hand.V1 m g),
    (θ_run _ _ _).mono (fun _ h c => ⟨(h.1 c _ (Cert.KernelIdeal.Hand.mem_uc Cert.KernelIdeal.main_v6_0 (by decide))).trans (Cert.KernelIdeal.Hand.W4_dx m g c),
      (h.1 c _ (Cert.KernelIdeal.Hand.mem_uc Cert.KernelIdeal.main_v10 (by decide))).trans (Cert.KernelIdeal.Hand.W4_mg m g c),
      (h.1 c _ (Cert.KernelIdeal.Hand.mem_uc Cert.KernelIdeal.main_v6_2 (by decide))).trans (Cert.KernelIdeal.Hand.W4_amax m g c),
      (h.1 c _ (Cert.KernelIdeal.Hand.mem_uc Cert.KernelIdeal.main_v6_1 (by decide))).trans (Cert.KernelIdeal.Hand.W4_codes m g c),
      (h.1 c _ (Cert.KernelIdeal.Hand.mem_uc Cert.KernelIdeal.main_arg0 (by decide))).trans (Cert.KernelIdeal.Hand.W4_main_arg0 m g c),
      (h.1 c _ (Cert.KernelIdeal.Hand.mem_uc Cert.KernelIdeal.main_arg1 (by decide))).trans (Cert.KernelIdeal.Hand.W4_main_arg1 m g c),
      (h.1 c _ (Cert.KernelIdeal.Hand.mem_uc Cert.KernelIdeal.main_arg2 (by decide))).trans (Cert.KernelIdeal.Hand.W4_main_arg2 m g c),
      (h.1 c _ (Cert.KernelIdeal.Hand.mem_uc Cert.KernelIdeal.main_arg3 (by decide))).trans (Cert.KernelIdeal.Hand.W4_main_arg3 m g c),
      (h.1 c _ (Cert.KernelIdeal.Hand.mem_uc Cert.KernelIdeal.main_arg4 (by decide))).trans (Cert.KernelIdeal.Hand.W4_main_arg4 m g c),
      (h.1 c _ (Cert.KernelIdeal.Hand.mem_uc Cert.KernelIdeal.main_arg5 (by decide))).trans (Cert.KernelIdeal.Hand.W4_main_arg5 m g c),
      (h.1 c _ (Cert.KernelIdeal.Hand.mem_uc Cert.KernelIdeal.main_arg6 (by decide))).trans (Cert.KernelIdeal.Hand.W4_main_arg6 m g c)⟩) (Cert.KernelIdeal.Hand.run m g),
    (θ_run _ _ _).mono (fun _ hr c => ⟨((hr c).1.trans (Cert.ReferenceIdeal.Hand.final7 m' c)).trans (Cert.dx_eq m g m' c (hm c)),
      ((hr c).2.1.trans (Cert.ReferenceIdeal.Hand.final8 m' c)).trans (Cert.mainGrad_eq m g m' c (hm c)),
      ((hr c).2.2.1.trans (Cert.ReferenceIdeal.Hand.final9 m' c)).trans (Cert.amax_eq m g m' c (hm c)),
      ((hr c).2.2.2.1.trans (Cert.ReferenceIdeal.Hand.final10 m' c)).trans (Cert.codes_eq m g m' c (hm c)), (hr c).2.2.2.2⟩)
      (Cert.ReferenceIdeal.Value.run_blocks m' g')⟩

/-- The whole claim. -/
theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Gen.frame m ρ, trivial, algebraic⟩

end Cert.Proof

end
